-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_gates [hPre_finite_gates : Cert.Pre_finite_gates.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_gates.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_gates [hPre_finite_gates : Cert.Pre_finite_gates.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_gates.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Kernel6Ideal_pre_finite_gates [hKernel6Ideal : Cert.Kernel6Ideal.Facts] [hPre_finite_gates : Cert.Pre_finite_gates.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_gates m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Reference6Ideal_pre_finite_gates [hReference6Ideal : Cert.Reference6Ideal.Facts] [hPre_finite_gates : Cert.Pre_finite_gates.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_gates m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v44) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)) (v2 : (c : Dev Cert.Kernel4Ideal.nD) → Buf (Elt Ideal) ((c.tc : Thread Cert.Kernel4Ideal.nD Cert.Kernel4Ideal.τ).loc Cert.Kernel4Ideal.main_v3_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_v3_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v195) = v0 c
          ∧ r.2.mem ((c.tc : Thread Cert.Reference4Ideal.nD Cert.Reference4Ideal.τ).loc Cert.Reference4Ideal.main_v197) = v1 c
          ∧ r.2.mem ((c.tc : Thread Cert.Reference4Ideal.nD Cert.Reference4Ideal.τ).loc Cert.Reference4Ideal.main_v198) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)) (v2 : (c : Dev Cert.Kernel5Ideal.nD) → Buf (Elt Ideal) ((c.tc : Thread Cert.Kernel5Ideal.nD Cert.Kernel5Ideal.τ).loc Cert.Kernel5Ideal.main_v4_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_v4_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v185) = v0 c
          ∧ r.2.mem ((c.tc : Thread Cert.Reference5Ideal.nD Cert.Reference5Ideal.τ).loc Cert.Reference5Ideal.main_v187) = v1 c
          ∧ r.2.mem ((c.tc : Thread Cert.Reference5Ideal.nD Cert.Reference5Ideal.τ).loc Cert.Reference5Ideal.main_v188) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13))

def preserves_Kernel6_Kernel6Ideal : Prop :=
  True

def algebraic_Kernel6Ideal_Reference6Ideal_pre_finite_gates [hKernel6Ideal : Cert.Kernel6Ideal.Facts] [hReference6Ideal : Cert.Reference6Ideal.Facts] [hPre_finite_gates : Cert.Pre_finite_gates.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_gates m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v151) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite_gates : Cert.Pre_finite_gates.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_gates (hKernel6Ideal := hKernel6Ideal) (hPre_finite_gates := hPre_finite_gates)
    ∧ quiescent_Reference6Ideal (hReference6Ideal := hReference6Ideal)
    ∧ quiescent_Reference6Ideal_pre_finite_gates (hReference6Ideal := hReference6Ideal) (hPre_finite_gates := hPre_finite_gates)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_gates (hKernel6Ideal := hKernel6Ideal) (hReference6Ideal := hReference6Ideal) (hPre_finite_gates := hPre_finite_gates)
-- ==== Pre_finite.lean ====
abbrev S16384x4096 : Shape := ⟨2, ![16384, 4096]⟩
abbrev S2x4 : Shape := ⟨2, ![2, 4]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S2x4 : S_.BroadcastsInDim S2x4 (![] : Fin 0 → Fin S2x4.rank)
  reducesTo_S2x4_S_d0_1 : S2x4.ReducesTo [0, 1] S_

variable [Facts]

def fn {F : FTy → Type} [FloatOps F] (main_arg0 : FVec F S16384x4096 .f32) (main_arg1 : FVec F S2x4 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S2x4 .f32 := Host.absf main_arg1
  let main_cst_0 : FVec F S_ .f32 := constant S_ .f32 0x7F800000#32
  let main_v5 : FVec F S2x4 .f32 := broadcastInDim S2x4 ![] bcast_S_S2x4 main_cst_0
  let main_v6 : IVec S2x4 1 := cmpf .olt main_v4 main_v5
  let main_c_1 : IVec S_ 1 := constantI S_ 1 1#1
  let main_v7 : IVec S_ 1 := (fun x v => Host.reduce IntOp.andi x v reducesTo_S2x4_S_d0_1 h_S_) main_v6 main_c_1
  let main_v8 : IVec S_ 1 := andi main_v3 main_v7
  main_v8
-- ==== Pre_finite_gates.lean ====
abbrev S16384x16 : Shape := ⟨2, ![16384, 16]⟩
abbrev S16x2048x1024 : Shape := ⟨3, ![16, 2048, 1024]⟩
abbrev S16384x1024 : Shape := ⟨2, ![16384, 1024]⟩
abbrev S3x6x1024 : Shape := ⟨3, ![3, 6, 1024]⟩
abbrev S1024 : Shape := ⟨1, ![1024]⟩
abbrev S_ : Shape := ⟨0, ![]⟩

class Facts : Prop where
  bcast_S_S16384x16 : S_.BroadcastsInDim S16384x16 (![] : Fin 0 → Fin S16384x16.rank)
  reducesTo_S16384x16_S_d0_1 : S16384x16.ReducesTo [0, 1] S_
  h_S_ : 0 < S_.numel

variable [Facts]

def fn {F : FTy → Type} [FloatOps F] (main_arg0 : IVec S16384x16 32) (main_arg1 : FVec F S16384x16 .f32) (main_arg2 : FVec F S16x2048x1024 .bf16) (main_arg3 : FVec F S16384x1024 .f32) (main_arg4 : FVec F S3x6x1024 .f32) (main_arg5 : FVec F S1024 .f32) (main_arg6 : FVec F S1024 .f32) : IVec S_ 1 :=
  let main_v0 : FVec F S16384x16 .f32 := Host.absf main_arg1
  let main_cst : FVec F S_ .f32 := constant S_ .f32 0x7F800000#32
  let main_v1 : FVec F S16384x16 .f32 := broadcastInDim S16384x16 ![] bcast_S_S16384x16 main_cst
  let main_v2 : IVec S16384x16 1 := cmpf .olt main_v0 main_v1
  let main_c : IVec S_ 1 := constantI S_ 1 1#1
  let main_v3 : IVec S_ 1 := (fun x v => Host.reduce IntOp.andi x v reducesTo_S16384x16_S_d0_1 h_S_) main_v2 main_c
  main_v3
-- ==== Kernel.lean ====
abbrev S16384x4096 : Shape := ⟨2, ![16384, 4096]⟩
abbrev S2x4 : Shape := ⟨2, ![2, 4]⟩
abbrev S_ : Shape := ⟨0, ![]⟩
abbrev S1x2x4x256x256 : Shape := ⟨5, ![1, 2, 4, 256, 256]⟩
abbrev S256x256 : Shape := ⟨2, ![256, 256]⟩
abbrev S2x8192x1024 : Shape := ⟨3, ![2, 8192, 1024]⟩
abbrev S32x2x4x256x256 : Shape := ⟨5, ![32, 2, 4, 256, 256]⟩
abbrev S256x1024 : Shape := ⟨2, ![256, 1024]⟩
abbrev S1x1x4x256x256 : Shape := ⟨5, ![1, 1, 4, 256, 256]⟩
abbrev S1x256x1024 : Shape := ⟨3, ![1, 256, 1024]⟩
abbrev S4x256x256 : Shape := ⟨3, ![4, 256, 256]⟩
abbrev S1x1 : Shape := ⟨2, ![1, 1]⟩
abbrev S1x256x256 : Shape := ⟨3, ![1, 256, 256]⟩

abbrev nBuf : Space → Nat
  | .hbm => 24
  | .vmem => 15
  | .smem => 1
  | _ => 0

abbrev bufTy : (tb : Table) → Fin (tcTables nBuf tb) → BufTy
  | .hbm, ⟨0, _⟩ => ⟨S16384x4096, .f32⟩
  | .hbm, ⟨1, _⟩ => ⟨S2x4, .f32⟩
  | .hbm, ⟨2, _⟩ => ⟨S_, .f32⟩
  | .hbm, ⟨3, _⟩ => ⟨S1x2x4x256x256, .f32⟩
  | .hbm, ⟨4, _⟩ => ⟨S2x4, .f32⟩
  | .hbm, ⟨5, _⟩ => ⟨S_, .f32⟩
  | .hbm, ⟨6, _⟩ => ⟨S2x4, .f32⟩
  | .hbm, ⟨7, _⟩ => ⟨S2x4, .f32⟩
  | .hbm, ⟨8, _⟩ => ⟨S2x4, .f32⟩
  | .hbm, ⟨9, _⟩ => ⟨S2x4, .f32⟩
  | .hbm, ⟨10, _⟩ => ⟨S2x4, .i1⟩
  | .hbm, ⟨11, _⟩ => ⟨S2x4, .f32⟩
  | .hbm, ⟨12, _⟩ => ⟨S2x4, .f32⟩
  | .hbm, ⟨13, _⟩ => ⟨S2x4, .f32⟩
  | .hbm, ⟨14, _⟩ => ⟨S2x4, .f32⟩
  | .hbm, ⟨15, _⟩ => ⟨S2x4, .f32⟩
  | .hbm, ⟨16, _⟩ => ⟨S2x4, .f32⟩
  | .hbm, ⟨17, _⟩ => ⟨S2x4, .f32⟩
  | .hbm, ⟨18, _⟩ => ⟨S2x4, .f32⟩
  | .hbm, ⟨19, _⟩ => ⟨S2x4, .f32⟩
  | .hbm, ⟨20, _⟩ => ⟨S_, .f32⟩
  | .hbm, ⟨21, _⟩ => ⟨S256x256, .f32⟩
  | .hbm, ⟨22, _⟩ => ⟨S2x8192x1024, .f32⟩
  | .hbm, ⟨23, _⟩ => ⟨S32x2x4x256x256, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x256, .f32⟩
  | .local _ .vmem, ⟨7, _⟩ => ⟨S256x256, .f32⟩
  | .local _ .vmem, ⟨8, _⟩ => ⟨S1x1x4x256x256, .f32⟩
  | .local _ .vmem, ⟨9, _⟩ => ⟨S1x1x4x256x256, .f32⟩
  | .local _ .vmem, ⟨10, _⟩ => ⟨S1x256x1024, .f32⟩
  | .local _ .vmem, ⟨11, _⟩ => ⟨S1x256x1024, .f32⟩
  | .local _ .vmem, ⟨12, _⟩ => ⟨S1x1x4x256x256, .f32⟩
  | .local _ .vmem, ⟨13, _⟩ => ⟨S1x1x4x256x256, .f32⟩
  | .local _ .vmem, ⟨14, _⟩ => ⟨S4x256x256, .f32⟩
  | .local _ .smem, ⟨0, _⟩ => ⟨S2x4, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_v0 : Ref sig .tc := ⟨.hbm, 4, rfl⟩
abbrev main_call0_call0_cst : Ref sig .tc := ⟨.hbm, 5, rfl⟩
abbrev main_call0_call0_v0 : Ref sig .tc := ⟨.hbm, 6, rfl⟩
abbrev main_call0_call0_v1 : Ref sig .tc := ⟨.hbm, 7, rfl⟩
abbrev main_call0_call0_v2 : Ref sig .tc := ⟨.hbm, 8, rfl⟩
abbrev main_call0_call0_v3 : Ref sig .tc := ⟨.hbm, 9, rfl⟩
abbrev main_call0_call0_v4 : Ref sig .tc := ⟨.hbm, 10, rfl⟩
abbrev main_call0_call0_v5 : Ref sig .tc := ⟨.hbm, 11, rfl⟩
abbrev main_call0_call0_v6 : Ref sig .tc := ⟨.hbm, 12, rfl⟩
abbrev main_call0_call0_v7 : Ref sig .tc := ⟨.hbm, 13, rfl⟩
abbrev main_call0_call0_v8 : Ref sig .tc := ⟨.hbm, 14, rfl⟩
abbrev main_call0_call0_v9 : Ref sig .tc := ⟨.hbm, 15, rfl⟩
abbrev main_call0_call0_v10 : Ref sig .tc := ⟨.hbm, 16, rfl⟩
abbrev main_call0_call0_v11 : Ref sig .tc := ⟨.hbm, 17, rfl⟩
abbrev main_call0_v1 : Ref sig .tc := ⟨.hbm, 18, rfl⟩
abbrev main_v1 : Ref sig .tc := ⟨.hbm, 19, rfl⟩
abbrev main_cst_0 : Ref sig .tc := ⟨.hbm, 20, rfl⟩
abbrev main_v2 : Ref sig .tc := ⟨.hbm, 21, rfl⟩
abbrev main_v3_0 : Ref sig .tc := ⟨.hbm, 22, rfl⟩
abbrev main_v3_1 : Ref sig .tc := ⟨.hbm, 23, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨3, ![32, 2, 1], ![false, false, false]⟩

def k0_off1 (i : grid0.Coords) : Fin 2 → Nat :=
  let arg1 : BitVec 32 := BitVec.ofNat 32 (i 1).val
  let v23 : Index := Scalar.indexCast arg1
  let c0 : Index := 0#32
  ![v23.toNat, 0]
def k0_off2 (i : grid0.Coords) : Fin 2 → Nat :=
  let arg1 : BitVec 32 := BitVec.ofNat 32 (i 1).val
  let v73 : Index := Scalar.indexCast arg1
  let c1 : Index := 1#32
  ![v73.toNat, 1]
def k0_off3 (i : grid0.Coords) : Fin 2 → Nat :=
  let arg1 : BitVec 32 := BitVec.ofNat 32 (i 1).val
  let v123 : Index := Scalar.indexCast arg1
  let c2 : Index := 2#32
  ![v123.toNat, 2]
def k0_off4 (i : grid0.Coords) : Fin 2 → Nat :=
  let arg1 : BitVec 32 := BitVec.ofNat 32 (i 1).val
  let v173 : Index := Scalar.indexCast arg1
  let c3 : Index := 3#32
  ![v173.toNat, 3]
def k0_cond2 (i : grid0.Coords) : BitVec 1 :=
  let arg2 : BitVec 32 := BitVec.ofNat 32 (i 2).val
  let c0_i32_96 : BitVec 32 := 0#32
  let v223 : BitVec 1 := Scalar.cmpi .eq arg2 c0_i32_96
  let v224 : BitVec 32 := Scalar.extui v223
  let c0_i32_97 : BitVec 32 := 0#32
  let v225 : BitVec 1 := Scalar.cmpi .ne v224 c0_i32_97
  v225

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c0_i32 : BitVec 32 := 0#32
  let v1 : BitVec 32 := Scalar.addi c0_i32 v0
  let c2_i32 : BitVec 32 := 2#32
  let v2 : BitVec 32 := Scalar.muli c2_i32 arg2
  let c0_i32_0 : BitVec 32 := 0#32
  let v3 : BitVec 32 := Scalar.subi c0_i32_0 v2
  let v4 : BitVec 32 := Scalar.muli arg1 v3
  let v5 : BitVec 32 := Scalar.addi arg2 v4
  let v6 : BitVec 32 := Scalar.addi v1 v5
  let c0_i32_1 : BitVec 32 := 0#32
  let c0_i32_2 : BitVec 32 := 0#32
  ![v6.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c0_i32 : BitVec 32 := 0#32
  let v1 : BitVec 32 := Scalar.addi c0_i32 v0
  let c2_i32 : BitVec 32 := 2#32
  let v2 : BitVec 32 := Scalar.muli c2_i32 arg2
  let c0_i32_0 : BitVec 32 := 0#32
  let v3 : BitVec 32 := Scalar.subi c0_i32_0 v2
  let v4 : BitVec 32 := Scalar.muli arg1 v3
  let v5 : BitVec 32 := Scalar.addi arg2 v4
  let v6 : BitVec 32 := Scalar.addi v1 v5
  let c1_i32_1 : BitVec 32 := 1#32
  let c0_i32_2 : BitVec 32 := 0#32
  ![v6.toNat, c1_i32_1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c0_i32 : BitVec 32 := 0#32
  let v1 : BitVec 32 := Scalar.addi c0_i32 v0
  let c2_i32 : BitVec 32 := 2#32
  let v2 : BitVec 32 := Scalar.muli c2_i32 arg2
  let c0_i32_0 : BitVec 32 := 0#32
  let v3 : BitVec 32 := Scalar.subi c0_i32_0 v2
  let v4 : BitVec 32 := Scalar.muli arg1 v3
  let v5 : BitVec 32 := Scalar.addi arg2 v4
  let v6 : BitVec 32 := Scalar.addi v1 v5
  let c2_i32_1 : BitVec 32 := 2#32
  let c0_i32_2 : BitVec 32 := 0#32
  ![v6.toNat, c2_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg1.toNat, c0_i32_0.toNat, c0_i32_1.toNat, c0_i32_2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c2_i32 : BitVec 32 := 2#32
  let v1 : BitVec 32 := Scalar.muli c2_i32 arg2
  let c0_i32 : BitVec 32 := 0#32
  let v2 : BitVec 32 := Scalar.subi c0_i32 v1
  let v3 : BitVec 32 := Scalar.muli arg1 v2
  let v4 : BitVec 32 := Scalar.addi arg2 v3
  let v5 : BitVec 32 := Scalar.addi v0 v4
  let c0_i32_0 : BitVec 32 := 0#32
  let c0_i32_1 : BitVec 32 := 0#32
  ![arg1.toNat, v5.toNat, c0_i32_0.toNat]

def cc0_transform_8 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 1 → Memref sig .tc .smem S2x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x1x4x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x4x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== ReferenceIdeal.lean ====
abbrev S16384x4096 : Shape := ⟨2, ![16384, 4096]⟩
abbrev S2x4 : Shape := ⟨2, ![2, 4]⟩
abbrev S8192x4096 : Shape := ⟨2, ![8192, 4096]⟩
abbrev S32x256x4096 : Shape := ⟨3, ![32, 256, 4096]⟩
abbrev S32x256x1024 : Shape := ⟨3, ![32, 256, 1024]⟩
abbrev S32x256x4x256 : Shape := ⟨4, ![32, 256, 4, 256]⟩
abbrev S_ : Shape := ⟨0, ![]⟩
abbrev S32x2x4x256x256 : Shape := ⟨5, ![32, 2, 4, 256, 256]⟩
abbrev S1x4 : Shape := ⟨2, ![1, 4]⟩
abbrev S4 : Shape := ⟨1, ![4]⟩
abbrev S1x1x4x1 : Shape := ⟨4, ![1, 1, 4, 1]⟩
abbrev S32x256x4x1 : Shape := ⟨4, ![32, 256, 4, 1]⟩
abbrev S64x256x4x256 : Shape := ⟨4, ![64, 256, 4, 256]⟩
abbrev S64x256x4x1 : Shape := ⟨4, ![64, 256, 4, 1]⟩
abbrev S32x1x4x256x256 : Shape := ⟨5, ![32, 1, 4, 256, 256]⟩
abbrev S32x4x256x256 : Shape := ⟨4, ![32, 4, 256, 256]⟩
abbrev S64x4x256x256 : Shape := ⟨4, ![64, 4, 256, 256]⟩
abbrev S64x4x64x4x256 : Shape := ⟨5, ![64, 4, 64, 4, 256]⟩
abbrev S4x64x4x64x256 : Shape := ⟨5, ![4, 64, 4, 64, 256]⟩
abbrev S64x4x64x4x1 : Shape := ⟨5, ![64, 4, 64, 4, 1]⟩
abbrev S4x64x4x64x1 : Shape := ⟨5, ![4, 64, 4, 64, 1]⟩
abbrev S64x64 : Shape := ⟨2, ![64, 64]⟩
abbrev S64x64x1 : Shape := ⟨3, ![64, 64, 1]⟩
abbrev S1x64x4x64x256 : Shape := ⟨5, ![1, 64, 4, 64, 256]⟩
abbrev S64x4x64x256 : Shape := ⟨4, ![64, 4, 64, 256]⟩
abbrev S1x64x4x64x1 : Shape := ⟨5, ![1, 64, 4, 64, 1]⟩
abbrev S64x4x64x1 : Shape := ⟨4, ![64, 4, 64, 1]⟩
abbrev S64x4x64x1x1 : Shape := ⟨5, ![64, 4, 64, 1, 1]⟩
abbrev S64x4x1x64x1 : Shape := ⟨5, ![64, 4, 1, 64, 1]⟩
abbrev S64x4x64x64x1 : Shape := ⟨5, ![64, 4, 64, 64, 1]⟩
abbrev S64x4x64x64 : Shape := ⟨4, ![64, 4, 64, 64]⟩
abbrev S64x4x1x1 : Shape := ⟨4, ![64, 4, 1, 1]⟩
abbrev S1x32x256x4x256 : Shape := ⟨5, ![1, 32, 256, 4, 256]⟩
abbrev S2x32x256x4x256 : Shape := ⟨5, ![2, 32, 256, 4, 256]⟩
abbrev S2x8192x1024 : Shape := ⟨3, ![2, 8192, 1024]⟩

abbrev nBuf : Space → Nat
  | .hbm => 170
  | .vmem => 0
  | .smem => 0
  | _ => 0

abbrev hbmTy0_0 (i : Nat) : BufTy := match i % 128 with
  | 0 => ⟨S16384x4096, .f32⟩
  | 1 => ⟨S2x4, .f32⟩
  | 2 => ⟨S8192x4096, .f32⟩
  | 3 => ⟨S32x256x4096, .f32⟩
  | 4 => ⟨S32x256x1024, .f32⟩
  | 5 => ⟨S32x256x1024, .f32⟩
  | 6 => ⟨S32x256x1024, .f32⟩
  | 7 => ⟨S32x256x1024, .f32⟩
  | 8 => ⟨S32x256x4x256, .f32⟩
  | 9 => ⟨S32x256x4x256, .f32⟩
  | 10 => ⟨S_, .f32⟩
  | 11 => ⟨S32x256x4x256, .f32⟩
  | 12 => ⟨S32x256x4x256, .f32⟩
  | 13 => ⟨S32x256x4x256, .f32⟩
  | 14 => ⟨S2x4, .f32⟩
  | 15 => ⟨S_, .f32⟩
  | 16 => ⟨S2x4, .f32⟩
  | 17 => ⟨S2x4, .f32⟩
  | 18 => ⟨S2x4, .f32⟩
  | 19 => ⟨S2x4, .f32⟩
  | 20 => ⟨S2x4, .i1⟩
  | 21 => ⟨S2x4, .f32⟩
  | 22 => ⟨S2x4, .f32⟩
  | 23 => ⟨S2x4, .f32⟩
  | 24 => ⟨S2x4, .f32⟩
  | 25 => ⟨S2x4, .f32⟩
  | 26 => ⟨S2x4, .f32⟩
  | 27 => ⟨S2x4, .f32⟩
  | 28 => ⟨S2x4, .f32⟩
  | 29 => ⟨S2x4, .f32⟩
  | 30 => ⟨S_, .f32⟩
  | 31 => ⟨S32x2x4x256x256, .f32⟩
  | 32 => ⟨S1x4, .f32⟩
  | 33 => ⟨S4, .f32⟩
  | 34 => ⟨S1x1x4x1, .f32⟩
  | 35 => ⟨S32x256x4x1, .f32⟩
  | 36 => ⟨S1x4, .f32⟩
  | 37 => ⟨S4, .f32⟩
  | 38 => ⟨S1x1x4x1, .f32⟩
  | 39 => ⟨S32x256x4x1, .f32⟩
  | 40 => ⟨S32x256x4x256, .f32⟩
  | 41 => ⟨S64x256x4x256, .f32⟩
  | 42 => ⟨S32x256x4x256, .f32⟩
  | 43 => ⟨S64x256x4x256, .f32⟩
  | 44 => ⟨S32x256x4x256, .f32⟩
  | 45 => ⟨S64x256x4x256, .f32⟩
  | 46 => ⟨S32x256x4x1, .f32⟩
  | 47 => ⟨S64x256x4x1, .f32⟩
  | 48 => ⟨S32x1x4x256x256, .f32⟩
  | 49 => ⟨S32x4x256x256, .f32⟩
  | 50 => ⟨S32x1x4x256x256, .f32⟩
  | 51 => ⟨S32x4x256x256, .f32⟩
  | 52 => ⟨S64x4x256x256, .f32⟩
  | 53 => ⟨S64x4x64x4x256, .f32⟩
  | 54 => ⟨S4x64x4x64x256, .f32⟩
  | 55 => ⟨S64x4x64x4x256, .f32⟩
  | 56 => ⟨S4x64x4x64x256, .f32⟩
  | 57 => ⟨S64x4x64x4x256, .f32⟩
  | 58 => ⟨S4x64x4x64x256, .f32⟩
  | 59 => ⟨S64x4x64x4x1, .f32⟩
  | 60 => ⟨S4x64x4x64x1, .f32⟩
  | 61 => ⟨S_, .i1⟩
  | 62 => ⟨S64x64, .i1⟩
  | 63 => ⟨S64x64, .i32⟩
  | 64 => ⟨S_, .i32⟩
  | 65 => ⟨S64x64, .i32⟩
  | 66 => ⟨S64x64, .i32⟩
  | 67 => ⟨S64x64, .i32⟩
  | 68 => ⟨S64x64, .i1⟩
  | 69 => ⟨S_, .i1⟩
  | 70 => ⟨S64x64, .i1⟩
  | 71 => ⟨S64x64, .i1⟩
  | 72 => ⟨S64x64x1, .i1⟩
  | 73 => ⟨S_, .f32⟩
  | 74 => ⟨S4x64x4x64x256, .f32⟩
  | 75 => ⟨S_, .i32⟩
  | 76 => ⟨S4x64x4x64x256, .f32⟩
  | 77 => ⟨S4x64x4x64x256, .f32⟩
  | 78 => ⟨S4x64x4x64x256, .f32⟩
  | 79 => ⟨S4x64x4x64x1, .f32⟩
  | 80 => ⟨S64x64x1, .i1⟩
  | 81 => ⟨S_, .i32⟩
  | 82 => ⟨S64x4x256x256, .f32⟩
  | 83 => ⟨S4x64x4x64x256, .f32⟩
  | 84 => ⟨S_, .i32⟩
  | 85 => ⟨S_, .i1⟩
  | 86 => ⟨S_, .i32⟩
  | 87 => ⟨S_, .i32⟩
  | 88 => ⟨S_, .i32⟩
  | 89 => ⟨S_, .i32⟩
  | 90 => ⟨S1x64x4x64x256, .f32⟩
  | 91 => ⟨S64x4x64x256, .f32⟩
  | 92 => ⟨S_, .i32⟩
  | 93 => ⟨S_, .i32⟩
  | 94 => ⟨S_, .i32⟩
  | 95 => ⟨S_, .i32⟩
  | 96 => ⟨S1x64x4x64x256, .f32⟩
  | 97 => ⟨S64x4x64x256, .f32⟩
  | 98 => ⟨S_, .i32⟩
  | 99 => ⟨S_, .i32⟩
  | 100 => ⟨S_, .i32⟩
  | 101 => ⟨S_, .i32⟩
  | 102 => ⟨S1x64x4x64x256, .f32⟩
  | 103 => ⟨S64x4x64x256, .f32⟩
  | 104 => ⟨S_, .i32⟩
  | 105 => ⟨S_, .i32⟩
  | 106 => ⟨S_, .i32⟩
  | 107 => ⟨S_, .i32⟩
  | 108 => ⟨S1x64x4x64x1, .f32⟩
  | 109 => ⟨S64x4x64x1, .f32⟩
  | 110 => ⟨S_, .f32⟩
  | 111 => ⟨S_, .f32⟩
  | 112 => ⟨S64x4x64x1, .f32⟩
  | 113 => ⟨S64x4x64x1, .f32⟩
  | 114 => ⟨S64x4x64x256, .f32⟩
  | 115 => ⟨S64x4x64x256, .f32⟩
  | 116 => ⟨S64x4x64x256, .f32⟩
  | 117 => ⟨S64x4x64x1x1, .f32⟩
  | 118 => ⟨S64x4x1x64x1, .f32⟩
  | 119 => ⟨S64x4x64x64x1, .f32⟩
  | 120 => ⟨S64x4x64x64x1, .f32⟩
  | 121 => ⟨S64x4x64x64x1, .f32⟩
  | 122 => ⟨S_, .f32⟩
  | 123 => ⟨S64x4x64x64x1, .f32⟩
  | 124 => ⟨S64x4x64x64x1, .f32⟩
  | 125 => ⟨S64x4x64x64x1, .f32⟩
  | 126 => ⟨S_, .f32⟩
  | 127 => ⟨S_, .f32⟩
  | _ => ⟨S16384x4096, .f32⟩

abbrev hbmTy0_1 (i : Nat) : BufTy := match i % 128 with
  | 0 => ⟨S64x4x64x64x1, .i1⟩
  | 1 => ⟨S64x4x64x64x1, .f32⟩
  | 2 => ⟨S64x4x64x64x1, .f32⟩
  | 3 => ⟨S64x4x64x64, .f32⟩
  | 4 => ⟨S64x4x64x64, .f32⟩
  | 5 => ⟨S64x4x64x64, .f32⟩
  | 6 => ⟨S64x4x64x256, .f32⟩
  | 7 => ⟨S64x4x1x1, .f32⟩
  | 8 => ⟨S64x4x1x1, .f32⟩
  | 9 => ⟨S64x4x1x1, .f32⟩
  | 10 => ⟨S64x4x256x256, .f32⟩
  | 11 => ⟨S64x4x256x256, .f32⟩
  | 12 => ⟨S64x4x64x1, .f32⟩
  | 13 => ⟨S64x4x64x1, .f32⟩
  | 14 => ⟨S64x4x64x1, .f32⟩
  | 15 => ⟨S64x4x64x256, .f32⟩
  | 16 => ⟨S64x4x64x256, .f32⟩
  | 17 => ⟨S64x4x256x256, .f32⟩
  | 18 => ⟨S64x4x256x256, .f32⟩
  | 19 => ⟨S64x4x64x256, .f32⟩
  | 20 => ⟨S1x64x4x64x256, .f32⟩
  | 21 => ⟨S_, .i32⟩
  | 22 => ⟨S_, .i32⟩
  | 23 => ⟨S_, .i32⟩
  | 24 => ⟨S_, .i32⟩
  | 25 => ⟨S4x64x4x64x256, .f32⟩
  | 26 => ⟨S_, .i32⟩
  | 27 => ⟨S_, .i32⟩
  | 28 => ⟨S64x4x64x4x256, .f32⟩
  | 29 => ⟨S64x256x4x256, .f32⟩
  | 30 => ⟨S32x256x4x256, .f32⟩
  | 31 => ⟨S32x256x4x256, .f32⟩
  | 32 => ⟨S32x256x4x256, .f32⟩
  | 33 => ⟨S32x4x256x256, .f32⟩
  | 34 => ⟨S32x4x256x256, .f32⟩
  | 35 => ⟨S32x1x4x256x256, .f32⟩
  | 36 => ⟨S32x1x4x256x256, .f32⟩
  | 37 => ⟨S32x2x4x256x256, .f32⟩
  | 38 => ⟨S1x32x256x4x256, .f32⟩
  | 39 => ⟨S1x32x256x4x256, .f32⟩
  | 40 => ⟨S2x32x256x4x256, .f32⟩
  | 41 => ⟨S2x8192x1024, .f32⟩
  | _ => ⟨S16384x4096, .f32⟩

abbrev hbmTy (i : Nat) : BufTy := match i / 128 with
  | 0 => hbmTy0_0 i
  | 1 => hbmTy0_1 i
  | _ => ⟨S16384x4096, .f32⟩

abbrev bufTy : (tb : Table) → Fin (tcTables nBuf tb) → BufTy
  | .hbm, ⟨i, _⟩ => hbmTy i
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_v12 : Ref sig .tc := ⟨.hbm, 28, rfl⟩
abbrev main_v13 : Ref sig .tc := ⟨.hbm, 29, rfl⟩
abbrev main_cst_0 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c : Ref sig .tc := ⟨.hbm, 61, rfl⟩
abbrev main_v44 : Ref sig .tc := ⟨.hbm, 62, rfl⟩
abbrev main_call5_v0 : Ref sig .tc := ⟨.hbm, 63, rfl⟩
abbrev main_call5_c : Ref sig .tc := ⟨.hbm, 64, rfl⟩
abbrev main_call5_v1 : Ref sig .tc := ⟨.hbm, 65, rfl⟩
abbrev main_call5_v2 : Ref sig .tc := ⟨.hbm, 66, rfl⟩
abbrev main_call5_v3 : Ref sig .tc := ⟨.hbm, 67, rfl⟩
abbrev main_call5_v4 : Ref sig .tc := ⟨.hbm, 68, rfl⟩
abbrev main_call5_c_0 : Ref sig .tc := ⟨.hbm, 69, rfl⟩
abbrev main_call5_v5 : Ref sig .tc := ⟨.hbm, 70, rfl⟩
abbrev main_v45 : Ref sig .tc := ⟨.hbm, 71, rfl⟩
abbrev main_v46 : Ref sig .tc := ⟨.hbm, 72, rfl⟩
abbrev main_cst_1 : Ref sig .tc := ⟨.hbm, 73, rfl⟩
abbrev main_v47 : Ref sig .tc := ⟨.hbm, 74, rfl⟩
abbrev main_c_2 : Ref sig .tc := ⟨.hbm, 75, rfl⟩
abbrev main_v48_0 : Ref sig .tc := ⟨.hbm, 76, rfl⟩
abbrev main_v48_1 : Ref sig .tc := ⟨.hbm, 77, rfl⟩
abbrev main_v48_2 : Ref sig .tc := ⟨.hbm, 78, rfl⟩
abbrev main_v48_3 : Ref sig .tc := ⟨.hbm, 79, rfl⟩
abbrev main_v48_4 : Ref sig .tc := ⟨.hbm, 80, rfl⟩
abbrev main_v48_5 : Ref sig .tc := ⟨.hbm, 81, rfl⟩
abbrev main_v48_6 : Ref sig .tc := ⟨.hbm, 82, rfl⟩
abbrev main_v48_7 : Ref sig .tc := ⟨.hbm, 83, rfl⟩
abbrev main_while0c_c_10 : Ref sig .tc := ⟨.hbm, 84, rfl⟩
abbrev main_while0c_v63 : Ref sig .tc := ⟨.hbm, 85, rfl⟩
abbrev main_while0b_call6_c : Ref sig .tc := ⟨.hbm, 86, rfl⟩
abbrev main_while0b_call6_c_0 : Ref sig .tc := ⟨.hbm, 87, rfl⟩
abbrev main_while0b_call6_c_1 : Ref sig .tc := ⟨.hbm, 88, rfl⟩
abbrev main_while0b_call6_c_2 : Ref sig .tc := ⟨.hbm, 89, rfl⟩
abbrev main_while0b_call6_v0 : Ref sig .tc := ⟨.hbm, 90, rfl⟩
abbrev main_while0b_v63 : Ref sig .tc := ⟨.hbm, 91, rfl⟩
abbrev main_while0b_call7_c : Ref sig .tc := ⟨.hbm, 92, rfl⟩
abbrev main_while0b_call7_c_0 : Ref sig .tc := ⟨.hbm, 93, rfl⟩
abbrev main_while0b_call7_c_1 : Ref sig .tc := ⟨.hbm, 94, rfl⟩
abbrev main_while0b_call7_c_2 : Ref sig .tc := ⟨.hbm, 95, rfl⟩
abbrev main_while0b_call7_v0 : Ref sig .tc := ⟨.hbm, 96, rfl⟩
abbrev main_while0b_v64 : Ref sig .tc := ⟨.hbm, 97, rfl⟩
abbrev main_while0b_call8_c : Ref sig .tc := ⟨.hbm, 98, rfl⟩
abbrev main_while0b_call8_c_0 : Ref sig .tc := ⟨.hbm, 99, rfl⟩
abbrev main_while0b_call8_c_1 : Ref sig .tc := ⟨.hbm, 100, rfl⟩
abbrev main_while0b_call8_c_2 : Ref sig .tc := ⟨.hbm, 101, rfl⟩
abbrev main_while0b_call8_v0 : Ref sig .tc := ⟨.hbm, 102, rfl⟩
abbrev main_while0b_v65 : Ref sig .tc := ⟨.hbm, 103, rfl⟩
abbrev main_while0b_call9_c : Ref sig .tc := ⟨.hbm, 104, rfl⟩
abbrev main_while0b_call9_c_0 : Ref sig .tc := ⟨.hbm, 105, rfl⟩
abbrev main_while0b_call9_c_1 : Ref sig .tc := ⟨.hbm, 106, rfl⟩
abbrev main_while0b_call9_c_2 : Ref sig .tc := ⟨.hbm, 107, rfl⟩
abbrev main_while0b_call9_v0 : Ref sig .tc := ⟨.hbm, 108, rfl⟩
abbrev main_while0b_v66 : Ref sig .tc := ⟨.hbm, 109, rfl⟩
abbrev main_while0b_call10_call0_cst : Ref sig .tc := ⟨.hbm, 110, rfl⟩
abbrev main_while0b_call10_call0_v0 : Ref sig .tc := ⟨.hbm, 111, rfl⟩
abbrev main_while0b_v67 : Ref sig .tc := ⟨.hbm, 112, rfl⟩
abbrev main_while0b_v68 : Ref sig .tc := ⟨.hbm, 113, rfl⟩
abbrev main_while0b_v69 : Ref sig .tc := ⟨.hbm, 114, rfl⟩
abbrev main_while0b_v70 : Ref sig .tc := ⟨.hbm, 115, rfl⟩
abbrev main_while0b_v71 : Ref sig .tc := ⟨.hbm, 116, rfl⟩
abbrev main_while0b_v72 : Ref sig .tc := ⟨.hbm, 117, rfl⟩
abbrev main_while0b_v73 : Ref sig .tc := ⟨.hbm, 118, rfl⟩
abbrev main_while0b_v74 : Ref sig .tc := ⟨.hbm, 119, rfl⟩
abbrev main_while0b_v75 : Ref sig .tc := ⟨.hbm, 120, rfl⟩
abbrev main_while0b_v76 : Ref sig .tc := ⟨.hbm, 121, rfl⟩
abbrev main_while0b_cst_10 : Ref sig .tc := ⟨.hbm, 122, rfl⟩
abbrev main_while0b_v77 : Ref sig .tc := ⟨.hbm, 123, rfl⟩
abbrev main_while0b_v78 : Ref sig .tc := ⟨.hbm, 124, rfl⟩
abbrev main_while0b_v79 : Ref sig .tc := ⟨.hbm, 125, rfl⟩
abbrev main_while0b_cst_11 : Ref sig .tc := ⟨.hbm, 126, rfl⟩
abbrev main_while0b_call11_v0 : Ref sig .tc := ⟨.hbm, 127, rfl⟩
abbrev main_while0b_call11_v1 : Ref sig .tc := ⟨.hbm, 128, rfl⟩
abbrev main_while0b_call11_v2 : Ref sig .tc := ⟨.hbm, 129, rfl⟩
abbrev main_while0b_v80 : Ref sig .tc := ⟨.hbm, 130, rfl⟩
abbrev main_while0b_v81 : Ref sig .tc := ⟨.hbm, 131, rfl⟩
abbrev main_while0b_v82 : Ref sig .tc := ⟨.hbm, 132, rfl⟩
abbrev main_while0b_v83 : Ref sig .tc := ⟨.hbm, 133, rfl⟩
abbrev main_while0b_v84 : Ref sig .tc := ⟨.hbm, 134, rfl⟩
abbrev main_while0b_v85 : Ref sig .tc := ⟨.hbm, 135, rfl⟩
abbrev main_while0b_v86 : Ref sig .tc := ⟨.hbm, 136, rfl⟩
abbrev main_while0b_v87 : Ref sig .tc := ⟨.hbm, 137, rfl⟩
abbrev main_while0b_v88 : Ref sig .tc := ⟨.hbm, 138, rfl⟩
abbrev main_while0b_v89 : Ref sig .tc := ⟨.hbm, 139, rfl⟩
abbrev main_while0b_v90 : Ref sig .tc := ⟨.hbm, 140, rfl⟩
abbrev main_while0b_v91 : Ref sig .tc := ⟨.hbm, 141, rfl⟩
abbrev main_while0b_v92 : Ref sig .tc := ⟨.hbm, 142, rfl⟩
abbrev main_while0b_v93 : Ref sig .tc := ⟨.hbm, 143, rfl⟩
abbrev main_while0b_v94 : Ref sig .tc := ⟨.hbm, 144, rfl⟩
abbrev main_while0b_v95 : Ref sig .tc := ⟨.hbm, 145, rfl⟩
abbrev main_while0b_v96 : Ref sig .tc := ⟨.hbm, 146, rfl⟩
abbrev main_while0b_v97 : Ref sig .tc := ⟨.hbm, 147, rfl⟩
abbrev main_while0b_call12_v0 : Ref sig .tc := ⟨.hbm, 148, rfl⟩
abbrev main_while0b_call12_c : Ref sig .tc := ⟨.hbm, 149, rfl⟩
abbrev main_while0b_call12_c_0 : Ref sig .tc := ⟨.hbm, 150, rfl⟩
abbrev main_while0b_call12_c_1 : Ref sig .tc := ⟨.hbm, 151, rfl⟩
abbrev main_while0b_call12_c_2 : Ref sig .tc := ⟨.hbm, 152, rfl⟩
abbrev main_while0b_v98 : Ref sig .tc := ⟨.hbm, 153, rfl⟩
abbrev main_while0b_c_12 : Ref sig .tc := ⟨.hbm, 154, rfl⟩
abbrev main_while0b_v99 : Ref sig .tc := ⟨.hbm, 155, rfl⟩
abbrev main_v49 : Ref sig .tc := ⟨.hbm, 156, rfl⟩
abbrev main_v50 : Ref sig .tc := ⟨.hbm, 157, rfl⟩
abbrev main_v51 : Ref sig .tc := ⟨.hbm, 158, rfl⟩
abbrev main_v52 : Ref sig .tc := ⟨.hbm, 159, rfl⟩
abbrev main_v53 : Ref sig .tc := ⟨.hbm, 160, rfl⟩
abbrev main_v54 : Ref sig .tc := ⟨.hbm, 161, rfl⟩
abbrev main_v55 : Ref sig .tc := ⟨.hbm, 162, rfl⟩
abbrev main_v56 : Ref sig .tc := ⟨.hbm, 163, rfl⟩
abbrev main_v57 : Ref sig .tc := ⟨.hbm, 164, rfl⟩
abbrev main_v58 : Ref sig .tc := ⟨.hbm, 165, rfl⟩
abbrev main_v59 : Ref sig .tc := ⟨.hbm, 166, rfl⟩
abbrev main_v60 : Ref sig .tc := ⟨.hbm, 167, rfl⟩
abbrev main_v61 : Ref sig .tc := ⟨.hbm, 168, rfl⟩
abbrev main_v62 : Ref sig .tc := ⟨.hbm, 169, rfl⟩

abbrev nD : Nat := 1
abbrev τ : Topo := Topo.v7x

variable {F : FTy → Type} [FloatOps F]

abbrev main_while0_count : Scf.Loop 32 := ⟨0#32, 4#32, 1#32⟩
-- ==== Kernel2.lean ====
abbrev S16x1024x1024 : Shape := ⟨3, ![16, 1024, 1024]⟩
abbrev S4x16x1024x1408 : Shape := ⟨4, ![4, 16, 1024, 1408]⟩
abbrev S4x16x1408x1024 : Shape := ⟨4, ![4, 16, 1408, 1024]⟩
abbrev S16x2048x1024 : Shape := ⟨3, ![16, 2048, 1024]⟩
abbrev S1x512x1024 : Shape := ⟨3, ![1, 512, 1024]⟩
abbrev S1x1x1024x1408 : Shape := ⟨4, ![1, 1, 1024, 1408]⟩
abbrev S1x1x1408x1024 : Shape := ⟨4, ![1, 1, 1408, 1024]⟩
abbrev S512x1024 : Shape := ⟨2, ![512, 1024]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 6
  | .vmem => 12
  | .smem => 0
  | _ => 0

abbrev bufTy : (tb : Table) → Fin (tcTables nBuf tb) → BufTy
  | .hbm, ⟨0, _⟩ => ⟨S16x1024x1024, .bf16⟩
  | .hbm, ⟨1, _⟩ => ⟨S16x1024x1024, .bf16⟩
  | .hbm, ⟨2, _⟩ => ⟨S4x16x1024x1408, .f32⟩
  | .hbm, ⟨3, _⟩ => ⟨S4x16x1024x1408, .f32⟩
  | .hbm, ⟨4, _⟩ => ⟨S4x16x1408x1024, .f32⟩
  | .hbm, ⟨5, _⟩ => ⟨S16x2048x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x1x1024x1408, .f32⟩
  | .local _ .vmem, ⟨5, _⟩ => ⟨S1x1x1024x1408, .f32⟩
  | .local _ .vmem, ⟨6, _⟩ => ⟨S1x1x1024x1408, .f32⟩
  | .local _ .vmem, ⟨7, _⟩ => ⟨S1x1x1024x1408, .f32⟩
  | .local _ .vmem, ⟨8, _⟩ => ⟨S1x1x1408x1024, .f32⟩
  | .local _ .vmem, ⟨9, _⟩ => ⟨S1x1x1408x1024, .f32⟩
  | .local _ .vmem, ⟨10, _⟩ => ⟨S1x512x1024, .bf16⟩
  | .local _ .vmem, ⟨11, _⟩ => ⟨S1x512x1024, .bf16⟩
  | _, _ => ⟨S16x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1408x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S16x1024x1024 : Shape := ⟨3, ![16, 1024, 1024]⟩
abbrev S4x16x1024x1408 : Shape := ⟨4, ![4, 16, 1024, 1408]⟩
abbrev S4x16x1408x1024 : Shape := ⟨4, ![4, 16, 1408, 1024]⟩
abbrev S16x2048x1024 : Shape := ⟨3, ![16, 2048, 1024]⟩
abbrev S1x16x1024x1408 : Shape := ⟨4, ![1, 16, 1024, 1408]⟩
abbrev S16x1024x1408 : Shape := ⟨3, ![16, 1024, 1408]⟩
abbrev S1x16x1408x1024 : Shape := ⟨4, ![1, 16, 1408, 1024]⟩
abbrev S16x1408x1024 : Shape := ⟨3, ![16, 1408, 1024]⟩
abbrev S16x2048x1408 : Shape := ⟨3, ![16, 2048, 1408]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S16x1024x1024, .bf16⟩
  | .hbm, ⟨1, _⟩ => ⟨S16x1024x1024, .bf16⟩
  | .hbm, ⟨2, _⟩ => ⟨S4x16x1024x1408, .f32⟩
  | .hbm, ⟨3, _⟩ => ⟨S4x16x1024x1408, .f32⟩
  | .hbm, ⟨4, _⟩ => ⟨S4x16x1408x1024, .f32⟩
  | .hbm, ⟨5, _⟩ => ⟨S16x1024x1024, .f32⟩
  | .hbm, ⟨6, _⟩ => ⟨S16x1024x1024, .f32⟩
  | .hbm, ⟨7, _⟩ => ⟨S16x2048x1024, .f32⟩
  | .hbm, ⟨8, _⟩ => ⟨S1x16x1024x1408, .f32⟩
  | .hbm, ⟨9, _⟩ => ⟨S16x1024x1408, .f32⟩
  | .hbm, ⟨10, _⟩ => ⟨S1x16x1024x1408, .f32⟩
  | .hbm, ⟨11, _⟩ => ⟨S16x1024x1408, .f32⟩
  | .hbm, ⟨12, _⟩ => ⟨S1x16x1408x1024, .f32⟩
  | .hbm, ⟨13, _⟩ => ⟨S16x1408x1024, .f32⟩
  | .hbm, ⟨14, _⟩ => ⟨S16x2048x1408, .f32⟩
  | .hbm, ⟨15, _⟩ => ⟨S16x2048x1408, .f32⟩
  | .hbm, ⟨16, _⟩ => ⟨S16x2048x1408, .f32⟩
  | .hbm, ⟨17, _⟩ => ⟨S_, .f32⟩
  | .hbm, ⟨18, _⟩ => ⟨S16x2048x1408, .f32⟩
  | .hbm, ⟨19, _⟩ => ⟨S16x2048x1408, .f32⟩
  | .hbm, ⟨20, _⟩ => ⟨S_, .f32⟩
  | .hbm, ⟨21, _⟩ => ⟨S16x2048x1408, .f32⟩
  | .hbm, ⟨22, _⟩ => ⟨S16x2048x1408, .f32⟩
  | .hbm, ⟨23, _⟩ => ⟨S16x2048x1408, .f32⟩
  | .hbm, ⟨24, _⟩ => ⟨S16x2048x1408, .f32⟩
  | .hbm, ⟨25, _⟩ => ⟨S16x2048x1408, .f32⟩
  | .hbm, ⟨26, _⟩ => ⟨S16x2048x1024, .f32⟩
  | .hbm, ⟨27, _⟩ => ⟨S16x2048x1024, .bf16⟩
  | _, _ => ⟨S16x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩

abbrev nD : Nat := 1
abbrev τ : Topo := Topo.v7x

variable {F : FTy → Type} [FloatOps F]
-- ==== Kernel3.lean ====
abbrev S16384x1024 : Shape := ⟨2, ![16384, 1024]⟩
abbrev S3x6x1024 : Shape := ⟨3, ![3, 6, 1024]⟩
abbrev S2x1024x4096 : Shape := ⟨3, ![2, 1024, 4096]⟩
abbrev S16384x4096 : Shape := ⟨2, ![16384, 4096]⟩
abbrev S1024x1024 : Shape := ⟨2, ![1024, 1024]⟩
abbrev S1x6x1024 : Shape := ⟨3, ![1, 6, 1024]⟩
abbrev S1x1024x2048 : Shape := ⟨3, ![1, 1024, 2048]⟩
abbrev S1024x2048 : Shape := ⟨2, ![1024, 2048]⟩
abbrev S1x1x1024 : Shape := ⟨3, ![1, 1, 1024]⟩
abbrev S1x1024 : Shape := ⟨2, ![1, 1024]⟩

abbrev nBuf : Space → Nat
  | .hbm => 4
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S3x6x1024, .f32⟩
  | .hbm, ⟨2, _⟩ => ⟨S2x1024x4096, .f32⟩
  | .hbm, ⟨3, _⟩ => ⟨S16384x4096, .f32⟩
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024x2048, .f32⟩
  | .local _ .vmem, ⟨5, _⟩ => ⟨S1x1024x2048, .f32⟩
  | .local _ .vmem, ⟨6, _⟩ => ⟨S1024x2048, .f32⟩
  | .local _ .vmem, ⟨7, _⟩ => ⟨S1024x2048, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S16384x1024 : Shape := ⟨2, ![16384, 1024]⟩
abbrev S3x6x1024 : Shape := ⟨3, ![3, 6, 1024]⟩
abbrev S2x1024x4096 : Shape := ⟨3, ![2, 1024, 4096]⟩
abbrev S8192x1024 : Shape := ⟨2, ![8192, 1024]⟩
abbrev S32x256x1024 : Shape := ⟨3, ![32, 256, 1024]⟩
abbrev S2x4096x1024 : Shape := ⟨3, ![2, 4096, 1024]⟩
abbrev S3x6144 : Shape := ⟨2, ![3, 6144]⟩
abbrev S1x6144 : Shape := ⟨2, ![1, 6144]⟩
abbrev S6144 : Shape := ⟨1, ![6144]⟩
abbrev S1x1024 : Shape := ⟨2, ![1, 1024]⟩
abbrev S_ : Shape := ⟨0, ![]⟩
abbrev S1x1x1024 : Shape := ⟨3, ![1, 1, 1024]⟩
abbrev S1x1024x4096 : Shape := ⟨3, ![1, 1024, 4096]⟩
abbrev S1024x4096 : Shape := ⟨2, ![1024, 4096]⟩
abbrev S32x256x4096 : Shape := ⟨3, ![32, 256, 4096]⟩
abbrev S2x6144 : Shape := ⟨2, ![2, 6144]⟩
abbrev S2x1x6144 : Shape := ⟨3, ![2, 1, 6144]⟩
abbrev S2x1x1024 : Shape := ⟨3, ![2, 1, 1024]⟩
abbrev S2x4096x4096 : Shape := ⟨3, ![2, 4096, 4096]⟩
abbrev S8192x4096 : Shape := ⟨2, ![8192, 4096]⟩
abbrev S16384x4096 : Shape := ⟨2, ![16384, 4096]⟩

abbrev nBuf : Space → Nat
  | .hbm => 50
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S3x6x1024, .f32⟩
  | .hbm, ⟨2, _⟩ => ⟨S2x1024x4096, .f32⟩
  | .hbm, ⟨3, _⟩ => ⟨S8192x1024, .f32⟩
  | .hbm, ⟨4, _⟩ => ⟨S32x256x1024, .f32⟩
  | .hbm, ⟨5, _⟩ => ⟨S8192x1024, .f32⟩
  | .hbm, ⟨6, _⟩ => ⟨S2x4096x1024, .f32⟩
  | .hbm, ⟨7, _⟩ => ⟨S3x6144, .f32⟩
  | .hbm, ⟨8, _⟩ => ⟨S1x6144, .f32⟩
  | .hbm, ⟨9, _⟩ => ⟨S6144, .f32⟩
  | .hbm, ⟨10, _⟩ => ⟨S1x6144, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S_, .f32⟩
  | .hbm, ⟨18, _⟩ => ⟨S1x1024, .f32⟩
  | .hbm, ⟨19, _⟩ => ⟨S1x1024, .f32⟩
  | .hbm, ⟨20, _⟩ => ⟨S1x1x1024, .f32⟩
  | .hbm, ⟨21, _⟩ => ⟨S32x256x1024, .f32⟩
  | .hbm, ⟨22, _⟩ => ⟨S32x256x1024, .f32⟩
  | .hbm, ⟨23, _⟩ => ⟨S1x1x1024, .f32⟩
  | .hbm, ⟨24, _⟩ => ⟨S32x256x1024, .f32⟩
  | .hbm, ⟨25, _⟩ => ⟨S32x256x1024, .f32⟩
  | .hbm, ⟨26, _⟩ => ⟨S1x1024x4096, .f32⟩
  | .hbm, ⟨27, _⟩ => ⟨S1024x4096, .f32⟩
  | .hbm, ⟨28, _⟩ => ⟨S32x256x4096, .f32⟩
  | .hbm, ⟨29, _⟩ => ⟨S2x6144, .f32⟩
  | .hbm, ⟨30, _⟩ => ⟨S2x1x6144, .f32⟩
  | .hbm, ⟨31, _⟩ => ⟨S2x1x1024, .f32⟩
  | .hbm, ⟨32, _⟩ => ⟨S2x1x1024, .f32⟩
  | .hbm, ⟨33, _⟩ => ⟨S2x1x1024, .f32⟩
  | .hbm, ⟨34, _⟩ => ⟨S2x1x1024, .f32⟩
  | .hbm, ⟨35, _⟩ => ⟨S2x1x1024, .f32⟩
  | .hbm, ⟨36, _⟩ => ⟨S2x1x1024, .f32⟩
  | .hbm, ⟨37, _⟩ => ⟨S_, .f32⟩
  | .hbm, ⟨38, _⟩ => ⟨S2x1x1024, .f32⟩
  | .hbm, ⟨39, _⟩ => ⟨S2x1x1024, .f32⟩
  | .hbm, ⟨40, _⟩ => ⟨S2x4096x1024, .f32⟩
  | .hbm, ⟨41, _⟩ => ⟨S2x4096x1024, .f32⟩
  | .hbm, ⟨42, _⟩ => ⟨S2x4096x1024, .f32⟩
  | .hbm, ⟨43, _⟩ => ⟨S2x4096x1024, .f32⟩
  | .hbm, ⟨44, _⟩ => ⟨S1x1024x4096, .f32⟩
  | .hbm, ⟨45, _⟩ => ⟨S1024x4096, .f32⟩
  | .hbm, ⟨46, _⟩ => ⟨S2x4096x4096, .f32⟩
  | .hbm, ⟨47, _⟩ => ⟨S8192x4096, .f32⟩
  | .hbm, ⟨48, _⟩ => ⟨S8192x4096, .f32⟩
  | .hbm, ⟨49, _⟩ => ⟨S16384x4096, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_cst_0 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩

abbrev nD : Nat := 1
abbrev τ : Topo := Topo.v7x

variable {F : FTy → Type} [FloatOps F]
-- ==== Kernel4.lean ====
abbrev S2x8192x1024 : Shape := ⟨3, ![2, 8192, 1024]⟩
abbrev S16384x4096 : Shape := ⟨2, ![16384, 4096]⟩
abbrev S16384x1024 : Shape := ⟨2, ![16384, 1024]⟩
abbrev S3x6x1024 : Shape := ⟨3, ![3, 6, 1024]⟩
abbrev S2x1024x1024 : Shape := ⟨3, ![2, 1024, 1024]⟩
abbrev S1024 : Shape := ⟨1, ![1024]⟩
abbrev S1024x16 : Shape := ⟨2, ![1024, 16]⟩
abbrev S1x1024 : Shape := ⟨2, ![1, 1024]⟩
abbrev S16x1024 : Shape := ⟨2, ![16, 1024]⟩
abbrev S16x16384 : Shape := ⟨2, ![16, 16384]⟩
abbrev S1x512x1024 : Shape := ⟨3, ![1, 512, 1024]⟩
abbrev S512x1024 : Shape := ⟨2, ![512, 1024]⟩
abbrev S1x6x1024 : Shape := ⟨3, ![1, 6, 1024]⟩
abbrev S1x1024x1024 : Shape := ⟨3, ![1, 1024, 1024]⟩
abbrev S16x512 : Shape := ⟨2, ![16, 512]⟩
abbrev S512x256 : Shape := ⟨2, ![512, 256]⟩
abbrev S512 : Shape := ⟨1, ![512]⟩
abbrev S512x1 : Shape := ⟨2, ![512, 1]⟩
abbrev S1x1x1024 : Shape := ⟨3, ![1, 1, 1024]⟩
abbrev S1024x1024 : Shape := ⟨2, ![1024, 1024]⟩
abbrev S1x512 : Shape := ⟨2, ![1, 512]⟩

abbrev nBuf : Space → Nat
  | .hbm => 15
  | .vmem => 24
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S16384x4096, .f32⟩
  | .hbm, ⟨3, _⟩ => ⟨S16384x1024, .f32⟩
  | .hbm, ⟨4, _⟩ => ⟨S3x6x1024, .f32⟩
  | .hbm, ⟨5, _⟩ => ⟨S2x1024x1024, .f32⟩
  | .hbm, ⟨6, _⟩ => ⟨S1024, .f32⟩
  | .hbm, ⟨7, _⟩ => ⟨S1024, .f32⟩
  | .hbm, ⟨8, _⟩ => ⟨S1024x16, .f32⟩
  | .hbm, ⟨9, _⟩ => ⟨S1x1024, .f32⟩
  | .hbm, ⟨10, _⟩ => ⟨S1x1024, .f32⟩
  | .hbm, ⟨11, _⟩ => ⟨S16x1024, .f32⟩
  | .hbm, ⟨12, _⟩ => ⟨S16384x1024, .f32⟩
  | .hbm, ⟨13, _⟩ => ⟨S16384x1024, .bf16⟩
  | .hbm, ⟨14, _⟩ => ⟨S16x16384, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x6x1024, .f32⟩
  | .local _ .vmem, ⟨13, _⟩ => ⟨S1x6x1024, .f32⟩
  | .local _ .vmem, ⟨14, _⟩ => ⟨S1x1024x1024, .f32⟩
  | .local _ .vmem, ⟨15, _⟩ => ⟨S1x1024, .f32⟩
  | .local _ .vmem, ⟨16, _⟩ => ⟨S1x1024, .f32⟩
  | .local _ .vmem, ⟨17, _⟩ => ⟨S16x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | .local _ .vmem, ⟨22, _⟩ => ⟨S16x512, .f32⟩
  | .local _ .vmem, ⟨23, _⟩ => ⟨S16x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c15_i32 : BitVec 32 := 15#32
  let v0 : BitVec 32 := Scalar.minsi arg0 c15_i32
  let c1_i32 : BitVec 32 := 1#32
  let c0_i32 : BitVec 32 := 0#32
  let c0_i32_0 : BitVec 32 := 0#32
  ![c1_i32.toNat, v0.toNat, c0_i32.toNat]

def cc0_transform_2 (i : grid0.Coords) : Fin 3 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c1_i32 : BitVec 32 := 1#32
  let c0_i32_0 : BitVec 32 := 0#32
  let c0_i32_1 : BitVec 32 := 0#32
  ![c1_i32.toNat, v1.toNat, c0_i32_0.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x6x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S16x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference4Ideal.lean ====
abbrev S2x8192x1024 : Shape := ⟨3, ![2, 8192, 1024]⟩
abbrev S16384x4096 : Shape := ⟨2, ![16384, 4096]⟩
abbrev S16384x1024 : Shape := ⟨2, ![16384, 1024]⟩
abbrev S3x6x1024 : Shape := ⟨3, ![3, 6, 1024]⟩
abbrev S2x1024x1024 : Shape := ⟨3, ![2, 1024, 1024]⟩
abbrev S1024 : Shape := ⟨1, ![1024]⟩
abbrev S1024x16 : Shape := ⟨2, ![1024, 16]⟩
abbrev S3x6144 : Shape := ⟨2, ![3, 6144]⟩
abbrev S1x6144 : Shape := ⟨2, ![1, 6144]⟩
abbrev S6144 : Shape := ⟨1, ![6144]⟩
abbrev S1x8192x1024 : Shape := ⟨3, ![1, 8192, 1024]⟩
abbrev S8192x1024 : Shape := ⟨2, ![8192, 1024]⟩
abbrev S32x256x1024 : Shape := ⟨3, ![32, 256, 1024]⟩
abbrev S32x256x4x256 : Shape := ⟨4, ![32, 256, 4, 256]⟩
abbrev S_ : Shape := ⟨0, ![]⟩
abbrev S32x256x4 : Shape := ⟨3, ![32, 256, 4]⟩
abbrev S32x256x4x1 : Shape := ⟨4, ![32, 256, 4, 1]⟩
abbrev S1x1024x1024 : Shape := ⟨3, ![1, 1024, 1024]⟩
abbrev S1024x1024 : Shape := ⟨2, ![1024, 1024]⟩
abbrev S1x1024 : Shape := ⟨2, ![1, 1024]⟩
abbrev S1x1x1024 : Shape := ⟨3, ![1, 1, 1024]⟩
abbrev S32x256 : Shape := ⟨2, ![32, 256]⟩
abbrev S32x256x1 : Shape := ⟨3, ![32, 256, 1]⟩
abbrev S16x32x256 : Shape := ⟨3, ![16, 32, 256]⟩
abbrev S32x16x256 : Shape := ⟨3, ![32, 16, 256]⟩
abbrev S32x1x256 : Shape := ⟨3, ![32, 1, 256]⟩
abbrev S16x8192 : Shape := ⟨2, ![16, 8192]⟩
abbrev S2x6144 : Shape := ⟨2, ![2, 6144]⟩
abbrev S2x4096x1024 : Shape := ⟨3, ![2, 4096, 1024]⟩
abbrev S2x4096x4x256 : Shape := ⟨4, ![2, 4096, 4, 256]⟩
abbrev S2x4096x4 : Shape := ⟨3, ![2, 4096, 4]⟩
abbrev S2x4096x4x1 : Shape := ⟨4, ![2, 4096, 4, 1]⟩
abbrev S2x1x6144 : Shape := ⟨3, ![2, 1, 6144]⟩
abbrev S2x1x1024 : Shape := ⟨3, ![2, 1, 1024]⟩
abbrev S2x4096 : Shape := ⟨2, ![2, 4096]⟩
abbrev S2x4096x1 : Shape := ⟨3, ![2, 4096, 1]⟩
abbrev S16x2x4096 : Shape := ⟨3, ![16, 2, 4096]⟩
abbrev S2x16x4096 : Shape := ⟨3, ![2, 16, 4096]⟩
abbrev S2x1x4096 : Shape := ⟨3, ![2, 1, 4096]⟩
abbrev S16x16384 : Shape := ⟨2, ![16, 16384]⟩

abbrev nBuf : Space → Nat
  | .hbm => 254
  | .vmem => 0
  | .smem => 0
  | _ => 0

abbrev hbmTy0_0 (i : Nat) : BufTy := match i % 128 with
  | 0 => ⟨S2x8192x1024, .f32⟩
  | 1 => ⟨S2x8192x1024, .f32⟩
  | 2 => ⟨S16384x4096, .f32⟩
  | 3 => ⟨S16384x1024, .f32⟩
  | 4 => ⟨S3x6x1024, .f32⟩
  | 5 => ⟨S2x1024x1024, .f32⟩
  | 6 => ⟨S1024, .f32⟩
  | 7 => ⟨S1024, .f32⟩
  | 8 => ⟨S1024x16, .f32⟩
  | 9 => ⟨S3x6144, .f32⟩
  | 10 => ⟨S1x6144, .f32⟩
  | 11 => ⟨S6144, .f32⟩
  | 12 => ⟨S1x8192x1024, .f32⟩
  | 13 => ⟨S8192x1024, .f32⟩
  | 14 => ⟨S1x8192x1024, .f32⟩
  | 15 => ⟨S8192x1024, .f32⟩
  | 16 => ⟨S8192x1024, .f32⟩
  | 17 => ⟨S32x256x1024, .f32⟩
  | 18 => ⟨S32x256x4x256, .f32⟩
  | 19 => ⟨S_, .f32⟩
  | 20 => ⟨S32x256x4, .f32⟩
  | 21 => ⟨S32x256x4x1, .f32⟩
  | 22 => ⟨S_, .f32⟩
  | 23 => ⟨S32x256x4x1, .f32⟩
  | 24 => ⟨S32x256x4x1, .f32⟩
  | 25 => ⟨S32x256x4x256, .f32⟩
  | 26 => ⟨S32x256x4x256, .f32⟩
  | 27 => ⟨S32x256x4x256, .f32⟩
  | 28 => ⟨S_, .f32⟩
  | 29 => ⟨S32x256x4, .f32⟩
  | 30 => ⟨S32x256x4x1, .f32⟩
  | 31 => ⟨S_, .f32⟩
  | 32 => ⟨S32x256x4x1, .f32⟩
  | 33 => ⟨S32x256x4x1, .f32⟩
  | 34 => ⟨S32x256x4x256, .f32⟩
  | 35 => ⟨S32x256x4x256, .f32⟩
  | 36 => ⟨S_, .f32⟩
  | 37 => ⟨S32x256x4x1, .f32⟩
  | 38 => ⟨S32x256x4x1, .f32⟩
  | 39 => ⟨S32x256x4x1, .f32⟩
  | 40 => ⟨S32x256x4x256, .f32⟩
  | 41 => ⟨S32x256x4x256, .f32⟩
  | 42 => ⟨S8192x1024, .f32⟩
  | 43 => ⟨S32x256x1024, .f32⟩
  | 44 => ⟨S32x256x1024, .f32⟩
  | 45 => ⟨S32x256x1024, .f32⟩
  | 46 => ⟨S32x256x1024, .f32⟩
  | 47 => ⟨S_, .f32⟩
  | 48 => ⟨S32x256x1024, .f32⟩
  | 49 => ⟨S32x256x1024, .f32⟩
  | 50 => ⟨S_, .f32⟩
  | 51 => ⟨S32x256x1024, .f32⟩
  | 52 => ⟨S32x256x1024, .f32⟩
  | 53 => ⟨S32x256x1024, .f32⟩
  | 54 => ⟨S32x256x1024, .f32⟩
  | 55 => ⟨S8192x1024, .f32⟩
  | 56 => ⟨S32x256x1024, .f32⟩
  | 57 => ⟨S1x1024x1024, .f32⟩
  | 58 => ⟨S1024x1024, .f32⟩
  | 59 => ⟨S1x6144, .f32⟩
  | 60 => ⟨S1x1024, .f32⟩
  | 61 => ⟨S1x1024, .f32⟩
  | 62 => ⟨S1x1024, .f32⟩
  | 63 => ⟨S1x1024, .f32⟩
  | 64 => ⟨S1x1024, .f32⟩
  | 65 => ⟨S1x1024, .f32⟩
  | 66 => ⟨S_, .f32⟩
  | 67 => ⟨S32x256x1024, .f32⟩
  | 68 => ⟨S32x256x1024, .f32⟩
  | 69 => ⟨S32x256x1024, .f32⟩
  | 70 => ⟨S1x1x1024, .f32⟩
  | 71 => ⟨S32x256x1024, .f32⟩
  | 72 => ⟨S32x256x1024, .f32⟩
  | 73 => ⟨S32x256x1024, .f32⟩
  | 74 => ⟨S_, .f32⟩
  | 75 => ⟨S32x256, .f32⟩
  | 76 => ⟨S32x256x1, .f32⟩
  | 77 => ⟨S_, .f32⟩
  | 78 => ⟨S32x256x1, .f32⟩
  | 79 => ⟨S32x256x1, .f32⟩
  | 80 => ⟨S32x256x1024, .f32⟩
  | 81 => ⟨S32x256x1024, .f32⟩
  | 82 => ⟨S32x256x1024, .f32⟩
  | 83 => ⟨S_, .f32⟩
  | 84 => ⟨S32x256, .f32⟩
  | 85 => ⟨S32x256x1, .f32⟩
  | 86 => ⟨S_, .f32⟩
  | 87 => ⟨S32x256x1, .f32⟩
  | 88 => ⟨S32x256x1, .f32⟩
  | 89 => ⟨S32x256x1024, .f32⟩
  | 90 => ⟨S32x256x1024, .f32⟩
  | 91 => ⟨S_, .f32⟩
  | 92 => ⟨S32x256x1, .f32⟩
  | 93 => ⟨S32x256x1, .f32⟩
  | 94 => ⟨S32x256x1, .f32⟩
  | 95 => ⟨S32x256x1024, .f32⟩
  | 96 => ⟨S32x256x1024, .f32⟩
  | 97 => ⟨S1x1x1024, .f32⟩
  | 98 => ⟨S32x256x1024, .f32⟩
  | 99 => ⟨S32x256x1024, .f32⟩
  | 100 => ⟨S1x1x1024, .f32⟩
  | 101 => ⟨S32x256x1024, .f32⟩
  | 102 => ⟨S32x256x1024, .f32⟩
  | 103 => ⟨S_, .f32⟩
  | 104 => ⟨S1x1024, .f32⟩
  | 105 => ⟨S1x1024, .f32⟩
  | 106 => ⟨S1x1x1024, .f32⟩
  | 107 => ⟨S32x256x1024, .f32⟩
  | 108 => ⟨S32x256x1024, .f32⟩
  | 109 => ⟨S1x1x1024, .f32⟩
  | 110 => ⟨S32x256x1024, .f32⟩
  | 111 => ⟨S32x256x1024, .f32⟩
  | 112 => ⟨S16x32x256, .f32⟩
  | 113 => ⟨S32x16x256, .f32⟩
  | 114 => ⟨S_, .f32⟩
  | 115 => ⟨S32x256, .f32⟩
  | 116 => ⟨S_, .f32⟩
  | 117 => ⟨S32x256, .f32⟩
  | 118 => ⟨S32x256, .f32⟩
  | 119 => ⟨S32x1x256, .f32⟩
  | 120 => ⟨S32x16x256, .f32⟩
  | 121 => ⟨S32x16x256, .f32⟩
  | 122 => ⟨S32x16x256, .f32⟩
  | 123 => ⟨S_, .f32⟩
  | 124 => ⟨S32x256, .f32⟩
  | 125 => ⟨S32x1x256, .f32⟩
  | 126 => ⟨S32x16x256, .f32⟩
  | 127 => ⟨S32x16x256, .f32⟩
  | _ => ⟨S2x8192x1024, .f32⟩

abbrev hbmTy0_1 (i : Nat) : BufTy := match i % 128 with
  | 0 => ⟨S8192x1024, .f32⟩
  | 1 => ⟨S8192x1024, .f32⟩
  | 2 => ⟨S16x32x256, .f32⟩
  | 3 => ⟨S16x8192, .f32⟩
  | 4 => ⟨S2x6144, .f32⟩
  | 5 => ⟨S1x8192x1024, .f32⟩
  | 6 => ⟨S8192x1024, .f32⟩
  | 7 => ⟨S1x8192x1024, .f32⟩
  | 8 => ⟨S8192x1024, .f32⟩
  | 9 => ⟨S8192x1024, .f32⟩
  | 10 => ⟨S2x4096x1024, .f32⟩
  | 11 => ⟨S2x4096x4x256, .f32⟩
  | 12 => ⟨S_, .f32⟩
  | 13 => ⟨S2x4096x4, .f32⟩
  | 14 => ⟨S2x4096x4x1, .f32⟩
  | 15 => ⟨S_, .f32⟩
  | 16 => ⟨S2x4096x4x1, .f32⟩
  | 17 => ⟨S2x4096x4x1, .f32⟩
  | 18 => ⟨S2x4096x4x256, .f32⟩
  | 19 => ⟨S2x4096x4x256, .f32⟩
  | 20 => ⟨S2x4096x4x256, .f32⟩
  | 21 => ⟨S_, .f32⟩
  | 22 => ⟨S2x4096x4, .f32⟩
  | 23 => ⟨S2x4096x4x1, .f32⟩
  | 24 => ⟨S_, .f32⟩
  | 25 => ⟨S2x4096x4x1, .f32⟩
  | 26 => ⟨S2x4096x4x1, .f32⟩
  | 27 => ⟨S2x4096x4x256, .f32⟩
  | 28 => ⟨S2x4096x4x256, .f32⟩
  | 29 => ⟨S_, .f32⟩
  | 30 => ⟨S2x4096x4x1, .f32⟩
  | 31 => ⟨S2x4096x4x1, .f32⟩
  | 32 => ⟨S2x4096x4x1, .f32⟩
  | 33 => ⟨S2x4096x4x256, .f32⟩
  | 34 => ⟨S2x4096x4x256, .f32⟩
  | 35 => ⟨S8192x1024, .f32⟩
  | 36 => ⟨S2x4096x1024, .f32⟩
  | 37 => ⟨S2x4096x1024, .f32⟩
  | 38 => ⟨S2x4096x1024, .f32⟩
  | 39 => ⟨S2x4096x1024, .f32⟩
  | 40 => ⟨S_, .f32⟩
  | 41 => ⟨S2x4096x1024, .f32⟩
  | 42 => ⟨S2x4096x1024, .f32⟩
  | 43 => ⟨S_, .f32⟩
  | 44 => ⟨S2x4096x1024, .f32⟩
  | 45 => ⟨S2x4096x1024, .f32⟩
  | 46 => ⟨S2x4096x1024, .f32⟩
  | 47 => ⟨S2x4096x1024, .f32⟩
  | 48 => ⟨S8192x1024, .f32⟩
  | 49 => ⟨S2x4096x1024, .f32⟩
  | 50 => ⟨S1x1024x1024, .f32⟩
  | 51 => ⟨S1024x1024, .f32⟩
  | 52 => ⟨S2x1x6144, .f32⟩
  | 53 => ⟨S2x1x1024, .f32⟩
  | 54 => ⟨S2x1x1024, .f32⟩
  | 55 => ⟨S2x1x1024, .f32⟩
  | 56 => ⟨S2x1x1024, .f32⟩
  | 57 => ⟨S2x1x1024, .f32⟩
  | 58 => ⟨S2x1x1024, .f32⟩
  | 59 => ⟨S_, .f32⟩
  | 60 => ⟨S2x4096x1024, .f32⟩
  | 61 => ⟨S2x4096x1024, .f32⟩
  | 62 => ⟨S2x4096x1024, .f32⟩
  | 63 => ⟨S2x4096x1024, .f32⟩
  | 64 => ⟨S2x4096x1024, .f32⟩
  | 65 => ⟨S2x4096x1024, .f32⟩
  | 66 => ⟨S_, .f32⟩
  | 67 => ⟨S2x4096, .f32⟩
  | 68 => ⟨S2x4096x1, .f32⟩
  | 69 => ⟨S_, .f32⟩
  | 70 => ⟨S2x4096x1, .f32⟩
  | 71 => ⟨S2x4096x1, .f32⟩
  | 72 => ⟨S2x4096x1024, .f32⟩
  | 73 => ⟨S2x4096x1024, .f32⟩
  | 74 => ⟨S2x4096x1024, .f32⟩
  | 75 => ⟨S_, .f32⟩
  | 76 => ⟨S2x4096, .f32⟩
  | 77 => ⟨S2x4096x1, .f32⟩
  | 78 => ⟨S_, .f32⟩
  | 79 => ⟨S2x4096x1, .f32⟩
  | 80 => ⟨S2x4096x1, .f32⟩
  | 81 => ⟨S2x4096x1024, .f32⟩
  | 82 => ⟨S2x4096x1024, .f32⟩
  | 83 => ⟨S_, .f32⟩
  | 84 => ⟨S2x4096x1, .f32⟩
  | 85 => ⟨S2x4096x1, .f32⟩
  | 86 => ⟨S2x4096x1, .f32⟩
  | 87 => ⟨S2x4096x1024, .f32⟩
  | 88 => ⟨S2x4096x1024, .f32⟩
  | 89 => ⟨S1x1x1024, .f32⟩
  | 90 => ⟨S2x4096x1024, .f32⟩
  | 91 => ⟨S2x4096x1024, .f32⟩
  | 92 => ⟨S1x1x1024, .f32⟩
  | 93 => ⟨S2x4096x1024, .f32⟩
  | 94 => ⟨S2x4096x1024, .f32⟩
  | 95 => ⟨S_, .f32⟩
  | 96 => ⟨S2x1x1024, .f32⟩
  | 97 => ⟨S2x1x1024, .f32⟩
  | 98 => ⟨S2x4096x1024, .f32⟩
  | 99 => ⟨S2x4096x1024, .f32⟩
  | 100 => ⟨S2x4096x1024, .f32⟩
  | 101 => ⟨S2x4096x1024, .f32⟩
  | 102 => ⟨S16x2x4096, .f32⟩
  | 103 => ⟨S2x16x4096, .f32⟩
  | 104 => ⟨S_, .f32⟩
  | 105 => ⟨S2x4096, .f32⟩
  | 106 => ⟨S_, .f32⟩
  | 107 => ⟨S2x4096, .f32⟩
  | 108 => ⟨S2x4096, .f32⟩
  | 109 => ⟨S2x1x4096, .f32⟩
  | 110 => ⟨S2x16x4096, .f32⟩
  | 111 => ⟨S2x16x4096, .f32⟩
  | 112 => ⟨S2x16x4096, .f32⟩
  | 113 => ⟨S_, .f32⟩
  | 114 => ⟨S2x4096, .f32⟩
  | 115 => ⟨S2x1x4096, .f32⟩
  | 116 => ⟨S2x16x4096, .f32⟩
  | 117 => ⟨S2x16x4096, .f32⟩
  | 118 => ⟨S8192x1024, .f32⟩
  | 119 => ⟨S8192x1024, .f32⟩
  | 120 => ⟨S16x2x4096, .f32⟩
  | 121 => ⟨S16x8192, .f32⟩
  | 122 => ⟨S16384x1024, .f32⟩
  | 123 => ⟨S16384x1024, .f32⟩
  | 124 => ⟨S16384x1024, .bf16⟩
  | 125 => ⟨S16x16384, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_4 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_5 : Ref sig .tc := ⟨.hbm, 74, rfl⟩
abbrev main_v51 : Ref sig .tc := ⟨.hbm, 75, rfl⟩
abbrev main_v52 : Ref sig .tc := ⟨.hbm, 76, rfl⟩
abbrev main_cst_6 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_7 : Ref sig .tc := ⟨.hbm, 83, rfl⟩
abbrev main_v58 : Ref sig .tc := ⟨.hbm, 84, rfl⟩
abbrev main_v59 : Ref sig .tc := ⟨.hbm, 85, rfl⟩
abbrev main_cst_8 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_9 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_10 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_11 : Ref sig .tc := ⟨.hbm, 114, rfl⟩
abbrev main_v85 : Ref sig .tc := ⟨.hbm, 115, rfl⟩
abbrev main_cst_12 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_cst_13 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_cst_14 : Ref sig .tc := ⟨.hbm, 140, rfl⟩
abbrev main_v108 : Ref sig .tc := ⟨.hbm, 141, rfl⟩
abbrev main_v109 : Ref sig .tc := ⟨.hbm, 142, rfl⟩
abbrev main_cst_15 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_cst_16 : Ref sig .tc := ⟨.hbm, 149, rfl⟩
abbrev main_v115 : Ref sig .tc := ⟨.hbm, 150, rfl⟩
abbrev main_v116 : Ref sig .tc := ⟨.hbm, 151, rfl⟩
abbrev main_cst_17 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_cst_18 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_call1_v0 : Ref sig .tc := ⟨.hbm, 166, rfl⟩
abbrev main_call1_v1 : Ref sig .tc := ⟨.hbm, 167, rfl⟩
abbrev main_call1_cst : Ref sig .tc := ⟨.hbm, 168, rfl⟩
abbrev main_call1_v2 : Ref sig .tc := ⟨.hbm, 169, rfl⟩
abbrev main_call1_v3 : Ref sig .tc := ⟨.hbm, 170, rfl⟩
abbrev main_call1_cst_0 : Ref sig .tc := ⟨.hbm, 171, rfl⟩
abbrev main_call1_v4 : Ref sig .tc := ⟨.hbm, 172, rfl⟩
abbrev main_call1_v5 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_cst_19 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_cst_20 : Ref sig .tc := ⟨.hbm, 194, rfl⟩
abbrev main_v148 : Ref sig .tc := ⟨.hbm, 195, rfl⟩
abbrev main_v149 : Ref sig .tc := ⟨.hbm, 196, rfl⟩
abbrev main_cst_21 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_cst_22 : Ref sig .tc := ⟨.hbm, 203, rfl⟩
abbrev main_v155 : Ref sig .tc := ⟨.hbm, 204, rfl⟩
abbrev main_v156 : Ref sig .tc := ⟨.hbm, 205, rfl⟩
abbrev main_cst_23 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_cst_24 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_cst_25 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_cst_26 : Ref sig .tc := ⟨.hbm, 232, rfl⟩
abbrev main_v180 : Ref sig .tc := ⟨.hbm, 233, rfl⟩
abbrev main_cst_27 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev main_v186 : Ref sig .tc := ⟨.hbm, 240, rfl⟩
abbrev main_cst_28 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_v192 : Ref sig .tc := ⟨.hbm, 247, rfl⟩
abbrev main_v193 : Ref sig .tc := ⟨.hbm, 248, rfl⟩
abbrev main_v194 : Ref sig .tc := ⟨.hbm, 249, rfl⟩
abbrev main_v195 : Ref sig .tc := ⟨.hbm, 250, rfl⟩
abbrev main_v196 : Ref sig .tc := ⟨.hbm, 251, rfl⟩
abbrev main_v197 : Ref sig .tc := ⟨.hbm, 252, rfl⟩
abbrev main_v198 : Ref sig .tc := ⟨.hbm, 253, rfl⟩

abbrev nD : Nat := 1
abbrev τ : Topo := Topo.v7x

variable {F : FTy → Type} [FloatOps F]
-- ==== Kernel5.lean ====
abbrev S8192x512 : Shape := ⟨2, ![8192, 512]⟩
abbrev S1x8192x512 : Shape := ⟨3, ![1, 8192, 512]⟩
abbrev S16384x4096 : Shape := ⟨2, ![16384, 4096]⟩
abbrev S512 : Shape := ⟨1, ![512]⟩
abbrev S16384x1024 : Shape := ⟨2, ![16384, 1024]⟩
abbrev S3x6x1024 : Shape := ⟨3, ![3, 6, 1024]⟩
abbrev S2x1024x1024 : Shape := ⟨3, ![2, 1024, 1024]⟩
abbrev S1024 : Shape := ⟨1, ![1024]⟩
abbrev S1024x16 : Shape := ⟨2, ![1024, 16]⟩
abbrev S1x1024 : Shape := ⟨2, ![1, 1024]⟩
abbrev S16x1024 : Shape := ⟨2, ![16, 1024]⟩
abbrev S1x512 : Shape := ⟨2, ![1, 512]⟩
abbrev S16x16384 : Shape := ⟨2, ![16, 16384]⟩
abbrev S512x512 : Shape := ⟨2, ![512, 512]⟩
abbrev S1x512x512 : Shape := ⟨3, ![1, 512, 512]⟩
abbrev S512x1024 : Shape := ⟨2, ![512, 1024]⟩
abbrev S1x6x1024 : Shape := ⟨3, ![1, 6, 1024]⟩
abbrev S1x1024x1024 : Shape := ⟨3, ![1, 1024, 1024]⟩
abbrev S16x512 : Shape := ⟨2, ![16, 512]⟩
abbrev S512x128 : Shape := ⟨2, ![512, 128]⟩
abbrev S512x1 : Shape := ⟨2, ![512, 1]⟩
abbrev S1x1x1024 : Shape := ⟨3, ![1, 1, 1024]⟩
abbrev S1024x1024 : Shape := ⟨2, ![1024, 1024]⟩

abbrev nBuf : Space → Nat
  | .hbm => 21
  | .vmem => 29
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S1x8192x512, .f32⟩
  | .hbm, ⟨5, _⟩ => ⟨S1x8192x512, .f32⟩
  | .hbm, ⟨6, _⟩ => ⟨S16384x4096, .f32⟩
  | .hbm, ⟨7, _⟩ => ⟨S512, .f32⟩
  | .hbm, ⟨8, _⟩ => ⟨S16384x1024, .f32⟩
  | .hbm, ⟨9, _⟩ => ⟨S3x6x1024, .f32⟩
  | .hbm, ⟨10, _⟩ => ⟨S2x1024x1024, .f32⟩
  | .hbm, ⟨11, _⟩ => ⟨S1024, .f32⟩
  | .hbm, ⟨12, _⟩ => ⟨S1024, .f32⟩
  | .hbm, ⟨13, _⟩ => ⟨S1024x16, .f32⟩
  | .hbm, ⟨14, _⟩ => ⟨S1x1024, .f32⟩
  | .hbm, ⟨15, _⟩ => ⟨S1x1024, .f32⟩
  | .hbm, ⟨16, _⟩ => ⟨S16x1024, .f32⟩
  | .hbm, ⟨17, _⟩ => ⟨S1x512, .f32⟩
  | .hbm, ⟨18, _⟩ => ⟨S16384x1024, .f32⟩
  | .hbm, ⟨19, _⟩ => ⟨S16384x1024, .bf16⟩
  | .hbm, ⟨20, _⟩ => ⟨S16x16384, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S512x512, .f32⟩
  | .local _ .vmem, ⟨13, _⟩ => ⟨S512x512, .f32⟩
  | .local _ .vmem, ⟨14, _⟩ => ⟨S1x512, .f32⟩
  | .local _ .vmem, ⟨15, _⟩ => ⟨S512x1024, .f32⟩
  | .local _ .vmem, ⟨16, _⟩ => ⟨S512x1024, .f32⟩
  | .local _ .vmem, ⟨17, _⟩ => ⟨S1x6x1024, .f32⟩
  | .local _ .vmem, ⟨18, _⟩ => ⟨S1x6x1024, .f32⟩
  | .local _ .vmem, ⟨19, _⟩ => ⟨S1x1024x1024, .f32⟩
  | .local _ .vmem, ⟨20, _⟩ => ⟨S1x1024, .f32⟩
  | .local _ .vmem, ⟨21, _⟩ => ⟨S1x1024, .f32⟩
  | .local _ .vmem, ⟨22, _⟩ => ⟨S16x1024, .f32⟩
  | .local _ .vmem, ⟨23, _⟩ => ⟨S512x1024, .f32⟩
  | .local _ .vmem, ⟨24, _⟩ => ⟨S512x1024, .f32⟩
  | .local _ .vmem, ⟨25, _⟩ => ⟨S512x1024, .bf16⟩
  | .local _ .vmem, ⟨26, _⟩ => ⟨S512x1024, .bf16⟩
  | .local _ .vmem, ⟨27, _⟩ => ⟨S16x512, .f32⟩
  | .local _ .vmem, ⟨28, _⟩ => ⟨S16x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4_0 : Ref sig .tc := ⟨.hbm, 18, rfl⟩
abbrev main_v4_1 : Ref sig .tc := ⟨.hbm, 19, rfl⟩
abbrev main_v4_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![c0_i32.toNat, v0.toNat, c0_i32_0.toNat]

def cc0_transform_5 (i : grid0.Coords) : Fin 3 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_6 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x6x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S16x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S16x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference5Ideal.lean ====
abbrev S8192x512 : Shape := ⟨2, ![8192, 512]⟩
abbrev S1x8192x512 : Shape := ⟨3, ![1, 8192, 512]⟩
abbrev S16384x4096 : Shape := ⟨2, ![16384, 4096]⟩
abbrev S512 : Shape := ⟨1, ![512]⟩
abbrev S16384x1024 : Shape := ⟨2, ![16384, 1024]⟩
abbrev S3x6x1024 : Shape := ⟨3, ![3, 6, 1024]⟩
abbrev S2x1024x1024 : Shape := ⟨3, ![2, 1024, 1024]⟩
abbrev S1024 : Shape := ⟨1, ![1024]⟩
abbrev S1024x16 : Shape := ⟨2, ![1024, 16]⟩
abbrev S3x6144 : Shape := ⟨2, ![3, 6144]⟩
abbrev S1x6144 : Shape := ⟨2, ![1, 6144]⟩
abbrev S6144 : Shape := ⟨1, ![6144]⟩
abbrev S32x256x512 : Shape := ⟨3, ![32, 256, 512]⟩
abbrev S32x256x4x128 : Shape := ⟨4, ![32, 256, 4, 128]⟩
abbrev S_ : Shape := ⟨0, ![]⟩
abbrev S32x256x4 : Shape := ⟨3, ![32, 256, 4]⟩
abbrev S32x256x4x1 : Shape := ⟨4, ![32, 256, 4, 1]⟩
abbrev S4x128 : Shape := ⟨2, ![4, 128]⟩
abbrev S1x1x4x128 : Shape := ⟨4, ![1, 1, 4, 128]⟩
abbrev S32x256x1024 : Shape := ⟨3, ![32, 256, 1024]⟩
abbrev S8192x1024 : Shape := ⟨2, ![8192, 1024]⟩
abbrev S1x1024x1024 : Shape := ⟨3, ![1, 1024, 1024]⟩
abbrev S1024x1024 : Shape := ⟨2, ![1024, 1024]⟩
abbrev S1x1024 : Shape := ⟨2, ![1, 1024]⟩
abbrev S1x1x1024 : Shape := ⟨3, ![1, 1, 1024]⟩
abbrev S32x256 : Shape := ⟨2, ![32, 256]⟩
abbrev S32x256x1 : Shape := ⟨3, ![32, 256, 1]⟩
abbrev S16x32x256 : Shape := ⟨3, ![16, 32, 256]⟩
abbrev S32x16x256 : Shape := ⟨3, ![32, 16, 256]⟩
abbrev S32x1x256 : Shape := ⟨3, ![32, 1, 256]⟩
abbrev S16x8192 : Shape := ⟨2, ![16, 8192]⟩
abbrev S2x6144 : Shape := ⟨2, ![2, 6144]⟩
abbrev S2x4096x512 : Shape := ⟨3, ![2, 4096, 512]⟩
abbrev S2x4096x4x128 : Shape := ⟨4, ![2, 4096, 4, 128]⟩
abbrev S2x4096x4 : Shape := ⟨3, ![2, 4096, 4]⟩
abbrev S2x4096x4x1 : Shape := ⟨4, ![2, 4096, 4, 1]⟩
abbrev S2x4096x1024 : Shape := ⟨3, ![2, 4096, 1024]⟩
abbrev S2x1x6144 : Shape := ⟨3, ![2, 1, 6144]⟩
abbrev S2x1x1024 : Shape := ⟨3, ![2, 1, 1024]⟩
abbrev S2x4096 : Shape := ⟨2, ![2, 4096]⟩
abbrev S2x4096x1 : Shape := ⟨3, ![2, 4096, 1]⟩
abbrev S16x2x4096 : Shape := ⟨3, ![16, 2, 4096]⟩
abbrev S2x16x4096 : Shape := ⟨3, ![2, 16, 4096]⟩
abbrev S2x1x4096 : Shape := ⟨3, ![2, 1, 4096]⟩
abbrev S16x16384 : Shape := ⟨2, ![16, 16384]⟩

abbrev nBuf : Space → Nat
  | .hbm => 245
  | .vmem => 0
  | .smem => 0
  | _ => 0

abbrev hbmTy0_0 (i : Nat) : BufTy := match i % 128 with
  | 0 => ⟨S8192x512, .f32⟩
  | 1 => ⟨S8192x512, .f32⟩
  | 2 => ⟨S8192x512, .f32⟩
  | 3 => ⟨S8192x512, .f32⟩
  | 4 => ⟨S1x8192x512, .f32⟩
  | 5 => ⟨S1x8192x512, .f32⟩
  | 6 => ⟨S16384x4096, .f32⟩
  | 7 => ⟨S512, .f32⟩
  | 8 => ⟨S16384x1024, .f32⟩
  | 9 => ⟨S3x6x1024, .f32⟩
  | 10 => ⟨S2x1024x1024, .f32⟩
  | 11 => ⟨S1024, .f32⟩
  | 12 => ⟨S1024, .f32⟩
  | 13 => ⟨S1024x16, .f32⟩
  | 14 => ⟨S3x6144, .f32⟩
  | 15 => ⟨S1x6144, .f32⟩
  | 16 => ⟨S6144, .f32⟩
  | 17 => ⟨S8192x512, .f32⟩
  | 18 => ⟨S32x256x512, .f32⟩
  | 19 => ⟨S32x256x4x128, .f32⟩
  | 20 => ⟨S32x256x4x128, .f32⟩
  | 21 => ⟨S_, .f32⟩
  | 22 => ⟨S32x256x4, .f32⟩
  | 23 => ⟨S32x256x4x1, .f32⟩
  | 24 => ⟨S_, .f32⟩
  | 25 => ⟨S32x256x4x1, .f32⟩
  | 26 => ⟨S32x256x4x1, .f32⟩
  | 27 => ⟨S_, .f32⟩
  | 28 => ⟨S32x256x4x1, .f32⟩
  | 29 => ⟨S32x256x4x1, .f32⟩
  | 30 => ⟨S32x256x4x1, .f32⟩
  | 31 => ⟨S32x256x4x128, .f32⟩
  | 32 => ⟨S32x256x4x128, .f32⟩
  | 33 => ⟨S4x128, .f32⟩
  | 34 => ⟨S1x1x4x128, .f32⟩
  | 35 => ⟨S32x256x4x128, .f32⟩
  | 36 => ⟨S32x256x4x128, .f32⟩
  | 37 => ⟨S8192x512, .f32⟩
  | 38 => ⟨S32x256x512, .f32⟩
  | 39 => ⟨S32x256x512, .f32⟩
  | 40 => ⟨S32x256x512, .f32⟩
  | 41 => ⟨S32x256x512, .f32⟩
  | 42 => ⟨S_, .f32⟩
  | 43 => ⟨S32x256x512, .f32⟩
  | 44 => ⟨S32x256x512, .f32⟩
  | 45 => ⟨S_, .f32⟩
  | 46 => ⟨S32x256x512, .f32⟩
  | 47 => ⟨S32x256x512, .f32⟩
  | 48 => ⟨S32x256x512, .f32⟩
  | 49 => ⟨S32x256x512, .f32⟩
  | 50 => ⟨S8192x512, .f32⟩
  | 51 => ⟨S32x256x512, .f32⟩
  | 52 => ⟨S32x256x1024, .f32⟩
  | 53 => ⟨S8192x1024, .f32⟩
  | 54 => ⟨S32x256x1024, .f32⟩
  | 55 => ⟨S1x1024x1024, .f32⟩
  | 56 => ⟨S1024x1024, .f32⟩
  | 57 => ⟨S1x6144, .f32⟩
  | 58 => ⟨S1x1024, .f32⟩
  | 59 => ⟨S1x1024, .f32⟩
  | 60 => ⟨S1x1024, .f32⟩
  | 61 => ⟨S1x1024, .f32⟩
  | 62 => ⟨S1x1024, .f32⟩
  | 63 => ⟨S1x1024, .f32⟩
  | 64 => ⟨S_, .f32⟩
  | 65 => ⟨S32x256x1024, .f32⟩
  | 66 => ⟨S32x256x1024, .f32⟩
  | 67 => ⟨S32x256x1024, .f32⟩
  | 68 => ⟨S1x1x1024, .f32⟩
  | 69 => ⟨S32x256x1024, .f32⟩
  | 70 => ⟨S32x256x1024, .f32⟩
  | 71 => ⟨S32x256x1024, .f32⟩
  | 72 => ⟨S_, .f32⟩
  | 73 => ⟨S32x256, .f32⟩
  | 74 => ⟨S32x256x1, .f32⟩
  | 75 => ⟨S_, .f32⟩
  | 76 => ⟨S32x256x1, .f32⟩
  | 77 => ⟨S32x256x1, .f32⟩
  | 78 => ⟨S32x256x1024, .f32⟩
  | 79 => ⟨S32x256x1024, .f32⟩
  | 80 => ⟨S32x256x1024, .f32⟩
  | 81 => ⟨S_, .f32⟩
  | 82 => ⟨S32x256, .f32⟩
  | 83 => ⟨S32x256x1, .f32⟩
  | 84 => ⟨S_, .f32⟩
  | 85 => ⟨S32x256x1, .f32⟩
  | 86 => ⟨S32x256x1, .f32⟩
  | 87 => ⟨S32x256x1024, .f32⟩
  | 88 => ⟨S32x256x1024, .f32⟩
  | 89 => ⟨S_, .f32⟩
  | 90 => ⟨S32x256x1, .f32⟩
  | 91 => ⟨S32x256x1, .f32⟩
  | 92 => ⟨S32x256x1, .f32⟩
  | 93 => ⟨S32x256x1024, .f32⟩
  | 94 => ⟨S32x256x1024, .f32⟩
  | 95 => ⟨S1x1x1024, .f32⟩
  | 96 => ⟨S32x256x1024, .f32⟩
  | 97 => ⟨S32x256x1024, .f32⟩
  | 98 => ⟨S1x1x1024, .f32⟩
  | 99 => ⟨S32x256x1024, .f32⟩
  | 100 => ⟨S32x256x1024, .f32⟩
  | 101 => ⟨S_, .f32⟩
  | 102 => ⟨S1x1024, .f32⟩
  | 103 => ⟨S1x1024, .f32⟩
  | 104 => ⟨S1x1x1024, .f32⟩
  | 105 => ⟨S32x256x1024, .f32⟩
  | 106 => ⟨S32x256x1024, .f32⟩
  | 107 => ⟨S1x1x1024, .f32⟩
  | 108 => ⟨S32x256x1024, .f32⟩
  | 109 => ⟨S32x256x1024, .f32⟩
  | 110 => ⟨S16x32x256, .f32⟩
  | 111 => ⟨S32x16x256, .f32⟩
  | 112 => ⟨S_, .f32⟩
  | 113 => ⟨S32x256, .f32⟩
  | 114 => ⟨S_, .f32⟩
  | 115 => ⟨S32x256, .f32⟩
  | 116 => ⟨S32x256, .f32⟩
  | 117 => ⟨S32x1x256, .f32⟩
  | 118 => ⟨S32x16x256, .f32⟩
  | 119 => ⟨S32x16x256, .f32⟩
  | 120 => ⟨S32x16x256, .f32⟩
  | 121 => ⟨S_, .f32⟩
  | 122 => ⟨S32x256, .f32⟩
  | 123 => ⟨S32x1x256, .f32⟩
  | 124 => ⟨S32x16x256, .f32⟩
  | 125 => ⟨S32x16x256, .f32⟩
  | 126 => ⟨S8192x1024, .f32⟩
  | 127 => ⟨S8192x1024, .f32⟩
  | _ => ⟨S8192x512, .f32⟩

abbrev hbmTy0_1 (i : Nat) : BufTy := match i % 128 with
  | 0 => ⟨S16x32x256, .f32⟩
  | 1 => ⟨S16x8192, .f32⟩
  | 2 => ⟨S2x6144, .f32⟩
  | 3 => ⟨S8192x512, .f32⟩
  | 4 => ⟨S2x4096x512, .f32⟩
  | 5 => ⟨S2x4096x4x128, .f32⟩
  | 6 => ⟨S2x4096x4x128, .f32⟩
  | 7 => ⟨S_, .f32⟩
  | 8 => ⟨S2x4096x4, .f32⟩
  | 9 => ⟨S2x4096x4x1, .f32⟩
  | 10 => ⟨S_, .f32⟩
  | 11 => ⟨S2x4096x4x1, .f32⟩
  | 12 => ⟨S2x4096x4x1, .f32⟩
  | 13 => ⟨S_, .f32⟩
  | 14 => ⟨S2x4096x4x1, .f32⟩
  | 15 => ⟨S2x4096x4x1, .f32⟩
  | 16 => ⟨S2x4096x4x1, .f32⟩
  | 17 => ⟨S2x4096x4x128, .f32⟩
  | 18 => ⟨S2x4096x4x128, .f32⟩
  | 19 => ⟨S4x128, .f32⟩
  | 20 => ⟨S1x1x4x128, .f32⟩
  | 21 => ⟨S2x4096x4x128, .f32⟩
  | 22 => ⟨S2x4096x4x128, .f32⟩
  | 23 => ⟨S8192x512, .f32⟩
  | 24 => ⟨S2x4096x512, .f32⟩
  | 25 => ⟨S2x4096x512, .f32⟩
  | 26 => ⟨S2x4096x512, .f32⟩
  | 27 => ⟨S2x4096x512, .f32⟩
  | 28 => ⟨S_, .f32⟩
  | 29 => ⟨S2x4096x512, .f32⟩
  | 30 => ⟨S2x4096x512, .f32⟩
  | 31 => ⟨S_, .f32⟩
  | 32 => ⟨S2x4096x512, .f32⟩
  | 33 => ⟨S2x4096x512, .f32⟩
  | 34 => ⟨S2x4096x512, .f32⟩
  | 35 => ⟨S2x4096x512, .f32⟩
  | 36 => ⟨S8192x512, .f32⟩
  | 37 => ⟨S2x4096x512, .f32⟩
  | 38 => ⟨S2x4096x1024, .f32⟩
  | 39 => ⟨S8192x1024, .f32⟩
  | 40 => ⟨S2x4096x1024, .f32⟩
  | 41 => ⟨S1x1024x1024, .f32⟩
  | 42 => ⟨S1024x1024, .f32⟩
  | 43 => ⟨S2x1x6144, .f32⟩
  | 44 => ⟨S2x1x1024, .f32⟩
  | 45 => ⟨S2x1x1024, .f32⟩
  | 46 => ⟨S2x1x1024, .f32⟩
  | 47 => ⟨S2x1x1024, .f32⟩
  | 48 => ⟨S2x1x1024, .f32⟩
  | 49 => ⟨S2x1x1024, .f32⟩
  | 50 => ⟨S_, .f32⟩
  | 51 => ⟨S2x4096x1024, .f32⟩
  | 52 => ⟨S2x4096x1024, .f32⟩
  | 53 => ⟨S2x4096x1024, .f32⟩
  | 54 => ⟨S2x4096x1024, .f32⟩
  | 55 => ⟨S2x4096x1024, .f32⟩
  | 56 => ⟨S2x4096x1024, .f32⟩
  | 57 => ⟨S_, .f32⟩
  | 58 => ⟨S2x4096, .f32⟩
  | 59 => ⟨S2x4096x1, .f32⟩
  | 60 => ⟨S_, .f32⟩
  | 61 => ⟨S2x4096x1, .f32⟩
  | 62 => ⟨S2x4096x1, .f32⟩
  | 63 => ⟨S2x4096x1024, .f32⟩
  | 64 => ⟨S2x4096x1024, .f32⟩
  | 65 => ⟨S2x4096x1024, .f32⟩
  | 66 => ⟨S_, .f32⟩
  | 67 => ⟨S2x4096, .f32⟩
  | 68 => ⟨S2x4096x1, .f32⟩
  | 69 => ⟨S_, .f32⟩
  | 70 => ⟨S2x4096x1, .f32⟩
  | 71 => ⟨S2x4096x1, .f32⟩
  | 72 => ⟨S2x4096x1024, .f32⟩
  | 73 => ⟨S2x4096x1024, .f32⟩
  | 74 => ⟨S_, .f32⟩
  | 75 => ⟨S2x4096x1, .f32⟩
  | 76 => ⟨S2x4096x1, .f32⟩
  | 77 => ⟨S2x4096x1, .f32⟩
  | 78 => ⟨S2x4096x1024, .f32⟩
  | 79 => ⟨S2x4096x1024, .f32⟩
  | 80 => ⟨S1x1x1024, .f32⟩
  | 81 => ⟨S2x4096x1024, .f32⟩
  | 82 => ⟨S2x4096x1024, .f32⟩
  | 83 => ⟨S1x1x1024, .f32⟩
  | 84 => ⟨S2x4096x1024, .f32⟩
  | 85 => ⟨S2x4096x1024, .f32⟩
  | 86 => ⟨S_, .f32⟩
  | 87 => ⟨S2x1x1024, .f32⟩
  | 88 => ⟨S2x1x1024, .f32⟩
  | 89 => ⟨S2x4096x1024, .f32⟩
  | 90 => ⟨S2x4096x1024, .f32⟩
  | 91 => ⟨S2x4096x1024, .f32⟩
  | 92 => ⟨S2x4096x1024, .f32⟩
  | 93 => ⟨S16x2x4096, .f32⟩
  | 94 => ⟨S2x16x4096, .f32⟩
  | 95 => ⟨S_, .f32⟩
  | 96 => ⟨S2x4096, .f32⟩
  | 97 => ⟨S_, .f32⟩
  | 98 => ⟨S2x4096, .f32⟩
  | 99 => ⟨S2x4096, .f32⟩
  | 100 => ⟨S2x1x4096, .f32⟩
  | 101 => ⟨S2x16x4096, .f32⟩
  | 102 => ⟨S2x16x4096, .f32⟩
  | 103 => ⟨S2x16x4096, .f32⟩
  | 104 => ⟨S_, .f32⟩
  | 105 => ⟨S2x4096, .f32⟩
  | 106 => ⟨S2x1x4096, .f32⟩
  | 107 => ⟨S2x16x4096, .f32⟩
  | 108 => ⟨S2x16x4096, .f32⟩
  | 109 => ⟨S8192x1024, .f32⟩
  | 110 => ⟨S8192x1024, .f32⟩
  | 111 => ⟨S16x2x4096, .f32⟩
  | 112 => ⟨S16x8192, .f32⟩
  | 113 => ⟨S16384x1024, .f32⟩
  | 114 => ⟨S16384x1024, .f32⟩
  | 115 => ⟨S16384x1024, .bf16⟩
  | 116 => ⟨S16x16384, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_2 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_3 : Ref sig .tc := ⟨.hbm, 72, rfl⟩
abbrev main_v46 : Ref sig .tc := ⟨.hbm, 73, rfl⟩
abbrev main_v47 : Ref sig .tc := ⟨.hbm, 74, rfl⟩
abbrev main_cst_4 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_5 : Ref sig .tc := ⟨.hbm, 81, rfl⟩
abbrev main_v53 : Ref sig .tc := ⟨.hbm, 82, rfl⟩
abbrev main_v54 : Ref sig .tc := ⟨.hbm, 83, rfl⟩
abbrev main_cst_6 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_7 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_8 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_9 : Ref sig .tc := ⟨.hbm, 112, rfl⟩
abbrev main_v80 : Ref sig .tc := ⟨.hbm, 113, rfl⟩
abbrev main_cst_10 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_11 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_cst_12 : Ref sig .tc := ⟨.hbm, 135, rfl⟩
abbrev main_v100 : Ref sig .tc := ⟨.hbm, 136, rfl⟩
abbrev main_v101 : Ref sig .tc := ⟨.hbm, 137, rfl⟩
abbrev main_cst_13 : Ref sig .tc := ⟨.hbm, 138, rfl⟩
abbrev main_v102 : Ref sig .tc := ⟨.hbm, 139, rfl⟩
abbrev main_v103 : Ref sig .tc := ⟨.hbm, 140, rfl⟩
abbrev main_cst_14 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_call1_v0 : Ref sig .tc := ⟨.hbm, 154, rfl⟩
abbrev main_call1_v1 : Ref sig .tc := ⟨.hbm, 155, rfl⟩
abbrev main_call1_cst : Ref sig .tc := ⟨.hbm, 156, rfl⟩
abbrev main_call1_v2 : Ref sig .tc := ⟨.hbm, 157, rfl⟩
abbrev main_call1_v3 : Ref sig .tc := ⟨.hbm, 158, rfl⟩
abbrev main_call1_cst_0 : Ref sig .tc := ⟨.hbm, 159, rfl⟩
abbrev main_call1_v4 : Ref sig .tc := ⟨.hbm, 160, rfl⟩
abbrev main_call1_v5 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_cst_15 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_cst_16 : Ref sig .tc := ⟨.hbm, 185, rfl⟩
abbrev main_v138 : Ref sig .tc := ⟨.hbm, 186, rfl⟩
abbrev main_v139 : Ref sig .tc := ⟨.hbm, 187, rfl⟩
abbrev main_cst_17 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_cst_18 : Ref sig .tc := ⟨.hbm, 194, rfl⟩
abbrev main_v145 : Ref sig .tc := ⟨.hbm, 195, rfl⟩
abbrev main_v146 : Ref sig .tc := ⟨.hbm, 196, rfl⟩
abbrev main_cst_19 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_cst_20 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_cst_21 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_cst_22 : Ref sig .tc := ⟨.hbm, 223, rfl⟩
abbrev main_v170 : Ref sig .tc := ⟨.hbm, 224, rfl⟩
abbrev main_cst_23 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_cst_24 : Ref sig .tc := ⟨.hbm, 232, rfl⟩
abbrev main_v177 : Ref sig .tc := ⟨.hbm, 233, rfl⟩
abbrev main_v178 : Ref sig .tc := ⟨.hbm, 234, rfl⟩
abbrev main_v179 : Ref sig .tc := ⟨.hbm, 235, rfl⟩
abbrev main_v180 : Ref sig .tc := ⟨.hbm, 236, rfl⟩
abbrev main_v181 : Ref sig .tc := ⟨.hbm, 237, rfl⟩
abbrev main_v182 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩

abbrev nD : Nat := 1
abbrev τ : Topo := Topo.v7x

variable {F : FTy → Type} [FloatOps F]
-- ==== Kernel6.lean ====
abbrev S16384x16 : Shape := ⟨2, ![16384, 16]⟩
abbrev S16x2048x1024 : Shape := ⟨3, ![16, 2048, 1024]⟩
abbrev S16384x1024 : Shape := ⟨2, ![16384, 1024]⟩
abbrev S3x6x1024 : Shape := ⟨3, ![3, 6, 1024]⟩
abbrev S1024 : Shape := ⟨1, ![1024]⟩
abbrev S1x1024 : Shape := ⟨2, ![1, 1024]⟩
abbrev S512x16 : Shape := ⟨2, ![512, 16]⟩
abbrev S16x64x1024 : Shape := ⟨3, ![16, 64, 1024]⟩
abbrev S16x512x1024 : Shape := ⟨3, ![16, 512, 1024]⟩
abbrev S512x1024 : Shape := ⟨2, ![512, 1024]⟩
abbrev S1x6x1024 : Shape := ⟨3, ![1, 6, 1024]⟩
abbrev S16x512 : Shape := ⟨2, ![16, 512]⟩
abbrev S256x512 : Shape := ⟨2, ![256, 512]⟩
abbrev S256x16 : Shape := ⟨2, ![256, 16]⟩
abbrev S16x32x1024 : Shape := ⟨3, ![16, 32, 1024]⟩
abbrev S256x1024 : Shape := ⟨2, ![256, 1024]⟩
abbrev S1x1x1024 : Shape := ⟨3, ![1, 1, 1024]⟩
abbrev S512 : Shape := ⟨1, ![512]⟩
abbrev S512x1 : Shape := ⟨2, ![512, 1]⟩
abbrev S512x512 : Shape := ⟨2, ![512, 512]⟩
abbrev S1x512x1024 : Shape := ⟨3, ![1, 512, 1024]⟩

abbrev nBuf : Space → Nat
  | .hbm => 10
  | .vmem => 16
  | .smem => 0
  | _ => 0

abbrev bufTy : (tb : Table) → Fin (tcTables nBuf tb) → BufTy
  | .hbm, ⟨0, _⟩ => ⟨S16384x16, .i32⟩
  | .hbm, ⟨1, _⟩ => ⟨S16384x16, .f32⟩
  | .hbm, ⟨2, _⟩ => ⟨S16x2048x1024, .bf16⟩
  | .hbm, ⟨3, _⟩ => ⟨S16384x1024, .f32⟩
  | .hbm, ⟨4, _⟩ => ⟨S3x6x1024, .f32⟩
  | .hbm, ⟨5, _⟩ => ⟨S1024, .f32⟩
  | .hbm, ⟨6, _⟩ => ⟨S1024, .f32⟩
  | .hbm, ⟨7, _⟩ => ⟨S1x1024, .f32⟩
  | .hbm, ⟨8, _⟩ => ⟨S1x1024, .f32⟩
  | .hbm, ⟨9, _⟩ => ⟨S16384x1024, .f32⟩
  | .local _ .vmem, ⟨0, _⟩ => ⟨S512x16, .i32⟩
  | .local _ .vmem, ⟨1, _⟩ => ⟨S512x16, .i32⟩
  | .local _ .vmem, ⟨2, _⟩ => ⟨S512x16, .f32⟩
  | .local _ .vmem, ⟨3, _⟩ => ⟨S512x16, .f32⟩
  | .local _ .vmem, ⟨4, _⟩ => ⟨S16x64x1024, .bf16⟩
  | .local _ .vmem, ⟨5, _⟩ => ⟨S16x64x1024, .bf16⟩
  | .local _ .vmem, ⟨6, _⟩ => ⟨S16x512x1024, .bf16⟩
  | .local _ .vmem, ⟨7, _⟩ => ⟨S16x512x1024, .bf16⟩
  | .local _ .vmem, ⟨8, _⟩ => ⟨S512x1024, .f32⟩
  | .local _ .vmem, ⟨9, _⟩ => ⟨S512x1024, .f32⟩
  | .local _ .vmem, ⟨10, _⟩ => ⟨S1x6x1024, .f32⟩
  | .local _ .vmem, ⟨11, _⟩ => ⟨S1x6x1024, .f32⟩
  | .local _ .vmem, ⟨12, _⟩ => ⟨S1x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | _, _ => ⟨S16384x16, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c16_i32_0 : BitVec 32 := 16#32
  let v3 : BitVec 1 := Scalar.cmpi .sge arg0 c16_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 3 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c2_i32 : BitVec 32 := 2#32
  let v19 : BitVec 32 := Scalar.addi c2_i32 v18
  let c0_i32_5 : BitVec 32 := 0#32
  let c0_i32_6 : BitVec 32 := 0#32
  let c0_i32_7 : BitVec 32 := 0#32
  ![c0_i32_5.toNat, v19.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x16 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference6Ideal.lean ====
abbrev S16384x16 : Shape := ⟨2, ![16384, 16]⟩
abbrev S16x2048x1024 : Shape := ⟨3, ![16, 2048, 1024]⟩
abbrev S16384x1024 : Shape := ⟨2, ![16384, 1024]⟩
abbrev S3x6x1024 : Shape := ⟨3, ![3, 6, 1024]⟩
abbrev S1024 : Shape := ⟨1, ![1024]⟩
abbrev S3x6144 : Shape := ⟨2, ![3, 6144]⟩
abbrev S1x6144 : Shape := ⟨2, ![1, 6144]⟩
abbrev S6144 : Shape := ⟨1, ![6144]⟩
abbrev S16x1024x1024 : Shape := ⟨3, ![16, 1024, 1024]⟩
abbrev S8192x16 : Shape := ⟨2, ![8192, 16]⟩
abbrev S32x256x16 : Shape := ⟨3, ![32, 256, 16]⟩
abbrev S_ : Shape := ⟨0, ![]⟩
abbrev S16 : Shape := ⟨1, ![16]⟩
abbrev S32 : Shape := ⟨1, ![32]⟩
abbrev S32x1x1 : Shape := ⟨3, ![32, 1, 1]⟩
abbrev S1x1x16 : Shape := ⟨3, ![1, 1, 16]⟩
abbrev S32x1x16 : Shape := ⟨3, ![32, 1, 16]⟩
abbrev S131072 : Shape := ⟨1, ![131072]⟩
abbrev S131072x1 : Shape := ⟨2, ![131072, 1]⟩
abbrev S131072x1024 : Shape := ⟨2, ![131072, 1024]⟩
abbrev S32x256x16x1 : Shape := ⟨4, ![32, 256, 16, 1]⟩
abbrev S32x256x16x1024 : Shape := ⟨4, ![32, 256, 16, 1024]⟩
abbrev S32x256x1024 : Shape := ⟨3, ![32, 256, 1024]⟩
abbrev S1x1024 : Shape := ⟨2, ![1, 1024]⟩
abbrev S8192x1024 : Shape := ⟨2, ![8192, 1024]⟩
abbrev S1x1x1024 : Shape := ⟨3, ![1, 1, 1024]⟩
abbrev S32x256 : Shape := ⟨2, ![32, 256]⟩
abbrev S32x256x1 : Shape := ⟨3, ![32, 256, 1]⟩
abbrev S2x6144 : Shape := ⟨2, ![2, 6144]⟩
abbrev S2x4096x16 : Shape := ⟨3, ![2, 4096, 16]⟩
abbrev S2 : Shape := ⟨1, ![2]⟩
abbrev S2x1x1 : Shape := ⟨3, ![2, 1, 1]⟩
abbrev S2x1x16 : Shape := ⟨3, ![2, 1, 16]⟩
abbrev S2x4096x16x1 : Shape := ⟨4, ![2, 4096, 16, 1]⟩
abbrev S2x4096x16x1024 : Shape := ⟨4, ![2, 4096, 16, 1024]⟩
abbrev S2x4096x1024 : Shape := ⟨3, ![2, 4096, 1024]⟩
abbrev S2x1x6144 : Shape := ⟨3, ![2, 1, 6144]⟩
abbrev S2x1x1024 : Shape := ⟨3, ![2, 1, 1024]⟩
abbrev S2x4096 : Shape := ⟨2, ![2, 4096]⟩
abbrev S2x4096x1 : Shape := ⟨3, ![2, 4096, 1]⟩

abbrev nBuf : Space → Nat
  | .hbm => 203
  | .vmem => 0
  | .smem => 0
  | _ => 0

abbrev hbmTy0_0 (i : Nat) : BufTy := match i % 128 with
  | 0 => ⟨S16384x16, .i32⟩
  | 1 => ⟨S16384x16, .f32⟩
  | 2 => ⟨S16x2048x1024, .bf16⟩
  | 3 => ⟨S16384x1024, .f32⟩
  | 4 => ⟨S3x6x1024, .f32⟩
  | 5 => ⟨S1024, .f32⟩
  | 6 => ⟨S1024, .f32⟩
  | 7 => ⟨S3x6144, .f32⟩
  | 8 => ⟨S1x6144, .f32⟩
  | 9 => ⟨S6144, .f32⟩
  | 10 => ⟨S16x1024x1024, .bf16⟩
  | 11 => ⟨S16x1024x1024, .f32⟩
  | 12 => ⟨S16384x1024, .f32⟩
  | 13 => ⟨S8192x16, .i32⟩
  | 14 => ⟨S32x256x16, .i32⟩
  | 15 => ⟨S_, .i32⟩
  | 16 => ⟨S32x256x16, .i32⟩
  | 17 => ⟨S32x256x16, .i1⟩
  | 18 => ⟨S_, .i32⟩
  | 19 => ⟨S32x256x16, .i32⟩
  | 20 => ⟨S32x256x16, .i1⟩
  | 21 => ⟨S32x256x16, .i1⟩
  | 22 => ⟨S8192x16, .f32⟩
  | 23 => ⟨S32x256x16, .f32⟩
  | 24 => ⟨S_, .f32⟩
  | 25 => ⟨S_, .f32⟩
  | 26 => ⟨S32x256x16, .f32⟩
  | 27 => ⟨S32x256x16, .f32⟩
  | 28 => ⟨S16, .i32⟩
  | 29 => ⟨S_, .i32⟩
  | 30 => ⟨S16, .i32⟩
  | 31 => ⟨S16, .i32⟩
  | 32 => ⟨S32, .i32⟩
  | 33 => ⟨S32x1x1, .i32⟩
  | 34 => ⟨S1x1x16, .i32⟩
  | 35 => ⟨S32x1x16, .i32⟩
  | 36 => ⟨S32x1x16, .i32⟩
  | 37 => ⟨S32x1x16, .i32⟩
  | 38 => ⟨S_, .i32⟩
  | 39 => ⟨S32x1x16, .i32⟩
  | 40 => ⟨S32x1x16, .i32⟩
  | 41 => ⟨S_, .i32⟩
  | 42 => ⟨S_, .i32⟩
  | 43 => ⟨S_, .i32⟩
  | 44 => ⟨S32x256x16, .i32⟩
  | 45 => ⟨S32x256x16, .i32⟩
  | 46 => ⟨S_, .i32⟩
  | 47 => ⟨S32x256x16, .i32⟩
  | 48 => ⟨S32x256x16, .i32⟩
  | 49 => ⟨S32x256x16, .i32⟩
  | 50 => ⟨S32x256x16, .i32⟩
  | 51 => ⟨S131072, .i32⟩
  | 52 => ⟨S131072x1, .i32⟩
  | 53 => ⟨S131072x1024, .f32⟩
  | 54 => ⟨S32x256x16x1, .f32⟩
  | 55 => ⟨S32x256x16x1024, .f32⟩
  | 56 => ⟨S32x256x16x1024, .f32⟩
  | 57 => ⟨S32x256x16x1024, .f32⟩
  | 58 => ⟨S_, .f32⟩
  | 59 => ⟨S32x256x1024, .f32⟩
  | 60 => ⟨S1x6144, .f32⟩
  | 61 => ⟨S1x1024, .f32⟩
  | 62 => ⟨S1x1024, .f32⟩
  | 63 => ⟨S1x1024, .f32⟩
  | 64 => ⟨S1x1024, .f32⟩
  | 65 => ⟨S1x1024, .f32⟩
  | 66 => ⟨S1x1024, .f32⟩
  | 67 => ⟨S8192x1024, .f32⟩
  | 68 => ⟨S32x256x1024, .f32⟩
  | 69 => ⟨S_, .f32⟩
  | 70 => ⟨S32x256x1024, .f32⟩
  | 71 => ⟨S32x256x1024, .f32⟩
  | 72 => ⟨S1x1x1024, .f32⟩
  | 73 => ⟨S32x256x1024, .f32⟩
  | 74 => ⟨S32x256x1024, .f32⟩
  | 75 => ⟨S32x256x1024, .f32⟩
  | 76 => ⟨S_, .f32⟩
  | 77 => ⟨S32x256, .f32⟩
  | 78 => ⟨S32x256x1, .f32⟩
  | 79 => ⟨S_, .f32⟩
  | 80 => ⟨S32x256x1, .f32⟩
  | 81 => ⟨S32x256x1, .f32⟩
  | 82 => ⟨S32x256x1024, .f32⟩
  | 83 => ⟨S32x256x1024, .f32⟩
  | 84 => ⟨S32x256x1024, .f32⟩
  | 85 => ⟨S_, .f32⟩
  | 86 => ⟨S32x256, .f32⟩
  | 87 => ⟨S32x256x1, .f32⟩
  | 88 => ⟨S_, .f32⟩
  | 89 => ⟨S32x256x1, .f32⟩
  | 90 => ⟨S32x256x1, .f32⟩
  | 91 => ⟨S32x256x1024, .f32⟩
  | 92 => ⟨S32x256x1024, .f32⟩
  | 93 => ⟨S_, .f32⟩
  | 94 => ⟨S32x256x1, .f32⟩
  | 95 => ⟨S32x256x1, .f32⟩
  | 96 => ⟨S32x256x1, .f32⟩
  | 97 => ⟨S32x256x1024, .f32⟩
  | 98 => ⟨S32x256x1024, .f32⟩
  | 99 => ⟨S1x1x1024, .f32⟩
  | 100 => ⟨S32x256x1024, .f32⟩
  | 101 => ⟨S32x256x1024, .f32⟩
  | 102 => ⟨S1x1x1024, .f32⟩
  | 103 => ⟨S32x256x1024, .f32⟩
  | 104 => ⟨S32x256x1024, .f32⟩
  | 105 => ⟨S8192x1024, .f32⟩
  | 106 => ⟨S2x6144, .f32⟩
  | 107 => ⟨S16x1024x1024, .bf16⟩
  | 108 => ⟨S16x1024x1024, .f32⟩
  | 109 => ⟨S16384x1024, .f32⟩
  | 110 => ⟨S8192x16, .i32⟩
  | 111 => ⟨S2x4096x16, .i32⟩
  | 112 => ⟨S_, .i32⟩
  | 113 => ⟨S2x4096x16, .i32⟩
  | 114 => ⟨S2x4096x16, .i1⟩
  | 115 => ⟨S_, .i32⟩
  | 116 => ⟨S2x4096x16, .i32⟩
  | 117 => ⟨S2x4096x16, .i1⟩
  | 118 => ⟨S2x4096x16, .i1⟩
  | 119 => ⟨S8192x16, .f32⟩
  | 120 => ⟨S2x4096x16, .f32⟩
  | 121 => ⟨S_, .f32⟩
  | 122 => ⟨S_, .f32⟩
  | 123 => ⟨S2x4096x16, .f32⟩
  | 124 => ⟨S2x4096x16, .f32⟩
  | 125 => ⟨S16, .i32⟩
  | 126 => ⟨S_, .i32⟩
  | 127 => ⟨S16, .i32⟩
  | _ => ⟨S16384x16, .i32⟩

abbrev hbmTy0_1 (i : Nat) : BufTy := match i % 128 with
  | 0 => ⟨S16, .i32⟩
  | 1 => ⟨S2, .i32⟩
  | 2 => ⟨S2x1x1, .i32⟩
  | 3 => ⟨S1x1x16, .i32⟩
  | 4 => ⟨S2x1x16, .i32⟩
  | 5 => ⟨S2x1x16, .i32⟩
  | 6 => ⟨S2x1x16, .i32⟩
  | 7 => ⟨S_, .i32⟩
  | 8 => ⟨S2x1x16, .i32⟩
  | 9 => ⟨S2x1x16, .i32⟩
  | 10 => ⟨S_, .i32⟩
  | 11 => ⟨S_, .i32⟩
  | 12 => ⟨S_, .i32⟩
  | 13 => ⟨S2x4096x16, .i32⟩
  | 14 => ⟨S2x4096x16, .i32⟩
  | 15 => ⟨S_, .i32⟩
  | 16 => ⟨S2x4096x16, .i32⟩
  | 17 => ⟨S2x4096x16, .i32⟩
  | 18 => ⟨S2x4096x16, .i32⟩
  | 19 => ⟨S2x4096x16, .i32⟩
  | 20 => ⟨S131072, .i32⟩
  | 21 => ⟨S131072x1, .i32⟩
  | 22 => ⟨S131072x1024, .f32⟩
  | 23 => ⟨S2x4096x16x1, .f32⟩
  | 24 => ⟨S2x4096x16x1024, .f32⟩
  | 25 => ⟨S2x4096x16x1024, .f32⟩
  | 26 => ⟨S2x4096x16x1024, .f32⟩
  | 27 => ⟨S_, .f32⟩
  | 28 => ⟨S2x4096x1024, .f32⟩
  | 29 => ⟨S2x1x6144, .f32⟩
  | 30 => ⟨S2x1x1024, .f32⟩
  | 31 => ⟨S2x1x1024, .f32⟩
  | 32 => ⟨S2x1x1024, .f32⟩
  | 33 => ⟨S2x1x1024, .f32⟩
  | 34 => ⟨S2x1x1024, .f32⟩
  | 35 => ⟨S2x1x1024, .f32⟩
  | 36 => ⟨S8192x1024, .f32⟩
  | 37 => ⟨S2x4096x1024, .f32⟩
  | 38 => ⟨S_, .f32⟩
  | 39 => ⟨S2x4096x1024, .f32⟩
  | 40 => ⟨S2x4096x1024, .f32⟩
  | 41 => ⟨S2x4096x1024, .f32⟩
  | 42 => ⟨S2x4096x1024, .f32⟩
  | 43 => ⟨S2x4096x1024, .f32⟩
  | 44 => ⟨S_, .f32⟩
  | 45 => ⟨S2x4096, .f32⟩
  | 46 => ⟨S2x4096x1, .f32⟩
  | 47 => ⟨S_, .f32⟩
  | 48 => ⟨S2x4096x1, .f32⟩
  | 49 => ⟨S2x4096x1, .f32⟩
  | 50 => ⟨S2x4096x1024, .f32⟩
  | 51 => ⟨S2x4096x1024, .f32⟩
  | 52 => ⟨S2x4096x1024, .f32⟩
  | 53 => ⟨S_, .f32⟩
  | 54 => ⟨S2x4096, .f32⟩
  | 55 => ⟨S2x4096x1, .f32⟩
  | 56 => ⟨S_, .f32⟩
  | 57 => ⟨S2x4096x1, .f32⟩
  | 58 => ⟨S2x4096x1, .f32⟩
  | 59 => ⟨S2x4096x1024, .f32⟩
  | 60 => ⟨S2x4096x1024, .f32⟩
  | 61 => ⟨S_, .f32⟩
  | 62 => ⟨S2x4096x1, .f32⟩
  | 63 => ⟨S2x4096x1, .f32⟩
  | 64 => ⟨S2x4096x1, .f32⟩
  | 65 => ⟨S2x4096x1024, .f32⟩
  | 66 => ⟨S2x4096x1024, .f32⟩
  | 67 => ⟨S1x1x1024, .f32⟩
  | 68 => ⟨S2x4096x1024, .f32⟩
  | 69 => ⟨S2x4096x1024, .f32⟩
  | 70 => ⟨S1x1x1024, .f32⟩
  | 71 => ⟨S2x4096x1024, .f32⟩
  | 72 => ⟨S2x4096x1024, .f32⟩
  | 73 => ⟨S8192x1024, .f32⟩
  | 74 => ⟨S16384x1024, .f32⟩
  | _ => ⟨S16384x16, .i32⟩

abbrev hbmTy (i : Nat) : BufTy := match i / 128 with
  | 0 => hbmTy0_0 i
  | 1 => hbmTy0_1 i
  | _ => ⟨S16384x16, .i32⟩

abbrev bufTy : (tb : Table) → Fin (tcTables nBuf tb) → BufTy
  | .hbm, ⟨i, _⟩ => hbmTy i
  | _, _ => ⟨S16384x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_v16 : Ref sig .tc := ⟨.hbm, 28, rfl⟩
abbrev main_c_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_2 : Ref sig .tc := ⟨.hbm, 38, rfl⟩
abbrev main_v25 : Ref sig .tc := ⟨.hbm, 39, rfl⟩
abbrev main_v26 : Ref sig .tc := ⟨.hbm, 40, rfl⟩
abbrev main_c_3 : Ref sig .tc := ⟨.hbm, 41, rfl⟩
abbrev main_c_4 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_call2_v0 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_5 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_6 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_7 : Ref sig .tc := ⟨.hbm, 76, rfl⟩
abbrev main_v52 : Ref sig .tc := ⟨.hbm, 77, rfl⟩
abbrev main_v53 : Ref sig .tc := ⟨.hbm, 78, rfl⟩
abbrev main_cst_8 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_9 : Ref sig .tc := ⟨.hbm, 85, rfl⟩
abbrev main_v59 : Ref sig .tc := ⟨.hbm, 86, rfl⟩
abbrev main_v60 : Ref sig .tc := ⟨.hbm, 87, rfl⟩
abbrev main_cst_10 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_11 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_c_12 : Ref sig .tc := ⟨.hbm, 112, rfl⟩
abbrev main_v83 : Ref sig .tc := ⟨.hbm, 113, rfl⟩
abbrev main_v84 : Ref sig .tc := ⟨.hbm, 114, rfl⟩
abbrev main_c_13 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_cst_14 : Ref sig .tc := ⟨.hbm, 121, rfl⟩
abbrev main_call3_v0 : Ref sig .tc := ⟨.hbm, 122, rfl⟩
abbrev main_call3_v1 : Ref sig .tc := ⟨.hbm, 123, rfl⟩
abbrev main_v90 : Ref sig .tc := ⟨.hbm, 124, rfl⟩
abbrev main_v91 : Ref sig .tc := ⟨.hbm, 125, rfl⟩
abbrev main_c_15 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_c_16 : Ref sig .tc := ⟨.hbm, 135, rfl⟩
abbrev main_v100 : Ref sig .tc := ⟨.hbm, 136, rfl⟩
abbrev main_v101 : Ref sig .tc := ⟨.hbm, 137, rfl⟩
abbrev main_c_17 : Ref sig .tc := ⟨.hbm, 138, rfl⟩
abbrev main_c_18 : Ref sig .tc := ⟨.hbm, 139, rfl⟩
abbrev main_call4_v0 : Ref sig .tc := ⟨.hbm, 140, rfl⟩
abbrev main_call4_v1 : Ref sig .tc := ⟨.hbm, 141, rfl⟩
abbrev main_call4_v2 : Ref sig .tc := ⟨.hbm, 142, rfl⟩
abbrev main_call4_v3 : Ref sig .tc := ⟨.hbm, 143, rfl⟩
abbrev main_call4_v4 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_call5_v0 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_cst_19 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_cst_20 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_cst_21 : Ref sig .tc := ⟨.hbm, 172, rfl⟩
abbrev main_v126 : Ref sig .tc := ⟨.hbm, 173, rfl⟩
abbrev main_v127 : Ref sig .tc := ⟨.hbm, 174, rfl⟩
abbrev main_cst_22 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_cst_23 : Ref sig .tc := ⟨.hbm, 181, rfl⟩
abbrev main_v133 : Ref sig .tc := ⟨.hbm, 182, rfl⟩
abbrev main_v134 : Ref sig .tc := ⟨.hbm, 183, rfl⟩
abbrev main_cst_24 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_cst_25 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩

abbrev nD : Nat := 1
abbrev τ : Topo := Topo.v7x

variable {F : FTy → Type} [FloatOps F]
-- ==== Proof.Frames.lean ====
/-
  The frames of the references: each run ends with the arguments as they were and every counter at zero.
-/
module

public import proofs.«01_k».proof.Defs
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import Idealize.ShloMosaic.Lib.Quiescent

@[expose] public section

noncomputable section

namespace Cert.Frames

open Idealize.ShloMosaic Idealize.ShloMosaic.TcCoe Idealize.SL.Sem

/-- The retention reference ends with its arguments unchanged and every counter at zero. -/
theorem retention : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The expert reference ends with its arguments unchanged and every counter at zero. -/
theorem expert : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The projection reference ends with its arguments unchanged and every counter at zero. -/
theorem inProj : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The odd mixer's end reference ends with its arguments unchanged and every counter at zero. -/
theorem postOdd : Cert.quiescent_Reference4Ideal := fun m ρ _ =>
  (θ_run Cert.Reference4Ideal.defs _ _).mono (fun r h => ⟨fun c => (h c).2.2.2, sem_eq_zero_of_no_sems (by decide) r.2⟩)
    (Cert.Reference4Ideal.Value.run (F := Ideal) m ρ)

/-- The even mixer's end reference ends with its arguments unchanged and every counter at zero. -/
theorem postEven : Cert.quiescent_Reference5Ideal := fun m ρ _ =>
  (θ_run Cert.Reference5Ideal.defs _ _).mono (fun r h => ⟨fun c => (h c).2.2.2, sem_eq_zero_of_no_sems (by decide) r.2⟩)
    (Cert.Reference5Ideal.Value.run (F := Ideal) m ρ)

/-- The combine reference ends with its arguments unchanged and every counter at zero. -/
theorem combine : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

end Cert.Frames

end
-- ==== Proof.ExpertBlock.lean ====
/-
  The expert feed-forward kernel: what its result array holds.

  Grid point (e, t) multiplies tile t of expert e's 2048 token rows with the expert's three weight matrices. The
  first two tiles are rows of the prompt's gathered tokens, the last two rows of the sample's. Every point writes its
  own block, the blocks tile the result, and each is a block of one function of the arguments, `ffn`.
-/
module

public import proofs.«01_k».proof.Proof.Gen.Kernel2Ideal.Value
public import Idealize.ShloMosaic.Lib.Pipeline.ValueKit
public import Idealize.ShloMosaic.Lib.Pointwise

@[expose] public section

set_option maxRecDepth 16384

noncomputable section

namespace Cert.Expert

open Cert.Kernel2Ideal Cert.Kernel2Ideal.Gen Idealize.ShloMosaic Idealize.ShloMosaic.TcCoe Idealize.SL.Sem
open Idealize.ShloMosaic.Pipeline (Dat)

/-- Row `r` of expert `e`'s 2048 tokens at feature `k`: the prompt's rows first, then the sample's. -/
def token (x y : S16x1024x1024.Idx → EReal) (e : Fin 16) (r : Fin 2048) (k : Fin 1024) : EReal :=
  if h : r.val < 1024 then x (ix3 e ⟨r.val, h⟩ k) else y (ix3 e ⟨r.val - 1024, by omega⟩ k)

/-- A token row against column `f` of the expert's matrix in layer 0 of `w`. -/
def proj (w : S4x16x1024x1408.Idx → EReal) (x y : S16x1024x1024.Idx → EReal) (e : Fin 16) (r : Fin 2048)
    (f : Fin 1408) : EReal :=
  ∑ k : Fin 1024, token x y e r k * w (ix4 0 e k f)

/-- The gated hidden unit `f` of a token: `silu (x · w1) · (x · w3)`. -/
def hidden (x y : S16x1024x1024.Idx → EReal) (w1 w3 : S4x16x1024x1408.Idx → EReal) (e : Fin 16) (r : Fin 2048)
    (f : Fin 1408) : EReal :=
  proj w1 x y e r f * Ideal.logistic (proj w1 x y e r f) * proj w3 x y e r f

/-- The expert's output: the hidden units against its third matrix. -/
def ffn (x y : S16x1024x1024.Idx → EReal) (w1 w3 : S4x16x1024x1408.Idx → EReal) (w2 : S4x16x1408x1024.Idx → EReal) :
    S16x2048x1024.Idx → EReal := fun i =>
  ∑ f : Fin 1408, hidden x y w1 w3 (i 0) (i 1) f * w2 (ix4 0 (i 0) f (i 2))

variable (m : (ℓ : Loc nD τ sig) → Buf (Elt Ideal) ℓ) (ρ : Dev nD → PrngReg)

/-- Where each window's block lies at a grid point: the expert is the outer coordinate, the tile the inner one. -/
theorem idx : ∀ t : Fin cfg0.N,
    win0_0.index t = ![(grid0.coords t 0).val, min (grid0.coords t 1).val 1, 0]
    ∧ win0_1.index t = ![(grid0.coords t 0).val, (grid0.coords t 1).val - 2, 0]
    ∧ win0_2.index t = ![0, (grid0.coords t 0).val, 0, 0]
    ∧ win0_3.index t = ![0, (grid0.coords t 0).val, 0, 0]
    ∧ win0_4.index t = ![0, (grid0.coords t 0).val, 0, 0]
    ∧ win0_5.index t = ![(grid0.coords t 0).val, (grid0.coords t 1).val, 0] :=
  (by decide +kernel : ∀ t : Fin grid0.N, _)

/-- A grid point's coordinates are below 16 and 4. -/
theorem coords_lt (t : Fin cfg0.N) : (grid0.coords t 0).val < 16 ∧ (grid0.coords t 1).val < 4 :=
  ⟨(grid0.coords t 0).isLt, (grid0.coords t 1).isLt⟩

/-- The kernel's choice between its two token blocks is by the tile's number: below 2, the prompt's. -/
theorem pick (t : Fin cfg0.N) (a b : EReal) :
    Scalar.select (Scalar.cmpi .slt (BitVec.ofNat 32 (grid0.coords t 1).val) 2#32) a b
      = if (grid0.coords t 1).val < 2 then a else b := by
  have key : ∀ j : Fin 4, Scalar.cmpi .slt (BitVec.ofNat 32 j.val) 2#32 = if j.val < 2 then 1#1 else 0#1 := by decide
  have h := key ⟨(grid0.coords t 1).val, (coords_lt t).2⟩
  dsimp only at h
  rw [h]
  split <;> rfl

/-- The row that a point's block chooses is the row of the expert's 2048 tokens at that tile. -/
theorem token_block (c : Dev nD) (t : Fin cfg0.N) (r : Fin 512) (k : Fin 1024) :
    (Scalar.select (Scalar.cmpi .slt (BitVec.ofNat 32 (grid0.coords t 1).val) 2#32)
        (iblk m c 0 t (ix3 0 r k)) (iblk m c 1 t (ix3 0 r k)) : EReal)
      = token (m ((c : Thread nD τ).loc main_arg0)) (m ((c : Thread nD τ).loc main_arg1))
          ⟨(grid0.coords t 0).val, (coords_lt t).1⟩ ⟨(grid0.coords t 1).val * 512 + r.val, by have := coords_lt t; omega⟩ k := by
  have ht := coords_lt t
  rw [pick]
  unfold token
  by_cases h : (grid0.coords t 1).val < 2
  · rw [if_pos h, dif_pos (by dsimp only; omega)]
    blk_ext [iblk, V, idx t]
  · rw [if_neg h, dif_neg (by dsimp only; omega)]
    blk_ext [iblk, V, idx t]

/-- The result array after the run: the feed-forward function of the five arguments. -/
theorem final (c : Dev nD) : (dats m 0 c).arrAt 5 cfg0.N =
    ffn (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t hf y => ?_
  have ht := coords_lt t
  obtain ⟨u, r, d, rfl⟩ : ∃ (u : Fin 1) (r : Fin 512) (d : Fin 1024), y = ix3 u r d := ⟨y 0, y 1, y 2, eq_ix3 y⟩
  have hi : (((cfg0.win 5).blk t).view.emb (ix3 u r d) : S16x2048x1024.Idx)
      = ix3 ⟨(grid0.coords t 0).val, ht.1⟩ ⟨(grid0.coords t 1).val * 512 + r.val, by omega⟩ d := by
    blk_ext [idx t]
  rw [hi]
  blk_simp
  rw [after0_5]
  frame_out
  pointwise [k0_pay1]
  have hw1 : ∀ (k : Fin 1024) (f : Fin 1408), iblk m c 2 t (ix4 0 0 k f)
      = m ((c : Thread nD τ).loc main_arg2) (ix4 0 ⟨(grid0.coords t 0).val, ht.1⟩ k f) := fun k f => by blk_ext [iblk, V, idx t]
  have hw3 : ∀ (k : Fin 1024) (f : Fin 1408), iblk m c 3 t (ix4 0 0 k f)
      = m ((c : Thread nD τ).loc main_arg3) (ix4 0 ⟨(grid0.coords t 0).val, ht.1⟩ k f) := fun k f => by blk_ext [iblk, V, idx t]
  have hw2 : ∀ (f : Fin 1408) (d : Fin 1024), iblk m c 4 t (ix4 0 0 f d)
      = m ((c : Thread nD τ).loc main_arg4) (ix4 0 ⟨(grid0.coords t 0).val, ht.1⟩ f d) := fun f d => by blk_ext [iblk, V, idx t]
  simp only [token_block m c t, hw1, hw2, hw3]
  rfl

end Cert.Expert

end
-- ==== Proof.Expert.lean ====
/-
  The expert feed-forward claim: the reference computes the same function `ffn` of the arguments, so the kernel's
  result array and the reference's are equal.
-/
module

public import proofs.«01_k».proof.Defs
public import proofs.«01_k».proof.Proof.ExpertBlock
public import proofs.«01_k».proof.Proof.Gen.Reference2Ideal.Read

@[expose] public section

set_option maxRecDepth 16384

noncomputable section

namespace Cert.Expert

open Idealize.ShloMosaic Idealize.ShloMosaic.TcCoe Idealize.SL.Sem Cert.Reference2Ideal.Read

/-- The reference's gathered tokens, at an index. -/
theorem token_ref (x y : Reference2Ideal.S16x1024x1024.Idx → EReal) (e : Fin 16) (r : Fin 2048) (k : Fin 1024) :
    val_main_v2 (F := Ideal) x y (ix3 e r k) = token x y e r k := by
  unfold token
  pointwise [val_main_v2, val_main_v0, val_main_v1]

/-- The reference's result is `ffn` of its arguments. -/
theorem reference (x y : Reference2Ideal.S16x1024x1024.Idx → EReal) (w1 w3 : Reference2Ideal.S4x16x1024x1408.Idx → EReal)
    (w2 : Reference2Ideal.S4x16x1408x1024.Idx → EReal) :
    val_main_v14 (F := Ideal) x y w1 w3 w2 = ffn x y w1 w3 w2 := by
  funext i
  obtain ⟨e, r, d, rfl⟩ : ∃ (e : Fin 16) (r : Fin 2048) (d : Fin 1024), i = ix3 e r d := ⟨i 0, i 1, i 2, eq_ix3 i⟩
  pointwise [val_main_v14, val_main_v13, val_main_v12, val_main_v11, val_main_v10, val_main_v9, val_main_v8,
    val_main_v7, val_main_v6, val_main_v5, val_main_v4, val_main_v3, val_main_call0_v5, val_main_call0_v4,
    val_main_call0_v3, val_main_call0_v2, val_main_call0_v1, val_main_call0_v0, val_main_call0_cst,
    val_main_call0_cst_0]
  simp only [token_ref]
  rfl

/-- The expert kernel's result array equals the reference's, at the extended reals. -/
theorem algebraic : Cert.algebraic_Kernel2Ideal_Reference2Ideal := by
  intro m ρ m' ρ' _ hagree
  refine ⟨fun c => _, (θ_run Cert.Kernel2Ideal.defs _ _).mono (fun _ h c => ⟨((h c).1).trans (final m c), (h c).2⟩)
    (Cert.Kernel2Ideal.Value.run_blocks (F := Ideal) m ρ), ?_⟩
  refine (θ_run Cert.Reference2Ideal.defs _ _).mono (fun _ h c => ⟨(h c).1.trans ?_, (h c).2⟩)
    (Cert.Reference2Ideal.Value.run (F := Ideal) m' ρ')
  rw [(hagree c).1, (hagree c).2.1, (hagree c).2.2.1, (hagree c).2.2.2.1, (hagree c).2.2.2.2]
  exact reference _ _ _ _ _

end Cert.Expert

end
-- ==== Proof.InProjBlock.lean ====
/-
  The input projection kernel: what its result array holds.

  Grid point (j, i) takes 1024 token rows, modulates them with the shift and scale rows of the request they belong to,
  and multiplies them with 2048 columns of layer 0's weight matrix. The blocks tile the result, and each is a block of
  one function of the arguments, `project`.
-/
module

public import proofs.«01_k».proof.Proof.Gen.Kernel3Ideal.Value
public import Idealize.ShloMosaic.Lib.Pipeline.ValueKit
public import Idealize.ShloMosaic.Lib.Pointwise

@[expose] public section

set_option maxRecDepth 16384

noncomputable section

namespace Cert.InProj

open Cert.Kernel3Ideal Cert.Kernel3Ideal.Gen Idealize.ShloMosaic Idealize.ShloMosaic.TcCoe Idealize.SL.Sem
open Idealize.ShloMosaic.Pipeline (Dat)

/-- The modulation row of a token: 0 for the prompt's 8192 rows, then one for each request of 4096 rows. -/
def request (r : Fin 16384) : Fin 3 := ⟨(r.val - 4096) / 4096, by omega⟩

/-- A token's feature `k`, scaled and shifted by its request's modulation. -/
def modulated (x : S16384x1024.Idx → EReal) (ada : S3x6x1024.Idx → EReal) (r : Fin 16384) (k : Fin 1024) : EReal :=
  x (ix2 r k) * (1 + ada (ix3 (request r) 1 k)) + ada (ix3 (request r) 0 k)

/-- The modulated tokens times layer 0's matrix. -/
def project (x : S16384x1024.Idx → EReal) (ada : S3x6x1024.Idx → EReal) (w : S2x1024x4096.Idx → EReal) :
    S16384x4096.Idx → EReal := fun i =>
  ∑ k : Fin 1024, modulated x ada (i 0) k * w (ix3 0 k (i 1))

variable (m : (ℓ : Loc nD τ sig) → Buf (Elt Ideal) ℓ) (ρ : Dev nD → PrngReg)

/-- Where each window's block lies at a grid point: the columns by the outer coordinate, the rows by the inner one. -/
theorem idx : ∀ t : Fin cfg0.N,
    win0_0.index t = ![(grid0.coords t 1).val, 0]
    ∧ win0_1.index t = ![((grid0.coords t 1).val * 1024 - 4096) / 4096, 0, 0]
    ∧ win0_2.index t = ![0, 0, (grid0.coords t 0).val]
    ∧ win0_3.index t = ![(grid0.coords t 1).val, (grid0.coords t 0).val] :=
  (by decide +kernel : ∀ t : Fin grid0.N, _)

/-- A grid point's coordinates are below 2 and 16. -/
theorem coords_lt (t : Fin cfg0.N) : (grid0.coords t 0).val < 2 ∧ (grid0.coords t 1).val < 16 :=
  ⟨(grid0.coords t 0).isLt, (grid0.coords t 1).isLt⟩

/-- The result array after the run: the modulated projection of the three arguments. -/
theorem final (c : Dev nD) : (dats m 0 c).arrAt 3 cfg0.N =
    project (m ((c : Thread nD τ).loc main_arg0)) (m ((c : Thread nD τ).loc main_arg1))
      (m ((c : Thread nD τ).loc main_arg2)) := by
  refine (dats m 0 c).arrAt_eq_of_covers 3 _ (by decide +kernel) fun t hf y => ?_
  have ht := coords_lt t
  obtain ⟨r, d, rfl⟩ : ∃ (r : Fin 1024) (d : Fin 2048), y = ix2 r d := ⟨y 0, y 1, eq_ix2 y⟩
  have hi : (((cfg0.win 3).blk t).view.emb (ix2 r d) : S16384x4096.Idx)
      = ix2 ⟨(grid0.coords t 1).val * 1024 + r.val, by omega⟩ ⟨(grid0.coords t 0).val * 2048 + d.val, by omega⟩ := by
    blk_ext [idx t]
  rw [hi]
  blk_simp
  rw [after0_3]
  frame_out
  pointwise [k0_pay1]
  unfold project modulated request
  refine Fin.sum_fin_congr fun k => ?_
  blk_point [iblk, V, idx t]

end Cert.InProj

end
-- ==== Proof.InProj.lean ====
/-
  The input projection claim: the reference computes the same function `project` of the arguments, so the kernel's
  result array and the reference's are equal.
-/
module

public import proofs.«01_k».proof.Defs
public import proofs.«01_k».proof.Proof.InProjBlock
public import proofs.«01_k».proof.Proof.Gen.Reference3Ideal.Read

@[expose] public section

set_option maxRecDepth 16384

noncomputable section

namespace Cert.InProj

open Idealize.ShloMosaic Idealize.ShloMosaic.TcCoe Idealize.SL.Sem Cert.Reference3Ideal.Read

/-- A term of the projection's sum is determined by its three indices. -/
theorem term_congr (x : Reference3Ideal.S16384x1024.Idx → EReal) (ada : Reference3Ideal.S3x6x1024.Idx → EReal)
    (z : EReal) {a a' : Reference3Ideal.S16384x1024.Idx} {b b' c c' : Reference3Ideal.S3x6x1024.Idx} (ha : a = a')
    (hb : b = b') (hc : c = c') :
    (x a * (1 + ada b) + ada c) * z = (x a' * (1 + ada b') + ada c') * z := by rw [ha, hb, hc]

/-- An index of the modulation array is determined by its coordinates. -/
theorem ix3_congr {a a' : Fin 3} {b b' : Fin 6} {c c' : Fin 1024} (ha : a = a') (hb : b = b') (hc : c = c') :
    (ix3 a b c : Reference3Ideal.S3x6x1024.Idx) = ix3 a' b' c' := by rw [ha, hb, hc]

/-- The reference's result is `project` of its arguments. -/
theorem reference (x : Reference3Ideal.S16384x1024.Idx → EReal) (ada : Reference3Ideal.S3x6x1024.Idx → EReal)
    (w : Reference3Ideal.S2x1024x4096.Idx → EReal) :
    val_main_v44 (F := Ideal) x ada w = project x ada w := by
  funext i
  obtain ⟨r, d, rfl⟩ : ∃ (r : Fin 16384) (d : Fin 4096), i = ix2 r d := ⟨i 0, i 1, eq_ix2 i⟩
  pointwise [val_main_v0, val_main_v1, val_main_v2, val_main_v3, val_main_v4, val_main_v5, val_main_v6, val_main_v7, val_main_v8, val_main_v9, val_main_v10, val_main_v11, val_main_v12, val_main_v13, val_main_cst, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_cst_0, val_main_v33, val_main_v34, val_main_v35, val_main_v36, val_main_v37, val_main_v38, val_main_v39, val_main_v40, val_main_v41, val_main_v42, val_main_v43, val_main_v44]
  show _ = ∑ k : Fin 1024, (x (ix2 r k) * (1 + ada (ix3 (request r) 1 k)) + ada (ix3 (request r) 0 k)) * w (ix3 0 k d)
  split
  all_goals
    refine Finset.sum_congr rfl fun k _ => ?_
    have hk := k.isLt
    refine term_congr x ada _ (congrArg (ix2 · k) (Fin.ext ?_)) (ix3_congr (Fin.ext ?_) (Fin.ext ?_) rfl)
      (ix3_congr (Fin.ext ?_) (Fin.ext ?_) (Fin.ext ?_)) <;>
      simp only [request, Fin.coe_ofNat_eq_mod] <;> omega

/-- The input projection kernel's result array equals the reference's, at the extended reals. -/
theorem algebraic : Cert.algebraic_Kernel3Ideal_Reference3Ideal := by
  intro m ρ m' ρ' _ hagree
  refine ⟨fun c => _, (θ_run Cert.Kernel3Ideal.defs _ _).mono (fun _ h c => ⟨((h c).1).trans (final m c), (h c).2⟩)
    (Cert.Kernel3Ideal.Value.run_blocks (F := Ideal) m ρ), ?_⟩
  refine (θ_run Cert.Reference3Ideal.defs _ _).mono (fun _ h c => ⟨(h c).1.trans ?_, (h c).2⟩)
    (Cert.Reference3Ideal.Value.run (F := Ideal) m' ρ')
  rw [(hagree c).1, (hagree c).2.1, (hagree c).2.2]
  exact reference _ _ _

end Cert.InProj

end
-- ==== Proof.RetBlock.lean ====
module

public import proofs.«01_k».proof.Proof.Gen.KernelIdeal.Value
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Retention

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The signed distance of two tokens of a tile, in the direction's order, as the kernel computes it. -/
def distE (u : BitVec 32) (r x : ℕ) : EReal :=
  FloatOps.sitofp (F := Ideal) .f32 (Scalar.select (Scalar.cmpi .eq u 0#32) (IntOp.subi (BitVec.ofNat 32 r) (BitVec.ofNat 32 x))
    (IntOp.subi (BitVec.ofNat 32 x) (BitVec.ofNat 32 r)))

/-- The tokens up to and including a row, in the direction's order. -/
def upE (u : BitVec 32) (r : ℕ) : EReal :=
  FloatOps.sitofp (F := Ideal) .f32 (Scalar.select (Scalar.cmpi .eq u 0#32) (IntOp.addi (BitVec.ofNat 32 r) 1#32)
    (IntOp.subi 256#32 (BitVec.ofNat 32 r)))

/-- The tokens after a row, in the direction's order. -/
def downE (u : BitVec 32) (x : ℕ) : EReal :=
  FloatOps.sitofp (F := Ideal) .f32 (Scalar.select (Scalar.cmpi .eq u 0#32) (IntOp.subi 255#32 (BitVec.ofNat 32 x)) (BitVec.ofNat 32 x))

/-- One head's output at row `r`, channel `e`: the state it started from, decayed, and the tile's own tokens. -/
def headO (u : BitVec 32) (lg : EReal) (q k v : S256x256.Idx → EReal) (S : S1x256x256.Idx → EReal) (r e : Fin 256) : EReal :=
  ∑ x, q (ix2 r x) * Ideal.exp (lg * upE u r.val) * S (ix3 0 x e)
    + ∑ x, ((∑ d, q (ix2 r d) * (k (ix2 x d) * Ideal.ofBits .f32 0x3D800000#32))
        * if 0 ≤ distE u r.val x.val then Ideal.exp (lg * max (distE u r.val x.val) 0) else 0) * v (ix2 x e)

/-- One head's state after the tile: the state it started from, decayed, and the tile's own tokens. -/
def headS (u : BitVec 32) (lg : EReal) (k v : S256x256.Idx → EReal) (S : S1x256x256.Idx → EReal) (d e : Fin 256) : EReal :=
  S (ix3 0 d e) * Ideal.exp (lg * Ideal.ofBits .f32 0x43800000#32)
    + ∑ x, k (ix2 x d) * Ideal.ofBits .f32 0x3D800000#32 * Ideal.exp (lg * downE u x.val) * v (ix2 x e)

section
variable (i : grid0.Coords) (lg : EReal) (q k v : S256x256.Idx → EReal) (S : S1x256x256.Idx → EReal) (a b : Fin 256)

/-- What head 0's stored output is. -/
theorem out_head0 : k0_pay14 (F := Ideal) (k0_pay7 i) lg q (k0_pay9 k) (k0_pay10 v) (k0_pay11 (F := Ideal) i) (k0_pay12 i lg) S (ix3 0 a b) = headO (BitVec.ofNat 32 (i 1).val) lg q k v S a b := by
  pointwise [k0_pay14, k0_pay13, k0_pay12, k0_pay11, k0_pay10, k0_pay9, k0_pay8, k0_pay7, k0_pay6, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay2, k0_pay3, k0_pay4, k0_pay1]
  rfl

/-- What head 1's stored output is. -/
theorem out_head1 : k0_pay19 (F := Ideal) (k0_pay6 i) (k0_pay7 i) lg q k v S (ix3 0 a b) = headO (BitVec.ofNat 32 (i 1).val) lg q k v S a b := by
  pointwise [k0_pay14, k0_pay13, k0_pay12, k0_pay11, k0_pay10, k0_pay9, k0_pay8, k0_pay7, k0_pay6, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay2, k0_pay3, k0_pay4, k0_pay1]
  rfl

/-- What head 2's stored output is. -/
theorem out_head2 : k0_pay27 (F := Ideal) (k0_pay26 (F := Ideal) (k0_pay6 i) (k0_pay7 i) lg q k v S) (ix3 0 a b) = headO (BitVec.ofNat 32 (i 1).val) lg q k v S a b := by
  pointwise [k0_pay14, k0_pay13, k0_pay12, k0_pay11, k0_pay10, k0_pay9, k0_pay8, k0_pay7, k0_pay6, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay2, k0_pay3, k0_pay4, k0_pay1]
  rfl

/-- What head 3's stored output is. -/
theorem out_head3 : k0_pay2 (F := Ideal) (k0_pay7 i) lg q (k0_pay30 v) (k0_pay31 (k0_pay6 i) lg q k) S (ix3 0 a b) = headO (BitVec.ofNat 32 (i 1).val) lg q k v S a b := by
  pointwise [k0_pay14, k0_pay13, k0_pay12, k0_pay11, k0_pay10, k0_pay9, k0_pay8, k0_pay7, k0_pay6, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay2, k0_pay3, k0_pay4, k0_pay1]
  rfl

/-- What head 0's stored state is. -/
theorem state_head0 : k0_pay15 (F := Ideal) (k0_pay8 i) lg (k0_pay9 k) (k0_pay10 v) S (ix3 0 a b) = headS (BitVec.ofNat 32 (i 1).val) lg k v S a b := by
  pointwise [k0_pay14, k0_pay13, k0_pay12, k0_pay11, k0_pay10, k0_pay9, k0_pay8, k0_pay7, k0_pay6, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay2, k0_pay3, k0_pay4, k0_pay1]
  rfl

/-- What head 1's stored state is. -/
theorem state_head1 : k0_pay22 (F := Ideal) (k0_pay17 v) (k0_pay20 (k0_pay8 i) lg k) (k0_pay21 lg S) (constant S256x256 .f32 0#32) (ix3 0 a b) = headS (BitVec.ofNat 32 (i 1).val) lg k v S a b := by
  pointwise [k0_pay14, k0_pay13, k0_pay12, k0_pay11, k0_pay10, k0_pay9, k0_pay8, k0_pay7, k0_pay6, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay2, k0_pay3, k0_pay4, k0_pay1]
  rfl

/-- What head 2's stored state is. -/
theorem state_head2 : k0_pay28 (F := Ideal) (k0_pay8 i) lg (k0_pay23 k) (k0_pay24 v) (k0_pay25 S) (ix3 0 a b) = headS (BitVec.ofNat 32 (i 1).val) lg k v S a b := by
  pointwise [k0_pay14, k0_pay13, k0_pay12, k0_pay11, k0_pay10, k0_pay9, k0_pay8, k0_pay7, k0_pay6, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay2, k0_pay3, k0_pay4, k0_pay1]
  rfl

/-- What head 3's stored state is. -/
theorem state_head3 : k0_pay3 (F := Ideal) (k0_pay8 i) lg (k0_pay29 k) (k0_pay30 v) S (ix3 0 a b) = headS (BitVec.ofNat 32 (i 1).val) lg k v S a b := by
  pointwise [k0_pay14, k0_pay13, k0_pay12, k0_pay11, k0_pay10, k0_pay9, k0_pay8, k0_pay7, k0_pay6, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay2, k0_pay3, k0_pay4, k0_pay1]
  rfl

end

end Cert.Retention
-- ==== Proof.RetRun.lean ====
module

public import proofs.«01_k».proof.Proof.Gen.ReferenceIdeal.Run
public import proofs.«01_k».proof.Proof.Gen.ReferenceIdeal.Step

@[expose] public section

noncomputable section

/-! The retention reference's run, as its four chunk steps one after another from the state its set-up leaves. -/

namespace Cert.RetRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- Before chunk `j` the loop's buffers hold state `s`, the counter `j` and the causal mask. -/
structure At (V : Valuation τ sig (Elt F)) (s : State F) (j : ℕ) : Prop where
  state : V (Proc.devRef .tc main_v48_6) = s.main_v48_6
  outs : V (Proc.devRef .tc main_v48_7) = s.main_v48_7
  q : V (Proc.devRef .tc main_v48_0) = s.main_v48_0
  k : V (Proc.devRef .tc main_v48_1) = s.main_v48_1
  v : V (Proc.devRef .tc main_v48_2) = s.main_v48_2
  decay : V (Proc.devRef .tc main_v48_3) = s.main_v48_3
  count : V (Proc.devRef .tc main_v48_5) = constantI S_ 32 (BitVec.ofNat 32 j)
  mask : V (Proc.devRef .tc main_v48_4) = Cert.ReferenceIdeal.Step.K_main_v46 (F := F)

variable {V : Valuation τ sig (Elt F)} {s : State F} {j : ℕ}

/-- The chunk's queries. -/
theorem At.q_chunk (h : At V s j) : res_main_while0b_v63 V = Cert.ReferenceIdeal.Step.b5 j s := by
  unfold res_main_while0b_v63
  rw [h.q, h.count]; rfl

/-- The chunk's keys. -/
theorem At.k_chunk (h : At V s j) : res_main_while0b_v64 V = Cert.ReferenceIdeal.Step.b11 j s := by
  unfold res_main_while0b_v64
  rw [h.k, h.count]; rfl

/-- The chunk's values. -/
theorem At.v_chunk (h : At V s j) : res_main_while0b_v65 V = Cert.ReferenceIdeal.Step.b17 j s := by
  unfold res_main_while0b_v65
  rw [h.v, h.count]; rfl

/-- The chunk's summed log-decays. -/
theorem At.cum (h : At V s j) : res_main_while0b_v67 V = Cert.ReferenceIdeal.Step.b26 j s := by
  unfold res_main_while0b_v67
  rw [h.decay, h.count]; rfl

/-- The chunk's last summed log-decay. -/
theorem At.cumLast (h : At V s j) : res_main_while0b_v85 V = Cert.ReferenceIdeal.Step.b49 j s := by
  unfold res_main_while0b_v85
  rw [h.cum]; rfl

set_option maxRecDepth 16384 in
/-- The chunk's step of the carried state. -/
theorem At.state_step (h : At V s j) : step_main_v48_6 V = (step j s).main_v48_6 := by
  unfold step_main_v48_6
  rw [h.cum, h.cumLast, h.k_chunk, h.v_chunk, h.state]; rfl

set_option maxRecDepth 16384 in
/-- The chunk's step of the collected outputs. -/
theorem At.outs_step (h : At V s j) : step_main_v48_7 V = (step j s).main_v48_7 := by
  unfold step_main_v48_7
  rw [h.cum, h.q_chunk, h.k_chunk, h.v_chunk, h.state, h.outs, h.count, h.mask]; rfl

/-- The counter goes up by one. -/
theorem At.count_step (h : At V s j) : step_main_v48_5 V = constantI S_ 32 (BitVec.ofNat 32 (j + 1)) := by
  unfold step_main_v48_5
  rw [h.count]
  funext i
  show BitVec.ofNat 32 j + 1#32 = BitVec.ofNat 32 (j + 1)
  simp only [BitVec.ofNat_add]

/-- One trip of the loop is one chunk's step. -/
theorem At.next (h : At V s j) : At (STEP V) (step j s) (j + 1) where
  state := (STEP_main_v48_6 V).trans h.state_step
  outs := (STEP_main_v48_7 V).trans h.outs_step
  q := (STEP_main_v48_0 V).trans h.q
  k := (STEP_main_v48_1 V).trans h.k
  v := (STEP_main_v48_2 V).trans h.v
  decay := (STEP_main_v48_3 V).trans h.decay
  count := (STEP_main_v48_5 V).trans h.count_step
  mask := (STEP_main_v48_4 V).trans h.mask

variable (m : (ℓ : Loc nD τ sig) → Buf (Elt F) ℓ) (c : Dev nD)

/-- The state before the first chunk, of the two arguments. -/
abbrev start : State F := init (m ((c.tc : Thread nD τ).loc main_arg0)) (m ((c.tc : Thread nD τ).loc main_arg1))

set_option maxRecDepth 65536 in
set_option maxHeartbeats 500000 in
/-- The set-up leaves the first state. -/
theorem at_entry : At (entryContents preI m c) (start m c) 0 := by
  constructor <;> (simp only [entryContents, afterL_cons, afterL_nil]; after_reads_simp) <;> rfl

/-- The state after the first `n` chunks. -/
def stateAt (a0 : (⟨S16384x4096, .f32⟩ : BufTy).Contents (Elt F)) (a1 : (⟨S2x4, .f32⟩ : BufTy).Contents (Elt F)) : ℕ → State F
  | 0 => init a0 a1
  | n + 1 => step n (stateAt a0 a1 n)

/-- After `n` trips the loop's buffers hold the state after `n` chunks. -/
theorem at_iter (n : ℕ) : At (STEP^[n] (entryContents preI m c))
    (stateAt (m ((c.tc : Thread nD τ).loc main_arg0)) (m ((c.tc : Thread nD τ).loc main_arg1)) n) n := by
  induction n with
  | zero => exact at_entry m c
  | succ n ih =>
    rw [Function.iterate_succ_apply']
    exact ih.next

/-- The reference's run: its two results are read off the state after four chunks, and its arguments are unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v62)
        = Cert.ReferenceIdeal.Step.R_main_v62 (stateAt (m ((c.tc : Thread nD τ).loc main_arg0)) (m ((c.tc : Thread nD τ).loc main_arg1)) 4)
      ∧ r.2.mem ((c.tc : Thread nD τ).loc main_v58)
        = Cert.ReferenceIdeal.Step.R_main_v58 (stateAt (m ((c.tc : Thread nD τ).loc main_arg0)) (m ((c.tc : Thread nD τ).loc main_arg1)) 4)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    have hk := at_iter m c 4
    ⟨(h c).1.trans (by unfold out_main_v62; rw [hk.outs]; rfl),
     (h c).2.1.trans (by unfold out_main_v58; rw [hk.state]; rfl), (h c).2.2.1, (h c).2.2.2⟩) (Value.run m ρ)

end Cert.RetRun

end
-- ==== Proof.RetSetup.lean ====
module

public import proofs.«01_k».proof.Proof.RetRun
public import Idealize.ShloMosaic.Lib.Pipeline.ValueKit
public import Idealize.ShloMosaic.Lib.Pointwise

@[expose] public section

set_option maxRecDepth 16384

noncomputable section

/-! What the retention reference's set-up leaves: the chunks of the two directions' tokens in time order, and the log-decays. -/

namespace Cert.RetRef

open Idealize.ShloMosaic Idealize.ShloMosaic.TcCoe Idealize.SL.Sem Idealize.ShloMosaic.StableHlo
open Cert.ReferenceIdeal Cert.ReferenceIdeal.Gen
open Cert.ReferenceIdeal.Step

/-- The row of token `t` (in time order) of scan `n`: scans 0–31 go forward through their sequence, 32–63 backward. -/
def rowAt (n : Fin 64) (t : ℕ) : Fin 16384 :=
  ⟨if n.val < 32 then n.val * 256 + t % 256 else (n.val - 32) * 256 + (255 - t % 256), by split <;> omega⟩

/-- The direction of scan `n`. -/
def dirOf (n : Fin 64) : Fin 2 := if n.val < 32 then 0 else 1

/-- The column of head `h`'s channel `d` in the part of the projection that starts at `off`. -/
def colAt (off : Fin 4) (h : Fin 4) (d : Fin 256) : Fin 4096 := ⟨off.val * 1024 + (h.val * 256 + d.val), by omega⟩

variable (P : S16384x4096.Idx → EReal) (D : S2x4.Idx → EReal)

/-- The logarithm of the sigmoid, as jax computes it. -/
def logSig (x : EReal) : EReal :=
  -if -x ≠ -x then -x else max (-x) 0 + Ideal.log1p (Ideal.exp (-FloatOps.absf (F := Ideal) (φ := .f32) (-x)))

/-- The projection at equal row and column numbers. -/
theorem at_congr {a a' : Fin 16384} {b b' : Fin 4096} (ha : a.val = a'.val) (hb : b.val = b'.val) :
    P (ix2 a b) = P (ix2 a' b') := by
  rw [Fin.ext ha, Fin.ext hb]

/-- The queries of chunk `c`. -/
theorem q_at (c : Fin 4) (n : Fin 64) (h : Fin 4) (t : Fin 64) (d : Fin 256) :
    A_main_v37 (F := Ideal) P D (ix5 c n h t d) = P (ix2 (rowAt n (64 * c.val + t.val)) (colAt 0 h d)) := by
  pointwise [A_main_v37, A_main_v36, A_main_v24, A_main_v23, A_main_v6, A_main_v2, A_main_v1, A_main_v0]
  simp only [List.mem_singleton, reduceIte, Fin.reduceEq]
  split
  · refine at_congr P ?_ ?_ <;> simp only [rowAt, colAt] <;> (try split) <;> simp <;> omega
  · refine at_congr P ?_ ?_ <;> simp only [rowAt, colAt] <;> (try split) <;> simp [Fin.rev] <;> omega

/-- The scaled keys of chunk `c`. -/
theorem k_at (c : Fin 4) (n : Fin 64) (h : Fin 4) (t : Fin 64) (d : Fin 256) :
    A_main_v39 (F := Ideal) P D (ix5 c n h t d)
      = P (ix2 (rowAt n (64 * c.val + t.val)) (colAt 1 h d)) * Ideal.ofBits .f32 0x3D800000#32 := by
  pointwise [A_main_v39, A_main_v38, A_main_v26, A_main_v25, A_main_v9, A_main_v7, A_main_v3, A_main_v1, A_main_v0, K_main_v8, K_main_cst]
  simp only [List.mem_singleton, reduceIte, Fin.reduceEq]
  split
  · refine congrArg (· * _) (at_congr P ?_ ?_) <;> simp only [rowAt, colAt] <;> (try split) <;> simp <;> omega
  · refine congrArg (· * _) (at_congr P ?_ ?_) <;> simp only [rowAt, colAt] <;> (try split) <;> simp [Fin.rev] <;> omega

/-- The values of chunk `c`. -/
theorem v_at (c : Fin 4) (n : Fin 64) (h : Fin 4) (t : Fin 64) (d : Fin 256) :
    A_main_v41 (F := Ideal) P D (ix5 c n h t d) = P (ix2 (rowAt n (64 * c.val + t.val)) (colAt 2 h d)) := by
  pointwise [A_main_v41, A_main_v40, A_main_v28, A_main_v27, A_main_v10, A_main_v4, A_main_v1, A_main_v0]
  simp only [List.mem_singleton, reduceIte, Fin.reduceEq]
  split
  · refine at_congr P ?_ ?_ <;> simp only [rowAt, colAt] <;> (try split) <;> simp <;> omega
  · refine at_congr P ?_ ?_ <;> simp only [rowAt, colAt] <;> (try split) <;> simp [Fin.rev] <;> omega

/-- The log-decay of a head. -/
theorem lg_at (r : Fin 2) (h : Fin 4) : A_main_v13 (F := Ideal) P D (ix2 r h) = logSig (D (ix2 r h)) := by
  pointwise [A_main_v13, A_main_v12, A_main_v11, A_main_call0_v1, A_main_call0_v3, A_main_call0_v4, A_main_call0_v6, A_main_call0_v7,
    A_main_call0_v8, A_main_call0_v9, A_main_call0_v10, A_main_call0_v11, K_main_call0_v0, K_main_call0_v2, K_main_call0_v5,
    K_main_call0_cst]
  rfl

/-- The log-decays of chunk `c`: one number for a scan's head. -/
theorem g_at (c : Fin 4) (n : Fin 64) (h : Fin 4) (t : Fin 64) :
    A_main_v43 (F := Ideal) P D (ix5 c n h t 0) = logSig (D (ix2 (dirOf n) h)) := by
  pointwise [A_main_v43, A_main_v42, A_main_v30, A_main_v29, A_main_v22, A_main_v18, A_main_v21, A_main_v20, A_main_v19,
    A_main_v17, A_main_v16, A_main_v15]
  simp only [List.mem_singleton, reduceIte, Fin.reduceEq, lg_at, dirOf]
  split <;> rfl

/-- The first state is zero. -/
theorem state0_at (n : Fin 64) (h : Fin 4) (d e : Fin 256) : K_main_v35 (F := Ideal) (ix4 n h d e) = 0 := by
  pointwise [K_main_v35, K_main_v34, K_main_v33, K_main_v32, K_main_v31, K_main_v14, K_main_cst_0]
  simp

/-- The causal mask. -/
theorem mask_at (t s : Fin 64) : K_main_v46 (F := Ideal) (ix3 t s 0) = if s.val ≤ t.val then 1#1 else 0#1 := by
  pointwise [K_main_v46, K_main_v45, K_main_v44, K_main_c, K_main_call5_v0, K_main_call5_c, K_main_call5_v1, K_main_call5_v2,
    K_main_call5_v3, K_main_call5_v4, K_main_call5_c_0, K_main_call5_v5]
  revert t s
  decide +kernel

end Cert.RetRef
-- ==== Proof.RetKernel.lean ====
/-
  The retention kernel: what its two result arrays hold, from the argument arrays.

  Grid point (b, dir) takes the 256 tokens of sequence b and scans them in one direction from a zero state, all four
  heads together. It stores each head's output into its 256 columns of the output block and each head's state into its
  slot of the state block.
-/
module

public import proofs.«01_k».proof.Proof.RetBlock
public import proofs.«01_k».proof.Proof.RetSetup
public import Idealize.ShloMosaic.Lib.StableHlo.ReadAt

@[expose] public section

set_option maxRecDepth 16384

noncomputable section

namespace Cert.Retention

open Cert.KernelIdeal Cert.KernelIdeal.Gen Idealize.ShloMosaic Idealize.ShloMosaic.TcCoe Idealize.SL.Sem
open Idealize.ShloMosaic.Pipeline (Dat)
open Cert.RetRef (logSig colAt)

/-- The 256 × 256 tile of the projections at sequence `b`, array number `off` and head `h`. -/
def tile (p : S16384x4096.Idx → EReal) (b : Fin 32) (off h : Fin 4) : S256x256.Idx → EReal := fun i =>
  p (ix2 ⟨b.val * 256 + (i 0).val, by have : (i 0).val < 256 := (i 0).isLt; omega⟩ (colAt off h (i 1)))

/-- The output of one grid point at a row, head and channel. -/
def outAt (p : S16384x4096.Idx → EReal) (w : S2x4.Idx → EReal) (b : Fin 32) (u : Fin 2) (h : Fin 4) (r e : Fin 256) : EReal :=
  headO (BitVec.ofNat 32 u.val) (logSig (w (ix2 u h))) (tile p b 0 h) (tile p b 1 h) (tile p b 2 h) (fun _ => (0 : EReal)) r e

/-- The state of one grid point at a head and a pair of channels. -/
def finAt (p : S16384x4096.Idx → EReal) (w : S2x4.Idx → EReal) (b : Fin 32) (u : Fin 2) (h : Fin 4) (d e : Fin 256) : EReal :=
  headS (BitVec.ofNat 32 u.val) (logSig (w (ix2 u h))) (tile p b 1 h) (tile p b 2 h) (fun _ => (0 : EReal)) d e

variable (m : (ℓ : Loc nD τ sig) → Buf (Elt Ideal) ℓ) (ρ : Dev nD → PrngReg)

/-- Where each window's block lies at a grid point: the sequence is the outer coordinate, the direction the inner. -/
theorem idx : ∀ t : Fin cfg0.N,
    win0_0.index t = ![0, 0]
    ∧ win0_1.index t = ![(grid0.coords t 0).val, 0]
    ∧ win0_2.index t = ![(grid0.coords t 0).val, 1]
    ∧ win0_3.index t = ![(grid0.coords t 0).val, 2]
    ∧ win0_6.index t = ![0, (grid0.coords t 1).val, 0, 0, 0]
    ∧ win0_7.index t = ![(grid0.coords t 1).val, (grid0.coords t 0).val, 0]
    ∧ win0_8.index t = ![(grid0.coords t 0).val, (grid0.coords t 1).val, 0, 0, 0] :=
  (by decide +kernel : ∀ t : Fin grid0.N, _)

/-- A grid point's sequence. -/
def seqOf (t : Fin cfg0.N) : Fin 32 := ⟨(grid0.coords t 0).val, (grid0.coords t 0).isLt⟩

/-- A grid point's direction. -/
def dirAt (t : Fin cfg0.N) : Fin 2 := ⟨(grid0.coords t 1).val, (grid0.coords t 1).isLt⟩

/-- The coordinates' values. -/
theorem seqOf_val (t : Fin cfg0.N) : (seqOf t).val = (grid0.coords t 0).val := rfl

theorem dirAt_val (t : Fin cfg0.N) : (dirAt t).val = (grid0.coords t 1).val := rfl

/-- The logarithms of the decays, computed before the call. -/
theorem V_lg (c : Dev nD) (r : Fin 2) (h : Fin 4) : (V m c main_v1 : S2x4.Idx → EReal) (ix2 r h)
    = logSig (m ((c.tc : Thread nD τ).loc main_arg1) (ix2 r h : S2x4.Idx)) := by
  unfold V
  after_reads_at
  rfl

/-- The state that the call starts from is zero. -/
theorem V_zero (c : Dev nD) (u : Fin 2) (h : Fin 4) (a b : Fin 256) :
    (V m c main_v0 : S1x2x4x256x256.Idx → EReal) (ix5 0 u h a b) = (0 : EReal) := by
  unfold V
  after_reads_at

/-- The projections reach the call unchanged. -/
theorem V_arg0 (c : Dev nD) : V m c main_arg0 = m ((c.tc : Thread nD τ).loc main_arg0) := by
  funext i
  unfold V
  after_reads_at

/-- The load of a head's decay. -/
theorem ld_lg (c : Dev nD) (t : Fin cfg0.N) (h : Fin 4) (off : Fin 2 → ℕ) (hoff : off = ![(grid0.coords t 1).val, h.val])
    (inb) (x : (Rect.unit (s := S2x4) off ![1, 1] inb).shape.Idx) :
    View.ld (Val := Elt Ideal) (e' := .f32) (iblk m c 0 t : S2x4.Idx → EReal) (Rect.unit (s := S2x4) off ![1, 1] inb) x
      = logSig (m ((c.tc : Thread nD τ).loc main_arg1) (ix2 (dirAt t) h : S2x4.Idx)) := by
  subst hoff
  refine (View.ld_unit_apply_of (S := S2x4) _ _ _ _ _ (ix2 (dirAt t) h) fun a => ?_).trans ?_
  · have h0 : (x 0).val < 1 := (x 0).isLt
    have h1 : (x 1).val < 1 := (x 1).isLt
    match a with
    | ⟨0, _⟩ => show (dirAt t).val = (grid0.coords t 1).val + (x 0).val; rw [dirAt_val]; omega
    | ⟨1, _⟩ => show h.val = h.val + (x 1).val; omega
  · have hb : (iblk m c 0 t : S2x4.Idx → EReal) (ix2 (dirAt t) h) = (V m c main_v1 : S2x4.Idx → EReal) (ix2 (dirAt t) h) := by
      blk_ext [iblk, idx t]
    exact hb.trans (V_lg m c _ _)

/-- The load of a head's columns from a block of 1024. -/
theorem ld_cols (X : S256x1024.Idx → EReal) (h : Fin 4) (off : Fin 2 → ℕ) (hoff : off = ![0, h.val * 256]) (inb) :
    View.ld (Val := Elt Ideal) (e' := .f32) X (Rect.unit (s := S256x1024) off ![256, 256] inb)
      = fun i : S256x256.Idx => X (ix2 (i 0) ⟨h.val * 256 + (i 1).val, by have : (i 1).val < 256 := (i 1).isLt; omega⟩) := by
  subst hoff
  funext i
  refine View.ld_unit_apply_of (S := S256x1024) _ _ _ _ _ _ fun a => ?_
  match a with
  | ⟨0, _⟩ => exact (Nat.zero_add _).symm
  | ⟨1, _⟩ => rfl

/-- The three blocks of the projections at a grid point. -/
theorem blk_q (c : Dev nD) (t : Fin cfg0.N) (h : Fin 4) (off : Fin 2 → ℕ) (hoff : off = ![0, h.val * 256]) (inb) :
    View.ld (Val := Elt Ideal) (e' := .f32) (iblk m c 1 t : S256x1024.Idx → EReal) (Rect.unit (s := S256x1024) off ![256, 256] inb)
      = tile (m ((c.tc : Thread nD τ).loc main_arg0)) (seqOf t) 0 h := by
  rw [ld_cols _ h off hoff]
  funext i
  obtain ⟨a, b, rfl⟩ : ∃ (a b : Fin 256), i = ix2 a b := ⟨i 0, i 1, eq_ix2 i⟩
  unfold tile
  rw [← V_arg0 m c]
  have hs := seqOf_val t
  unfold colAt
  blk_ext [iblk, idx t]

theorem blk_k (c : Dev nD) (t : Fin cfg0.N) (h : Fin 4) (off : Fin 2 → ℕ) (hoff : off = ![0, h.val * 256]) (inb) :
    View.ld (Val := Elt Ideal) (e' := .f32) (iblk m c 2 t : S256x1024.Idx → EReal) (Rect.unit (s := S256x1024) off ![256, 256] inb)
      = tile (m ((c.tc : Thread nD τ).loc main_arg0)) (seqOf t) 1 h := by
  rw [ld_cols _ h off hoff]
  funext i
  obtain ⟨a, b, rfl⟩ : ∃ (a b : Fin 256), i = ix2 a b := ⟨i 0, i 1, eq_ix2 i⟩
  unfold tile
  rw [← V_arg0 m c]
  have hs := seqOf_val t
  unfold colAt
  blk_ext [iblk, idx t]

theorem blk_v (c : Dev nD) (t : Fin cfg0.N) (h : Fin 4) (off : Fin 2 → ℕ) (hoff : off = ![0, h.val * 256]) (inb) :
    View.ld (Val := Elt Ideal) (e' := .f32) (iblk m c 3 t : S256x1024.Idx → EReal) (Rect.unit (s := S256x1024) off ![256, 256] inb)
      = tile (m ((c.tc : Thread nD τ).loc main_arg0)) (seqOf t) 2 h := by
  rw [ld_cols _ h off hoff]
  funext i
  obtain ⟨a, b, rfl⟩ : ∃ (a b : Fin 256), i = ix2 a b := ⟨i 0, i 1, eq_ix2 i⟩
  unfold tile
  rw [← V_arg0 m c]
  have hs := seqOf_val t
  unfold colAt
  blk_ext [iblk, idx t]

/-- The state that a grid point copies from the call's starting state is zero. -/
theorem init_zero (c : Dev nD) (t : Fin cfg0.N) (i : S4x256x256.Idx) :
    (k0_pay5 (F := Ideal) (iblk m c 6 t) : S4x256x256.Idx → EReal) i = (0 : EReal) := by
  obtain ⟨h, a, b, rfl⟩ : ∃ (h : Fin 4) (a b : Fin 256), i = ix3 h a b := ⟨i 0, i 1, i 2, eq_ix3 i⟩
  pointwise [k0_pay5]
  have hb : (iblk m c 6 t : S1x1x4x256x256.Idx → EReal) (ix5 0 0 h a b)
      = (V m c main_v0 : S1x2x4x256x256.Idx → EReal) (ix5 0 (dirAt t) h a b) := by
    have hd := dirAt_val t
    blk_ext [iblk, idx t]
  exact hb.trans (V_zero m c _ h a b)

/-- A load from it is zero. -/
theorem ld_zero (c : Dev nD) (t : Fin cfg0.N) (off : Fin 3 → ℕ) (inb) :
    View.ld (Val := Elt Ideal) (e' := .f32) (k0_pay5 (F := Ideal) (iblk m c 6 t) : S4x256x256.Idx → EReal)
      (Rect.unit (s := S4x256x256) off ![1, 256, 256] inb) = fun _ : S1x256x256.Idx => (0 : EReal) :=
  funext fun _ => init_zero m c t _

/-- A head's output depends on what was loaded. -/
theorem headO_congr (u : BitVec 32) {lg lg' : EReal} {q q' k k' v v' : S256x256.Idx → EReal} {S S' : S1x256x256.Idx → EReal}
    (r e : Fin 256) (hl : lg = lg') (hq : q = q') (hk : k = k') (hv : v = v') (hS : S = S') :
    headO u lg q k v S r e = headO u lg' q' k' v' S' r e := by subst hl hq hk hv hS; rfl

theorem headS_congr (u : BitVec 32) {lg lg' : EReal} {k k' v v' : S256x256.Idx → EReal} {S S' : S1x256x256.Idx → EReal}
    (r e : Fin 256) (hl : lg = lg') (hk : k = k') (hv : v = v') (hS : S = S') :
    headS u lg k v S r e = headS u lg' k' v' S' r e := by subst hl hk hv hS; rfl

/-- What a grid point leaves in its output block. -/
theorem out_block (c : Dev nD) (t : Fin cfg0.N) (r : Fin 256) (h : Fin 4) (e : Fin 256) :
    ((outsAt0 m c t).1 : S1x256x1024.Idx → EReal) (ix3 0 r ⟨h.val * 256 + e.val, by omega⟩)
      = outAt (m ((c.tc : Thread nD τ).loc main_arg0)) (m ((c.tc : Thread nD τ).loc main_arg1)) (seqOf t) (dirAt t) h r e := by
  unfold outsAt0 out0_A_7
  frame_open
  simp (disch := decide) only [↓ View.readCov_skip, ↓ View.readCov_cons_toLoadRect, ↓ View.readCov_fill]
  frame_out
  have hx3 : ∀ (x : S1x256x256.Idx) (n : Fin 4), (r.val = (x 1).val) → (h.val * 256 + e.val = n.val * 256 + (x 2).val) →
      h = n ∧ x = ix3 0 r e := by
    intro x n h1 h2
    obtain ⟨x0, x1, x2, rfl⟩ : ∃ (x0 : Fin 1) (x1 x2 : Fin 256), x = ix3 x0 x1 x2 := ⟨x 0, x 1, x 2, eq_ix3 x⟩
    change r.val = x1.val at h1
    change h.val * 256 + e.val = n.val * 256 + x2.val at h2
    obtain rfl : r = x1 := Fin.ext h1
    obtain rfl : h = n := Fin.ext (by omega)
    obtain rfl : e = x2 := Fin.ext (by omega)
    obtain rfl : x0 = 0 := Subsingleton.elim _ _
    exact ⟨rfl, rfl⟩
  canon_tiles x hx
  case piece0 =>
    obtain ⟨rfl, rfl⟩ := hx3 x 3 hx1 (by exact hx2)
    exact (out_head3 (grid0.coords t) _ _ _ _ _ _ _).trans (headO_congr _ _ _ (ld_lg m c t 3 _ (k0_off4_eq _) _ _)
      (blk_q m c t 3 _ rfl _) (blk_k m c t 3 _ rfl _) (blk_v m c t 3 _ rfl _) (ld_zero m c t _ _))
  case piece1 =>
    obtain ⟨rfl, rfl⟩ := hx3 x 2 hx1 (by exact hx2)
    exact (out_head2 (grid0.coords t) _ _ _ _ _ _ _).trans (headO_congr _ _ _ (ld_lg m c t 2 _ (k0_off3_eq _) _ _)
      (blk_q m c t 2 _ rfl _) (blk_k m c t 2 _ rfl _) (blk_v m c t 2 _ rfl _) (ld_zero m c t _ _))
  case piece2 =>
    obtain ⟨rfl, rfl⟩ := hx3 x 1 hx1 (by exact hx2)
    exact (out_head1 (grid0.coords t) _ _ _ _ _ _ _).trans (headO_congr _ _ _ (ld_lg m c t 1 _ (k0_off2_eq _) _ _)
      (blk_q m c t 1 _ rfl _) (blk_k m c t 1 _ rfl _) (blk_v m c t 1 _ rfl _) (ld_zero m c t _ _))
  case piece3 =>
    obtain ⟨rfl, rfl⟩ := hx3 x 0 hx1 (by rw [Fin.val_zero, Nat.zero_mul, Nat.zero_add]; exact hx2)
    exact (out_head0 (grid0.coords t) _ _ _ _ _ _ _).trans (headO_congr _ _ _ (ld_lg m c t 0 _ (k0_off1_eq _) _ _)
      (blk_q m c t 0 _ rfl _) (blk_k m c t 0 _ rfl _) (blk_v m c t 0 _ rfl _) (ld_zero m c t _ _))

/-- The state blocks of a grid point, all heads. -/
def slots (c : Dev nD) (t : Fin cfg0.N) : S4x256x256.Idx → EReal := fun i =>
  finAt (m ((c.tc : Thread nD τ).loc main_arg0)) (m ((c.tc : Thread nD τ).loc main_arg1)) (seqOf t) (dirAt t) (i 0) (i 1) (i 2)

/-- An index of one head's slot. -/
theorem slot_idx (x : S1x256x256.Idx) : ∃ (d e : Fin 256), x = ix3 0 d e := by
  obtain ⟨x0, x1, x2, rfl⟩ : ∃ (x0 : Fin 1) (x1 x2 : Fin 256), x = ix3 x0 x1 x2 := ⟨x 0, x 1, x 2, eq_ix3 x⟩
  obtain rfl : x0 = 0 := Subsingleton.elim _ _
  exact ⟨x1, x2, rfl⟩

/-- Where head `h`'s slot lies among the four. -/
theorem slot_emb (h : Fin 4) (off : Fin 3 → ℕ) (hoff : off = ![h.val, 0, 0]) (inb) (d e : Fin 256) :
    (Rect.unit (s := S4x256x256) off ![1, 256, 256] inb).emb (ix3 0 d e : S1x256x256.Idx) = (ix3 h d e : S4x256x256.Idx) := by
  subst hoff
  funext a
  apply Fin.ext
  refine (Rect.idx_unit_val (s := S4x256x256) _ _ _ _ a).trans ?_
  match a with
  | ⟨0, _⟩ => rfl
  | ⟨1, _⟩ => exact Nat.zero_add _
  | ⟨2, _⟩ => exact Nat.zero_add _

/-- The state block is the four slots with two unit axes added. -/
theorem pay4_at (X : S4x256x256.Idx → EReal) (h : Fin 4) (d e : Fin 256) : k0_pay4 (F := Ideal) X (ix5 0 0 h d e) = X (ix3 h d e) := by
  pointwise [k0_pay4]

/-- Four slots stored one by one over a fill of the whole buffer, read back whole. -/
theorem slots_read (G Z : S4x256x256.Idx → EReal) (w0 w1 w2 w3 : S1x256x256.Idx → EReal)
    (h3 : ∀ d e, w3 (ix3 0 d e) = G (ix3 3 d e)) (h2 : ∀ d e, w2 (ix3 0 d e) = G (ix3 2 d e))
    (h1 : ∀ d e, w1 (ix3 0 d e) = G (ix3 1 d e)) (h0 : ∀ d e, w0 (ix3 0 d e) = G (ix3 0 d e)) (i : S4x256x256.Idx) :
    (View.whole cc0_scratch0).readCov (Val := Elt Ideal)
        [⟨Rect.unit (s := S4x256x256) ![3, 0, 0] ![1, 256, 256] inb_S4x256x256_S1x256x256_3_0_0, w3⟩,
          ⟨Rect.unit (s := S4x256x256) ![2, 0, 0] ![1, 256, 256] inb_S4x256x256_S1x256x256_2_0_0, w2⟩,
          ⟨Rect.unit (s := S4x256x256) ![1, 0, 0] ![1, 256, 256] inb_S4x256x256_S1x256x256_1_0_0, w1⟩,
          ⟨Rect.unit (s := S4x256x256) ![0, 0, 0] ![1, 256, 256] inb_S4x256x256_S1x256x256_0_0_0, w0⟩,
          ⟨Rect.unit (s := S4x256x256) ![0, 0, 0] ![4, 256, 256] inb_S4x256x256_S4x256x256_0_0_0, Z⟩]
        (Rect.unit (s := S4x256x256) ![0, 0, 0] ![4, 256, 256] inb_S4x256x256_S4x256x256_0_0_0).toLoadRect i = G i := by
  rw [View.readCov_eq_canon']
  have hj : (Rect.unit (s := S4x256x256) ![0, 0, 0] ![4, 256, 256] inb_S4x256x256_S4x256x256_0_0_0).toLoadRect.idx i
      = (i : S4x256x256.Idx) := by
    funext a
    apply Fin.ext
    refine (Rect.idx_unit_val (s := S4x256x256) _ _ _ _ a).trans ?_
    match a with
    | ⟨0, _⟩ => exact Nat.zero_add _
    | ⟨1, _⟩ => exact Nat.zero_add _
    | ⟨2, _⟩ => exact Nat.zero_add _
  refine (congrArg _ hj).trans ?_
  refine View.canon_append_of_piecesOf (Val := Elt Ideal) (s := S4x256x256) (e := .f32) G [_] [_, _, _, _]
    ⟨fun x => ?p3, fun x => ?p2, fun x => ?p1, fun x => ?p0, trivial⟩ _
    (View.cover_of_tiledL (Val := Elt Ideal) (s := S4x256x256) (e := .f32) _ ![1, 256, 256] (by sl_kernel_rfl) _)
  case p3 =>
    obtain ⟨d, e, rfl⟩ := slot_idx x
    exact (h3 d e).trans (congrArg G (slot_emb 3 ![3, 0, 0] rfl inb_S4x256x256_S1x256x256_3_0_0 d e).symm)
  case p2 =>
    obtain ⟨d, e, rfl⟩ := slot_idx x
    exact (h2 d e).trans (congrArg G (slot_emb 2 ![2, 0, 0] rfl inb_S4x256x256_S1x256x256_2_0_0 d e).symm)
  case p1 =>
    obtain ⟨d, e, rfl⟩ := slot_idx x
    exact (h1 d e).trans (congrArg G (slot_emb 1 ![1, 0, 0] rfl inb_S4x256x256_S1x256x256_1_0_0 d e).symm)
  case p0 =>
    obtain ⟨d, e, rfl⟩ := slot_idx x
    exact (h0 d e).trans (congrArg G (slot_emb 0 ![0, 0, 0] rfl inb_S4x256x256_S1x256x256_0_0_0 d e).symm)

/-- What a grid point leaves in its state block. -/
theorem state_block (c : Dev nD) (t : Fin cfg0.N) (h : Fin 4) (d e : Fin 256) :
    ((outsAt0 m c t).2 : S1x1x4x256x256.Idx → EReal) (ix5 0 0 h d e)
      = finAt (m ((c.tc : Thread nD τ).loc main_arg0)) (m ((c.tc : Thread nD τ).loc main_arg1)) (seqOf t) (dirAt t) h d e := by
  unfold outsAt0 out0_A_8
  frame_open
  simp (disch := decide) only [↓ View.readCov_skip, ↓ View.readCov_cons_toLoadRect, ↓ View.readCov_fill]
  frame_out
  refine (pay4_at _ h d e).trans ?_
  refine slots_read (slots m c t) _ _ _ _ _ (fun d e => ?p3) (fun d e => ?p2) (fun d e => ?p1) (fun d e => ?p0) (ix3 h d e)
  case p3 =>
    exact (state_head3 (grid0.coords t) _ _ _ _ _ _).trans (headS_congr _ _ _ (ld_lg m c t 3 _ (k0_off4_eq _) _ _)
      (blk_k m c t 3 _ rfl _) (blk_v m c t 3 _ rfl _) (ld_zero m c t _ _))
  case p2 =>
    exact (state_head2 (grid0.coords t) _ _ _ _ _ _).trans (headS_congr _ _ _ (ld_lg m c t 2 _ (k0_off3_eq _) _ _)
      (blk_k m c t 2 _ rfl _) (blk_v m c t 2 _ rfl _) (ld_zero m c t _ _))
  case p1 =>
    exact (state_head1 (grid0.coords t) _ _ _ _ _ _).trans (headS_congr _ _ _ (ld_lg m c t 1 _ (k0_off2_eq _) _ _)
      (blk_k m c t 1 _ rfl _) (blk_v m c t 1 _ rfl _) (ld_zero m c t _ _))
  case p0 =>
    exact (state_head0 (grid0.coords t) _ _ _ _ _ _).trans (headS_congr _ _ _ (ld_lg m c t 0 _ (k0_off1_eq _) _ _)
      (blk_k m c t 0 _ rfl _) (blk_v m c t 0 _ rfl _) (ld_zero m c t _ _))

/-- The output array: scan `dir`, row `b·256 + r`, column `h·256 + e`. -/
theorem final_out (c : Dev nD) : ((dats m 0 c).arrAt 7 cfg0.N : S2x8192x1024.Idx → EReal) =
    fun i => outAt (m ((c.tc : Thread nD τ).loc main_arg0)) (m ((c.tc : Thread nD τ).loc main_arg1))
      ⟨(i 1).val / 256, by have : (i 1).val < 8192 := (i 1).isLt; omega⟩ (i 0)
      ⟨(i 2).val / 256, by have : (i 2).val < 1024 := (i 2).isLt; omega⟩ ⟨(i 1).val % 256, by omega⟩ ⟨(i 2).val % 256, by omega⟩ := by
  refine (dats m 0 c).arrAt_eq_of_covers 7 _ (by decide +kernel) fun t hf y => ?_
  obtain ⟨u, r, x, rfl⟩ : ∃ (u : Fin 1) (r : Fin 256) (x : Fin 1024), y = ix3 u r x := ⟨y 0, y 1, y 2, eq_ix3 y⟩
  obtain rfl : u = 0 := Subsingleton.elim _ _
  have hs := seqOf_val t
  have hd := dirAt_val t
  have hi : (((cfg0.win 7).blk t).view.emb (ix3 0 r x) : S2x8192x1024.Idx)
      = ix3 (dirAt t) ⟨(seqOf t).val * 256 + r.val, by omega⟩ x := by
    blk_ext [idx t]
  rw [hi]
  blk_simp
  rw [after0_7]
  have hx : x = ⟨(⟨x.val / 256, by omega⟩ : Fin 4).val * 256 + (⟨x.val % 256, by omega⟩ : Fin 256).val, by dsimp only; omega⟩ :=
    Fin.ext (by dsimp only; omega)
  refine (congrArg (fun z => ((outsAt0 m c t).1 : S1x256x1024.Idx → EReal) (ix3 0 r z)) hx).trans ((out_block m c t r _ _).trans ?_)
  congr 1 <;> apply Fin.ext <;> simp <;> omega

/-- The state array: sequence `b`, scan `dir`, head `h`. -/
theorem final_state (c : Dev nD) : ((dats m 0 c).arrAt 8 cfg0.N : S32x2x4x256x256.Idx → EReal) =
    fun i => finAt (m ((c.tc : Thread nD τ).loc main_arg0)) (m ((c.tc : Thread nD τ).loc main_arg1))
      (i 0) (i 1) (i 2) (i 3) (i 4) := by
  refine (dats m 0 c).arrAt_eq_of_covers 8 _ (by decide +kernel) fun t hf y => ?_
  obtain ⟨u, v, h, d, e, rfl⟩ : ∃ (u v : Fin 1) (h : Fin 4) (d e : Fin 256), y = ix5 u v h d e :=
    ⟨y 0, y 1, y 2, y 3, y 4, eq_ix5 y⟩
  obtain rfl : u = 0 := Subsingleton.elim _ _
  obtain rfl : v = 0 := Subsingleton.elim _ _
  have hs := seqOf_val t
  have hd := dirAt_val t
  have hi : (((cfg0.win 8).blk t).view.emb (ix5 0 0 h d e) : S32x2x4x256x256.Idx)
      = ix5 (seqOf t) (dirAt t) h d e := by
    blk_ext [idx t]
  rw [hi]
  blk_simp
  rw [after0_8]
  exact state_block m c t h d e

end Cert.Retention

end
-- ==== Proof.RetReal.lean ====
module

public import Mathlib.Analysis.SpecialFunctions.Exp
public import Mathlib.Algebra.BigOperators.Fin
public import Mathlib.Algebra.BigOperators.Intervals

@[expose] public section

/-! Retention over the reals, in time order: what the state and the outputs of one head of one sequence are, and that going
    through the sequence in chunks gives them. -/

namespace Cert.RetReal

open Finset

/-- The state after the first `N` tokens: each token's key times its value, decayed by the tokens since. -/
noncomputable def stateR (g : ℝ) (K V : ℕ → Fin 256 → ℝ) (N : ℕ) (d e : Fin 256) : ℝ :=
  ∑ s ∈ range N, K s d * Real.exp (g * ((N : ℝ) - 1 - s)) * V s e

/-- The output at token `t`: the values of the tokens up to `t`, weighted by query times key and decayed by their distance. -/
noncomputable def outR (g : ℝ) (Q K V : ℕ → Fin 256 → ℝ) (t : ℕ) (e : Fin 256) : ℝ :=
  ∑ s ∈ range (t + 1), (∑ d, Q t d * K s d) * Real.exp (g * ((t : ℝ) - s)) * V s e

/-- No token leaves a zero state. -/
theorem stateR_zero (g : ℝ) (K V : ℕ → Fin 256 → ℝ) (d e : Fin 256) : stateR g K V 0 d e = 0 := by
  simp [stateR]

/-- One chunk of 64 tokens decays the state and adds its own tokens. -/
theorem stateR_chunk (g : ℝ) (K V : ℕ → Fin 256 → ℝ) (N : ℕ) (d e : Fin 256) :
    stateR g K V (N + 64) d e
      = stateR g K V N d e * Real.exp (64 * g)
        + ∑ j : Fin 64, K (N + j) d * Real.exp (64 * g - ((j : ℝ) + 1) * g) * V (N + j) e := by
  unfold stateR
  rw [sum_range_add, Fin.sum_univ_eq_sum_range (fun j : ℕ => K (N + j) d * Real.exp (64 * g - ((j : ℝ) + 1) * g) * V (N + j) e) 64,
    sum_mul]
  congr 1
  · refine sum_congr rfl fun s _ => ?_
    have h : g * (((N + 64 : ℕ) : ℝ) - 1 - s) = g * ((N : ℝ) - 1 - s) + 64 * g := by push_cast; ring
    rw [h, Real.exp_add]; ring
  · refine sum_congr rfl fun s _ => ?_
    have h : g * (((N + 64 : ℕ) : ℝ) - 1 - ((N + s : ℕ) : ℝ)) = 64 * g - ((s : ℝ) + 1) * g := by push_cast; ring
    rw [h]

/-- A token's output from its chunk: the state before the chunk, decayed, and the chunk's tokens up to it. -/
theorem outR_chunk (g : ℝ) (hg : g ≤ 0) (Q K V : ℕ → Fin 256 → ℝ) (N : ℕ) (t : Fin 64) (e : Fin 256) :
    outR g Q K V (N + t) e
      = (∑ d, Q (N + t) d * Real.exp (((t : ℝ) + 1) * g) * stateR g K V N d e)
        + ∑ j : Fin 64, (∑ d, Q (N + t) d * K (N + j) d)
            * (if (j : ℕ) ≤ t then Real.exp (min (((t : ℝ) + 1) * g - ((j : ℝ) + 1) * g) 0) else 0) * V (N + j) e := by
  unfold outR
  rw [show N + (t : ℕ) + 1 = N + ((t : ℕ) + 1) by omega, sum_range_add]
  congr 1
  · simp only [stateR, mul_sum]
    rw [sum_comm]
    refine sum_congr rfl fun s _ => ?_
    rw [sum_mul, sum_mul]
    refine sum_congr rfl fun d _ => ?_
    have h : g * (((N + t : ℕ) : ℝ) - s) = ((t : ℝ) + 1) * g + g * ((N : ℝ) - 1 - s) := by push_cast; ring
    rw [h, Real.exp_add]; ring
  · rw [Fin.sum_univ_eq_sum_range (fun j : ℕ => (∑ d, Q (N + t) d * K (N + j) d)
            * (if j ≤ t then Real.exp (min (((t : ℝ) + 1) * g - ((j : ℝ) + 1) * g) 0) else 0) * V (N + j) e) 64]
    have hsub : range ((t : ℕ) + 1) ⊆ range 64 := range_subset_range.mpr t.isLt
    refine sum_subset_zero_on_sdiff hsub (fun j hj => ?_) fun j hj => ?_
    · have : ¬ j ≤ (t : ℕ) := by simp only [mem_sdiff, mem_range] at hj; omega
      rw [if_neg this]; ring
    · have hj' : j ≤ (t : ℕ) := by simp only [mem_range] at hj; omega
      have hc : (j : ℝ) ≤ (t : ℕ) := by exact_mod_cast hj'
      rw [if_pos hj', min_eq_left (by nlinarith)]
      congr 3
      push_cast; ring

/-- A token's output as one sum over the whole tile, the later tokens masked out. -/
theorem outR_tile (g : ℝ) (Q K V : ℕ → Fin 256 → ℝ) (t e : Fin 256) :
    outR g Q K V t e = ∑ s : Fin 256, (∑ d, Q t d * K s d)
      * (if 0 ≤ (t : ℝ) - s then Real.exp (g * max ((t : ℝ) - s) 0) else 0) * V s e := by
  unfold outR
  rw [Fin.sum_univ_eq_sum_range (fun s : ℕ => (∑ d, Q t d * K s d)
      * (if 0 ≤ ((t : ℕ) : ℝ) - (s : ℝ) then Real.exp (g * max (((t : ℕ) : ℝ) - s) 0) else 0) * V s e) 256]
  have hsub : range ((t : ℕ) + 1) ⊆ range 256 := range_subset_range.mpr t.isLt
  refine sum_subset_zero_on_sdiff hsub (fun s hs => ?_) fun s hs => ?_
  · have h1 : (t : ℕ) < s := by simp only [mem_sdiff, mem_range] at hs; omega
    have : ((t : ℕ) : ℝ) < s := by exact_mod_cast h1
    rw [if_neg (by linarith)]; ring
  · have h1 : s ≤ (t : ℕ) := by simp only [mem_range] at hs; omega
    have : (s : ℝ) ≤ (t : ℕ) := by exact_mod_cast h1
    rw [if_pos (by linarith), max_eq_left (by linarith)]

/-- The state after the whole tile, as one sum. -/
theorem stateR_tile (g : ℝ) (K V : ℕ → Fin 256 → ℝ) (d e : Fin 256) :
    stateR g K V 256 d e = ∑ s : Fin 256, K s d * Real.exp (g * (255 - (s : ℝ))) * V s e := by
  unfold stateR
  rw [Fin.sum_univ_eq_sum_range (fun s : ℕ => K s d * Real.exp (g * (255 - (s : ℝ))) * V s e) 256]
  refine sum_congr rfl fun s _ => ?_
  congr 3
  push_cast; ring

end Cert.RetReal
-- ==== Proof.RetStep.lean ====
module

public import proofs.«01_k».proof.Proof.RetSetup
public import proofs.«01_k».proof.Proof.RetReal
public import Idealize.ShloMosaic.Lib.Routing.Ops

@[expose] public section

set_option maxRecDepth 16384

noncomputable section

/-! One chunk of the retention reference, read at an index. -/

namespace Cert.RetRef

open Idealize.ShloMosaic Idealize.ShloMosaic.TcCoe Idealize.SL.Sem Idealize.ShloMosaic.StableHlo
open Cert.ReferenceIdeal Cert.ReferenceIdeal.Gen
open Cert.ReferenceIdeal.Step

/-- A sum of reals is a real. -/
theorem coe_sum {ι : Type} [Fintype ι] (f : ι → ℝ) : ∑ i, ((f i : ℝ) : EReal) = ((∑ i, f i : ℝ) : EReal) :=
  (map_sum (⟨⟨Real.toEReal, EReal.coe_zero⟩, EReal.coe_add⟩ : ℝ →+ EReal) f Finset.univ).symm

/-- A left fold of additions of reals. -/
theorem foldl_coe {ι : Type} (l : List ι) (G : ι → EReal) (f : ι → ℝ) (hG : ∀ a, G a = ((f a : ℝ) : EReal)) (z : ℝ) :
    l.foldl (fun r a => r + G a) ((z : ℝ) : EReal) = ((z + (l.map f).sum : ℝ) : EReal) := by
  induction l generalizing z with
  | nil => simp
  | cons a l ih =>
    rw [List.foldl_cons, hG a, ← EReal.coe_add, ih, List.map_cons, List.sum_cons, add_assoc]

/-- Of a window of 64 positions ending at `t`, `t + 1` lie in the array. -/
theorem window_sum (g : ℝ) (t : Fin 64) :
    ((List.range 64).map fun w => if 63 ≤ t.val + w then g else 0).sum = ((t.val : ℝ) + 1) * g := by
  have h : ((List.range 64).map fun w => if 63 ≤ t.val + w then g else 0).sum
      = ∑ w ∈ Finset.range 64, if 63 ≤ t.val + w then g else 0 := rfl
  rw [h, ← Finset.sum_filter, Finset.sum_const, nsmul_eq_mul]
  have hf : (Finset.range 64).filter (fun w => 63 ≤ t.val + w) = Finset.Ico (63 - t.val) 64 := by
    ext w; simp only [Finset.mem_filter, Finset.mem_range, Finset.mem_Ico]; omega
  rw [hf, Nat.card_Ico, show 64 - (63 - t.val) = t.val + 1 by omega]
  push_cast; rfl

/-- The running sum, along a chunk, of one number. -/
theorem cum_of (x : S64x4x64x1.Idx → EReal) (init : S_.Idx → EReal)
    (hr : S64x4x64x1.ReduceWindows ![1, 1, 64, 1] ![1, 1, 1, 1] ![0, 0, 63, 0] ![0, 0, 0, 0] S64x4x64x1) (hu : 0 < S_.numel)
    (n : Fin 64) (h : Fin 4) (t : Fin 64) (g : ℝ) (hx : ∀ t, x (ix4 n h t 0) = ((g : ℝ) : EReal)) (hi : init (Shape.Idx.first hu) = 0) :
    Host.reduceWindowAdd (F := Ideal) (φ := .f32) ![1, 1, 64, 1] ![1, 1, 1, 1] ![0, 0, 63, 0] ![0, 0, 0, 0] x init hr hu (ix4 n h t 0)
      = ((((t.val : ℝ) + 1) * g : ℝ) : EReal) := by
  show Host.reduceWindow (α := EReal) (· + ·) ![1, 1, 64, 1] ![1, 1, 1, 1] ![0, 0, 63, 0] ![0, 0, 0, 0] x
    (fun _ : (⟨0, ![]⟩ : Shape).Idx => init (Shape.Idx.first hu)) hr hu (ix4 n h t 0) = _
  unfold Host.reduceWindow
  rw [hi]
  let W : Shape := ⟨4, ![1, 1, 64, 1]⟩
  have hn : W.numel = 64 := by decide
  have hpos : ∀ k : Fin W.numel, (W.rowMajor.symm k 0).val = 0 ∧ (W.rowMajor.symm k 1).val = 0 ∧ (W.rowMajor.symm k 2).val = k.val
      ∧ (W.rowMajor.symm k 3).val = 0 := by
    intro k
    have h0 := (W.rowMajor.symm k 0).isLt
    have h1 := (W.rowMajor.symm k 1).isLt
    have h3 := (W.rowMajor.symm k 3).isLt
    change _ < 1 at h0
    change _ < 1 at h1
    change _ < 1 at h3
    have e := Shape.rowMajor_val_four (d := ![1, 1, 64, 1]) (W.rowMajor.symm k)
    rw [show (Shape.rowMajor _) (W.rowMajor.symm k) = k from W.rowMajor.apply_symm_apply k] at e
    change k.val = (((W.rowMajor.symm k 0).val * 1 + (W.rowMajor.symm k 1).val) * 64 + (W.rowMajor.symm k 2).val) * 1 + (W.rowMajor.symm k 3).val at e
    omega
  refine (foldl_coe (List.finRange W.numel) _ (fun k => if 63 ≤ t.val + k.val then g else 0) (fun k => ?_) 0).trans ?_
  · obtain ⟨p0, p1, p2, p3⟩ := hpos k
    have hk : k.val < 64 := hn ▸ k.isLt
    dsimp only
    split
    · next hin =>
      have h2 := hin 2
      change 63 ≤ t.val * 1 + (W.rowMajor.symm k 2).val ∧ t.val * 1 + (W.rowMajor.symm k 2).val - 63 < 64 at h2
      rw [p2] at h2
      rw [if_pos (by omega)]
      refine (congrArg x (funext fun a => Fin.ext ?_)).trans (hx ⟨t.val + k.val - 63, by omega⟩)
      match a with
      | ⟨0, _⟩ => show n.val * 1 + (W.rowMajor.symm k 0).val - 0 = n.val; omega
      | ⟨1, _⟩ => show h.val * 1 + (W.rowMajor.symm k 1).val - 0 = h.val; omega
      | ⟨2, _⟩ => show t.val * 1 + (W.rowMajor.symm k 2).val - 63 = t.val + k.val - 63; omega
      | ⟨3, _⟩ => show 0 * 1 + (W.rowMajor.symm k 3).val - 0 = 0; omega
    · next hin =>
      rw [if_neg fun hle => hin fun a => by
        match a with
        | ⟨0, _⟩ => show 0 ≤ n.val * 1 + (W.rowMajor.symm k 0).val ∧ n.val * 1 + (W.rowMajor.symm k 0).val - 0 < 64; omega
        | ⟨1, _⟩ => show 0 ≤ h.val * 1 + (W.rowMajor.symm k 1).val ∧ h.val * 1 + (W.rowMajor.symm k 1).val - 0 < 4; omega
        | ⟨2, _⟩ => show 63 ≤ t.val * 1 + (W.rowMajor.symm k 2).val ∧ t.val * 1 + (W.rowMajor.symm k 2).val - 63 < 64; omega
        | ⟨3, _⟩ => show 0 ≤ 0 * 1 + (W.rowMajor.symm k 3).val ∧ 0 * 1 + (W.rowMajor.symm k 3).val - 0 < 1; omega]
      rfl
  · rw [zero_add, show ((List.finRange W.numel).map fun k => if 63 ≤ t.val + k.val then g else 0)
      = (List.range 64).map (fun w => if 63 ≤ t.val + w then g else 0) by
        exact (Routing.map_finRange_val W.numel fun w => if 63 ≤ t.val + w then g else 0).trans (by rw [hn]), window_sum]

variable (s : State Ideal)

/-- The start of chunk `j` along the leading axis, for each of the four chunks. -/
theorem start0 (j : Fin 4) : (BitVec.ofNat 32 j.val).toInt = (j.val : Int) := by revert j; decide

/-- Where a chunk of the channels starts along axis 0. -/
theorem start256_0 (j : Fin 4) (pf : S1x64x4x64x256.rank = S4x64x4x64x256.rank) :
    Host.clampedStart S4x64x4x64x256 S1x64x4x64x256 pf (fun k => BitVec.toInt
      ((![constantI S_ 32 (BitVec.ofNat 32 j.val), constantI S_ 32 0#32, constantI S_ 32 0#32, constantI S_ 32 0#32,
        constantI S_ 32 0#32] : Fin 5 → S_.Idx → BitVec 32) k (Shape.Idx.first h_S_))) 0 = j.val :=
  Host.clampedStart_of_le _ _ 0 j.val (start0 j) (by simp)

/-- Where a chunk of the channels starts along axis 1. -/
theorem start256_1 (j : Fin 4) (pf : S1x64x4x64x256.rank = S4x64x4x64x256.rank) :
    Host.clampedStart S4x64x4x64x256 S1x64x4x64x256 pf (fun k => BitVec.toInt
      ((![constantI S_ 32 (BitVec.ofNat 32 j.val), constantI S_ 32 0#32, constantI S_ 32 0#32, constantI S_ 32 0#32,
        constantI S_ 32 0#32] : Fin 5 → S_.Idx → BitVec 32) k (Shape.Idx.first h_S_))) 1 = 0 :=
  Host.clampedStart_of_le _ _ 1 0 rfl (by simp)

/-- Where a chunk of the channels starts along axis 2. -/
theorem start256_2 (j : Fin 4) (pf : S1x64x4x64x256.rank = S4x64x4x64x256.rank) :
    Host.clampedStart S4x64x4x64x256 S1x64x4x64x256 pf (fun k => BitVec.toInt
      ((![constantI S_ 32 (BitVec.ofNat 32 j.val), constantI S_ 32 0#32, constantI S_ 32 0#32, constantI S_ 32 0#32,
        constantI S_ 32 0#32] : Fin 5 → S_.Idx → BitVec 32) k (Shape.Idx.first h_S_))) 2 = 0 :=
  Host.clampedStart_of_le _ _ 2 0 rfl (by simp)

/-- Where a chunk of the channels starts along axis 3. -/
theorem start256_3 (j : Fin 4) (pf : S1x64x4x64x256.rank = S4x64x4x64x256.rank) :
    Host.clampedStart S4x64x4x64x256 S1x64x4x64x256 pf (fun k => BitVec.toInt
      ((![constantI S_ 32 (BitVec.ofNat 32 j.val), constantI S_ 32 0#32, constantI S_ 32 0#32, constantI S_ 32 0#32,
        constantI S_ 32 0#32] : Fin 5 → S_.Idx → BitVec 32) k (Shape.Idx.first h_S_))) 3 = 0 :=
  Host.clampedStart_of_le _ _ 3 0 rfl (by simp)

/-- Where a chunk of the channels starts along axis 4. -/
theorem start256_4 (j : Fin 4) (pf : S1x64x4x64x256.rank = S4x64x4x64x256.rank) :
    Host.clampedStart S4x64x4x64x256 S1x64x4x64x256 pf (fun k => BitVec.toInt
      ((![constantI S_ 32 (BitVec.ofNat 32 j.val), constantI S_ 32 0#32, constantI S_ 32 0#32, constantI S_ 32 0#32,
        constantI S_ 32 0#32] : Fin 5 → S_.Idx → BitVec 32) k (Shape.Idx.first h_S_))) 4 = 0 :=
  Host.clampedStart_of_le _ _ 4 0 rfl (by simp)

/-- Where a chunk of the log-decays starts along axis 0. -/
theorem start1_0 (j : Fin 4) (pf : S1x64x4x64x1.rank = S4x64x4x64x1.rank) :
    Host.clampedStart S4x64x4x64x1 S1x64x4x64x1 pf (fun k => BitVec.toInt
      ((![constantI S_ 32 (BitVec.ofNat 32 j.val), constantI S_ 32 0#32, constantI S_ 32 0#32, constantI S_ 32 0#32,
        constantI S_ 32 0#32] : Fin 5 → S_.Idx → BitVec 32) k (Shape.Idx.first h_S_))) 0 = j.val :=
  Host.clampedStart_of_le _ _ 0 j.val (start0 j) (by simp)

/-- Where a chunk of the log-decays starts along axis 1. -/
theorem start1_1 (j : Fin 4) (pf : S1x64x4x64x1.rank = S4x64x4x64x1.rank) :
    Host.clampedStart S4x64x4x64x1 S1x64x4x64x1 pf (fun k => BitVec.toInt
      ((![constantI S_ 32 (BitVec.ofNat 32 j.val), constantI S_ 32 0#32, constantI S_ 32 0#32, constantI S_ 32 0#32,
        constantI S_ 32 0#32] : Fin 5 → S_.Idx → BitVec 32) k (Shape.Idx.first h_S_))) 1 = 0 :=
  Host.clampedStart_of_le _ _ 1 0 rfl (by simp)

/-- Where a chunk of the log-decays starts along axis 2. -/
theorem start1_2 (j : Fin 4) (pf : S1x64x4x64x1.rank = S4x64x4x64x1.rank) :
    Host.clampedStart S4x64x4x64x1 S1x64x4x64x1 pf (fun k => BitVec.toInt
      ((![constantI S_ 32 (BitVec.ofNat 32 j.val), constantI S_ 32 0#32, constantI S_ 32 0#32, constantI S_ 32 0#32,
        constantI S_ 32 0#32] : Fin 5 → S_.Idx → BitVec 32) k (Shape.Idx.first h_S_))) 2 = 0 :=
  Host.clampedStart_of_le _ _ 2 0 rfl (by simp)

/-- Where a chunk of the log-decays starts along axis 3. -/
theorem start1_3 (j : Fin 4) (pf : S1x64x4x64x1.rank = S4x64x4x64x1.rank) :
    Host.clampedStart S4x64x4x64x1 S1x64x4x64x1 pf (fun k => BitVec.toInt
      ((![constantI S_ 32 (BitVec.ofNat 32 j.val), constantI S_ 32 0#32, constantI S_ 32 0#32, constantI S_ 32 0#32,
        constantI S_ 32 0#32] : Fin 5 → S_.Idx → BitVec 32) k (Shape.Idx.first h_S_))) 3 = 0 :=
  Host.clampedStart_of_le _ _ 3 0 rfl (by simp)

/-- Where a chunk of the log-decays starts along axis 4. -/
theorem start1_4 (j : Fin 4) (pf : S1x64x4x64x1.rank = S4x64x4x64x1.rank) :
    Host.clampedStart S4x64x4x64x1 S1x64x4x64x1 pf (fun k => BitVec.toInt
      ((![constantI S_ 32 (BitVec.ofNat 32 j.val), constantI S_ 32 0#32, constantI S_ 32 0#32, constantI S_ 32 0#32,
        constantI S_ 32 0#32] : Fin 5 → S_.Idx → BitVec 32) k (Shape.Idx.first h_S_))) 4 = 0 :=
  Host.clampedStart_of_le _ _ 4 0 rfl (by simp)

/-- The chunk's queries. -/
theorem b5_at (j : Fin 4) (n : Fin 64) (h : Fin 4) (t : Fin 64) (d : Fin 256) :
    b5 (F := Ideal) j s (ix4 n h t d) = s.main_v48_0 (ix5 j n h t d) := by
  pointwise [b5, b4]
  simp only [b0, b1, b2, b3, start256_0, start256_1, start256_2, start256_3, start256_4, Nat.zero_add, Fin.eta]

/-- The chunk's keys. -/
theorem b11_at (j : Fin 4) (n : Fin 64) (h : Fin 4) (t : Fin 64) (d : Fin 256) :
    b11 (F := Ideal) j s (ix4 n h t d) = s.main_v48_1 (ix5 j n h t d) := by
  pointwise [b11, b10]
  simp only [b6, b7, b8, b9, start256_0, start256_1, start256_2, start256_3, start256_4, Nat.zero_add, Fin.eta]

/-- The chunk's values. -/
theorem b17_at (j : Fin 4) (n : Fin 64) (h : Fin 4) (t : Fin 64) (d : Fin 256) :
    b17 (F := Ideal) j s (ix4 n h t d) = s.main_v48_2 (ix5 j n h t d) := by
  pointwise [b17, b16]
  simp only [b12, b13, b14, b15, start256_0, start256_1, start256_2, start256_3, start256_4, Nat.zero_add, Fin.eta]

/-- The chunk's log-decays. -/
theorem b23_at (j : Fin 4) (n : Fin 64) (h : Fin 4) (t : Fin 64) :
    b23 (F := Ideal) j s (ix4 n h t 0) = s.main_v48_3 (ix5 j n h t 0) := by
  pointwise [b23, b22]
  simp only [b18, b19, b20, b21, start1_0, start1_1, start1_2, start1_3, start1_4, Nat.zero_add, Fin.eta]
  try rfl

/-- The chunk's summed log-decays, where all its log-decays are one number. -/
theorem b26_at (j : Fin 4) (n : Fin 64) (h : Fin 4) (t : Fin 64) (g : ℝ) (hg : ∀ t, s.main_v48_3 (ix5 j n h t 0) = ((g : ℝ) : EReal)) :
    b26 (F := Ideal) j s (ix4 n h t 0) = ((((t.val : ℝ) + 1) * g : ℝ) : EReal) := by
  unfold b26
  refine cum_of _ _ _ _ n h t g (fun t => (b23_at s j n h t).trans (hg t)) ?_
  show (FloatOps.ofBits (F := Ideal) .f32 0#32) = 0
  simp

/-- The collected outputs after chunk `j`: the chunk's own at `j`, the earlier ones elsewhere. -/
theorem b67_at (j : Fin 4) (c : Fin 4) (n : Fin 64) (h : Fin 4) (t : Fin 64) (d : Fin 256) :
    b67 (F := Ideal) j s (ix5 c n h t d) = if c = j then b61 (F := Ideal) j s (ix4 n h t d) else s.main_v48_7 (ix5 c n h t d) := by
  pointwise [b67, b62]
  simp only [b63, b64, b65, b66, start256_0, start256_1, start256_2, start256_3, start256_4, Nat.sub_zero, Fin.eta, Nat.zero_le, and_true, true_and]
  have hc : (j.val ≤ c.val ∧ c.val < j.val + 1) ↔ c = j := by rw [Fin.ext_iff]; omega
  by_cases h0 : c = j
  · rw [dif_pos (hc.2 h0), if_pos h0]
  · rw [dif_neg (fun h => h0 (hc.1 h)), if_neg h0]

/-- The chunk's outputs. -/
theorem b61_at (j : Fin 4) (n : Fin 64) (h : Fin 4) (t : Fin 64) (e : Fin 256) :
    b61 (F := Ideal) j s (ix4 n h t e)
      = (∑ d, b5 (F := Ideal) j s (ix4 n h t d) * Ideal.exp (b26 (F := Ideal) j s (ix4 n h t 0)) * s.main_v48_6 (ix4 n h d e))
        + ∑ x, if x.val ≤ t.val then
          (∑ d, b5 (F := Ideal) j s (ix4 n h t d) * b11 (F := Ideal) j s (ix4 n h x d))
              * Ideal.exp (min (b26 (F := Ideal) j s (ix4 n h t 0) - b26 (F := Ideal) j s (ix4 n h x 0)) 0)
            * b17 (F := Ideal) j s (ix4 n h x e) else 0 := by
  pointwise [b61, b48, b47, b46, b45, b44, b43, b42, b41, b40, b39, b38, b37, b36, b35, b34, b33, b32, b31, b30, b29, b28, b27]
  refine congrArg (_ + ·) (Fin.sum_fin_congr fun x => ?_)
  rw [mask_at]
  split <;> rfl

/-- The chunk's new state. -/
theorem b60_at (j : Fin 4) (n : Fin 64) (h : Fin 4) (d e : Fin 256) :
    b60 (F := Ideal) j s (ix4 n h d e)
      = s.main_v48_6 (ix4 n h d e) * Ideal.exp (b26 (F := Ideal) j s (ix4 n h 63 0))
        + ∑ x, b11 (F := Ideal) j s (ix4 n h x d)
            * Ideal.exp (b26 (F := Ideal) j s (ix4 n h 63 0) - b26 (F := Ideal) j s (ix4 n h x 0))
            * b17 (F := Ideal) j s (ix4 n h x e) := by
  pointwise [b60, b59, b58, b57, b56, b55, b54, b53, b52, b51, b50, b49]

end Cert.RetRef
-- ==== Proof.RetRef.lean ====
module

public import proofs.«01_k».proof.Proof.RetStep

@[expose] public section

set_option maxRecDepth 16384

noncomputable section

/-! What the retention reference computes of real arguments: the state and the outputs of `RetReal`. -/

namespace Cert.RetRef

open Idealize.ShloMosaic Idealize.ShloMosaic.TcCoe Idealize.SL.Sem Idealize.ShloMosaic.StableHlo
open Cert.ReferenceIdeal Cert.ReferenceIdeal.Gen
open Cert.ReferenceIdeal.Step
open Cert.RetReal Cert.RetRun

/-- The keys' scale is one sixteenth. -/
theorem scale_eq : Ideal.ofBits .f32 0x3D800000#32 = (((1 : ℝ) / 16 : ℝ) : EReal) := by
  simp [Ideal.ofBits, Ideal.ieee, -EReal.coe_mul]; norm_num

/-- The logarithm of the sigmoid of a real. -/
def logSigR (x : ℝ) : ℝ := -(max (-x) 0 + Real.log (1 + Real.exp (-|x|)))

/-- jax's formula for the logarithm of the sigmoid, at a real. -/
theorem logSig_coe (x : ℝ) : logSig ((x : ℝ) : EReal) = ((logSigR x : ℝ) : EReal) := by
  have hmax : ∀ a b : ℝ, max ((a : ℝ) : EReal) ((b : ℝ) : EReal) = ((max a b : ℝ) : EReal) := fun a b =>
    (EReal.coe_strictMono.monotone.map_max).symm
  have habs : FloatOps.absf (F := Ideal) (φ := .f32) (-((x : ℝ) : EReal)) = ((|x| : ℝ) : EReal) := by
    show max (-((x : ℝ) : EReal)) (- -((x : ℝ) : EReal)) = _
    rw [← EReal.coe_neg, ← EReal.coe_neg, hmax, neg_neg, max_comm]; rfl
  have hpos : ¬ (1 + Real.exp (-|x|) ≤ 0) := by have := Real.exp_pos (-|x|); linarith
  unfold logSig
  rw [if_neg (not_not.2 rfl), habs, ← EReal.coe_neg, ← EReal.coe_neg, Ideal.exp_coe]
  unfold Ideal.log1p
  rw [← EReal.coe_one, ← EReal.coe_add, Ideal.log_coe, if_neg hpos, ← EReal.coe_zero, hmax, ← EReal.coe_add, ← EReal.coe_neg]
  rfl

/-- It is not positive. -/
theorem logSigR_nonpos (x : ℝ) : logSigR x ≤ 0 := by
  have h1 : 0 ≤ Real.log (1 + Real.exp (-|x|)) := Real.log_nonneg (by have := Real.exp_pos (-|x|); linarith)
  have h2 : 0 ≤ max (-x) 0 := le_max_right _ _
  unfold logSigR; linarith

variable (p : S16384x4096.Idx → ℝ) (w : S2x4.Idx → ℝ)

/-- The query of scan `n`, head `h`, at token `t` in time order. -/
def qR (n : Fin 64) (h : Fin 4) (t : ℕ) (d : Fin 256) : ℝ := p (ix2 (rowAt n t) (colAt 0 h d))

/-- The key, scaled. -/
def kR (n : Fin 64) (h : Fin 4) (t : ℕ) (d : Fin 256) : ℝ := p (ix2 (rowAt n t) (colAt 1 h d)) * (1 / 16)

/-- The value. -/
def vR (n : Fin 64) (h : Fin 4) (t : ℕ) (d : Fin 256) : ℝ := p (ix2 (rowAt n t) (colAt 2 h d))

/-- The log-decay of scan `n`, head `h`. -/
def gR (n : Fin 64) (h : Fin 4) : ℝ := logSigR (w (ix2 (dirOf n) h))

/-- The arguments as extended reals. -/
abbrev pE : S16384x4096.Idx → EReal := fun i => ((p i : ℝ) : EReal)

/-- The decays as extended reals. -/
abbrev wE : S2x4.Idx → EReal := fun i => ((w i : ℝ) : EReal)

/-- After `j` chunks: the inputs as set up, the state of the first `64 j` tokens, the outputs of the first `j` chunks. -/
structure Inv (j : ℕ) (s : State Ideal) : Prop where
  q : s.main_v48_0 = A_main_v37 (F := Ideal) (pE p) (wE w)
  k : s.main_v48_1 = A_main_v39 (F := Ideal) (pE p) (wE w)
  v : s.main_v48_2 = A_main_v41 (F := Ideal) (pE p) (wE w)
  g : s.main_v48_3 = A_main_v43 (F := Ideal) (pE p) (wE w)
  state : ∀ n h d e, s.main_v48_6 (ix4 n h d e) = ((stateR (gR w n h) (kR p n h) (vR p n h) (64 * j) d e : ℝ) : EReal)
  outs : ∀ c : Fin 4, c.val < j → ∀ n h t e, s.main_v48_7 (ix5 c n h t e)
    = ((outR (gR w n h) (qR p n h) (kR p n h) (vR p n h) (64 * c.val + t.val) e : ℝ) : EReal)

variable {p w}

/-- The set-up's state. -/
theorem inv_init : Inv p w 0 (init (F := Ideal) (pE p) (wE w)) where
  q := rfl
  k := rfl
  v := rfl
  g := rfl
  state n h d e := by rw [Nat.mul_zero, stateR_zero]; exact state0_at n h d e
  outs c hc := absurd hc (Nat.not_lt_zero _)

section
variable {s : State Ideal} {j : Fin 4} (I : Inv p w j.val s)
include I

/-- The chunk's queries are the tokens' queries. -/
theorem Inv.q_at (n : Fin 64) (h : Fin 4) (t : Fin 64) (d : Fin 256) :
    b5 (F := Ideal) j s (ix4 n h t d) = ((qR p n h (64 * j.val + t.val) d : ℝ) : EReal) := by
  rw [b5_at, I.q, RetRef.q_at]; rfl

/-- The chunk's keys are the tokens' keys. -/
theorem Inv.k_at (n : Fin 64) (h : Fin 4) (t : Fin 64) (d : Fin 256) :
    b11 (F := Ideal) j s (ix4 n h t d) = ((kR p n h (64 * j.val + t.val) d : ℝ) : EReal) := by
  rw [b11_at, I.k, RetRef.k_at, scale_eq, ← EReal.coe_mul]; rfl

/-- The chunk's values are the tokens' values. -/
theorem Inv.v_at (n : Fin 64) (h : Fin 4) (t : Fin 64) (d : Fin 256) :
    b17 (F := Ideal) j s (ix4 n h t d) = ((vR p n h (64 * j.val + t.val) d : ℝ) : EReal) := by
  rw [b17_at, I.v, RetRef.v_at]; rfl

/-- The chunk's summed log-decays. -/
theorem Inv.cum_at (n : Fin 64) (h : Fin 4) (t : Fin 64) :
    b26 (F := Ideal) j s (ix4 n h t 0) = ((((t.val : ℝ) + 1) * gR w n h : ℝ) : EReal) :=
  b26_at s j n h t (gR w n h) fun t => by rw [I.g, RetRef.g_at, logSig_coe]; rfl

/-- The chunk's new state is the state of 64 more tokens. -/
theorem Inv.state_next (n : Fin 64) (h : Fin 4) (d e : Fin 256) :
    b60 (F := Ideal) j s (ix4 n h d e)
      = ((stateR (gR w n h) (kR p n h) (vR p n h) (64 * (j.val + 1)) d e : ℝ) : EReal) := by
  rw [b60_at, I.state, Nat.mul_add, stateR_chunk]
  simp only [I.cum_at, I.k_at, I.v_at, Ideal.exp_coe, ← EReal.coe_sub, ← EReal.coe_mul]
  rw [coe_sum, ← EReal.coe_add]
  have h63 : (((63 : Fin 64).val : ℝ) + 1) = 64 := by norm_num
  rw [h63]

/-- The chunk's outputs are the tokens' outputs. -/
theorem Inv.outs_next (n : Fin 64) (h : Fin 4) (t : Fin 64) (e : Fin 256) :
    b61 (F := Ideal) j s (ix4 n h t e)
      = ((outR (gR w n h) (qR p n h) (kR p n h) (vR p n h) (64 * j.val + t.val) e : ℝ) : EReal) := by
  have hmin : ∀ a : ℝ, min ((a : ℝ) : EReal) 0 = ((min a 0 : ℝ) : EReal) := fun a =>
    (EReal.coe_strictMono.monotone.map_min (a := a) (b := 0)).symm
  rw [b61_at, outR_chunk _ (show gR w n h ≤ 0 from logSigR_nonpos _)]
  simp only [I.cum_at, I.q_at, I.k_at, I.v_at, I.state, Ideal.exp_coe, ← EReal.coe_sub, ← EReal.coe_mul, coe_sum, hmin]
  rw [EReal.coe_add]
  refine congrArg (_ + ·) ((Fin.sum_fin_congr fun x => ?_).trans (coe_sum _))
  split
  · rfl
  · rw [mul_zero, zero_mul, EReal.coe_zero]

/-- One chunk keeps the description. -/
theorem Inv.next : Inv p w (j.val + 1) (step (F := Ideal) j.val s) where
  q := I.q
  k := I.k
  v := I.v
  g := I.g
  state n h d e := I.state_next n h d e
  outs c hc n h t e := by
    show b67 (F := Ideal) j s (ix5 c n h t e) = _
    rw [b67_at]
    by_cases hcj : c = j
    · rw [if_pos hcj, hcj]; exact I.outs_next n h t e
    · rw [if_neg hcj]
      exact I.outs c (by have : c.val ≠ j.val := fun h => hcj (Fin.ext h); omega) n h t e

end

/-- The last state. -/
theorem inv_last : Inv p w 4 (stateAt (F := Ideal) (pE p) (wE w) 4) :=
  Inv.next (j := 3) (Inv.next (j := 2) (Inv.next (j := 1) (Inv.next (j := 0) inv_init)))

/-- The final states the reference returns. -/
theorem fin_at (b : Fin 32) (r : Fin 2) (h : Fin 4) (d e : Fin 256) :
    R_main_v58 (stateAt (F := Ideal) (pE p) (wE w) 4) (ix5 b r h d e)
      = ((stateR (gR w ⟨r.val * 32 + b.val, by omega⟩ h) (kR p ⟨r.val * 32 + b.val, by omega⟩ h)
          (vR p ⟨r.val * 32 + b.val, by omega⟩ h) 256 d e : ℝ) : EReal) := by
  pointwise [R_main_v58]
  simp only [inv_last.state]
  match r with
  | ⟨0, _⟩ => simp only [Nat.zero_mul, Nat.zero_add]; rfl
  | ⟨1, _⟩ => rfl

/-- The outputs the reference returns: direction `r`, sequence `b`, token `t` of its rows. -/
theorem out_at (r : Fin 2) (b : Fin 32) (x : Fin 256) (h : Fin 4) (e : Fin 256) :
    R_main_v62 (stateAt (F := Ideal) (pE p) (wE w) 4) (ix3 r ⟨b.val * 256 + x.val, by omega⟩ ⟨h.val * 256 + e.val, by omega⟩)
      = ((outR (gR w ⟨r.val * 32 + b.val, by omega⟩ h) (qR p ⟨r.val * 32 + b.val, by omega⟩ h)
          (kR p ⟨r.val * 32 + b.val, by omega⟩ h) (vR p ⟨r.val * 32 + b.val, by omega⟩ h)
          (if r = 0 then x.val else 255 - x.val) e : ℝ) : EReal) := by
  have hrow : ((b.val * 256 + x.val) / 256 = b.val) ∧ (b.val * 256 + x.val) % 256 = x.val := by omega
  have hcol : ((h.val * 256 + e.val) / 256 = h.val) ∧ (h.val * 256 + e.val) % 256 = e.val := by omega
  pointwise [R_main_v62]
  simp only [List.mem_singleton, reduceIte, Fin.reduceEq, hrow, hcol, Fin.eta]
  match r with
  | ⟨0, _⟩ =>
    rw [dif_pos Nat.zero_lt_one]
    refine (inv_last.outs ⟨x.val / 64, by omega⟩ (by dsimp only; omega) ⟨b.val, by omega⟩ h ⟨x.val % 64, by omega⟩ e).trans ?_
    simp only [Nat.zero_mul, Nat.zero_add, Nat.div_add_mod]; rfl
  | ⟨1, _⟩ =>
    rw [dif_neg (Nat.lt_irrefl 1)]
    refine (inv_last.outs ⟨x.rev.val / 64, by omega⟩ (by dsimp only; omega) ⟨32 + b.val, by omega⟩ h ⟨x.rev.val % 64, by omega⟩ e).trans ?_
    have hx : x.rev.val = 255 - x.val := by simp [Fin.rev]
    simp only [Nat.div_add_mod, hx]; rfl

end Cert.RetRef
-- ==== Proof.RetEq.lean ====
/-
  The retention's equation: one grid point of the kernel, over the reals, is the whole scan of one sequence in one
  direction. In the second direction the kernel keeps the tokens in their stored order and turns its masks and decays
  round, where the scan reads the tokens backwards.
-/
module

public import proofs.«01_k».proof.Proof.RetKernel
public import proofs.«01_k».proof.Proof.RetRef

@[expose] public section

set_option maxRecDepth 16384

noncomputable section

namespace Cert.Retention

open Cert.KernelIdeal Cert.KernelIdeal.Gen Idealize.ShloMosaic Idealize.ShloMosaic.TcCoe Idealize.SL.Sem
open Cert.RetRef (logSig logSigR logSig_coe colAt rowAt coe_sum scale_eq qR kR vR gR pE wE dirOf)
open Cert.RetReal

/-- The order in which direction `u` reads a tile's tokens. -/
def order (u : Fin 2) : Equiv.Perm (Fin 256) := if u = 0 then Equiv.refl _ else Fin.revPerm

/-- The first direction reads them in their stored order. -/
theorem order_zero (a : Fin 256) : order 0 a = a := rfl

/-- The second direction reads them backwards. -/
theorem order_one (a : Fin 256) : (order 1 a).val = 255 - a.val := by
  show (Fin.rev a).val = _
  rw [Fin.val_rev]
  omega

/-- The order's number of a token, as a real. -/
theorem order_one_real (a : Fin 256) : ((order 1 a).val : ℝ) = 255 - (a.val : ℝ) := by
  rw [order_one, Nat.cast_sub (by omega)]
  norm_num

/-- A small number as a float. -/
theorem sitofp_nat (a : Fin 256) : FloatOps.sitofp (F := Ideal) .f32 (BitVec.ofNat 32 a.val) = (((a.val : ℝ)) : EReal) := by
  have h : (BitVec.ofNat 32 a.val).toInt = (a.val : ℤ) := by
    rw [BitVec.toInt_ofNat', Int.bmod_eq_of_le (by omega) (by omega)]
  show ((((BitVec.ofNat 32 a.val).toInt : ℤ) : ℝ) : EReal) = _
  rw [h]
  norm_num

/-- A difference of two small numbers as a float. -/
theorem sitofp_sub (a b : Fin 256) :
    FloatOps.sitofp (F := Ideal) .f32 (IntOp.subi (BitVec.ofNat 32 a.val) (BitVec.ofNat 32 b.val))
      = (((a.val : ℝ) - (b.val : ℝ) : ℝ) : EReal) := by
  have h : (BitVec.ofNat 32 a.val - BitVec.ofNat 32 b.val).toInt = (a.val : ℤ) - (b.val : ℤ) := by
    rw [BitVec.toInt_sub, BitVec.toInt_ofNat', BitVec.toInt_ofNat', Int.bmod_eq_of_le (n := (a.val : ℤ)) (by omega) (by omega),
      Int.bmod_eq_of_le (n := (b.val : ℤ)) (by omega) (by omega), Int.bmod_eq_of_le (by omega) (by omega)]
  show ((((BitVec.ofNat 32 a.val - BitVec.ofNat 32 b.val).toInt : ℤ) : ℝ) : EReal) = _
  rw [h]
  norm_num

/-- The kernel's distance of two tokens is their distance in the direction's order. -/
theorem dist_real (u : Fin 2) (r x : Fin 256) :
    distE (BitVec.ofNat 32 u.val) r.val x.val = ((((order u r).val : ℝ) - ((order u x).val : ℝ) : ℝ) : EReal) := by
  match u with
  | ⟨0, _⟩ => exact sitofp_sub r x
  | ⟨1, _⟩ =>
    refine (sitofp_sub x r).trans (congrArg _ ?_)
    show _ = ((order 1 r).val : ℝ) - ((order 1 x).val : ℝ)
    rw [order_one_real, order_one_real]
    ring

/-- The kernel's number of tokens after a row is that in the direction's order. -/
theorem down_real (u : Fin 2) (x : Fin 256) :
    downE (BitVec.ofNat 32 u.val) x.val = ((255 - ((order u x).val : ℝ) : ℝ) : EReal) := by
  match u with
  | ⟨0, _⟩ =>
    refine (sitofp_sub ⟨255, by omega⟩ x).trans (congrArg _ ?_)
    show ((255 : ℕ) : ℝ) - _ = 255 - ((order 0 x).val : ℝ)
    rw [order_zero]
    norm_num
  | ⟨1, _⟩ =>
    refine (sitofp_nat x).trans (congrArg _ ?_)
    show _ = 255 - ((order 1 x).val : ℝ)
    rw [order_one_real]
    ring

/-- A comparison with zero of a real. -/
theorem mask_real (g D : ℝ) : (if (0 : EReal) ≤ (D : EReal) then Ideal.exp ((g : EReal) * max (D : EReal) 0) else 0)
    = ((if 0 ≤ D then Real.exp (g * max D 0) else 0 : ℝ) : EReal) := by
  have hm : max (D : EReal) 0 = ((max D 0 : ℝ) : EReal) := by
    rw [← EReal.coe_zero]; exact (EReal.coe_strictMono.monotone.map_max).symm
  by_cases h : 0 ≤ D
  · rw [if_pos (EReal.coe_nonneg.mpr h), if_pos h, hm, ← EReal.coe_mul, Ideal.exp_coe]
  · rw [if_neg (fun hc => h (EReal.coe_nonneg.mp hc)), if_neg h, EReal.coe_zero]

section
variable (u : Fin 2) (g : ℝ) (q k v : S256x256.Idx → EReal) (Q K V : ℕ → Fin 256 → ℝ)

/-- One head's output over the reals, from a zero state, is the scan's output. -/
theorem headO_real (hq : ∀ a d, q (ix2 a d) = ((Q (order u a).val d : ℝ) : EReal))
    (hk : ∀ a d, k (ix2 a d) * Ideal.ofBits .f32 0x3D800000#32 = ((K (order u a).val d : ℝ) : EReal))
    (hv : ∀ a d, v (ix2 a d) = ((V (order u a).val d : ℝ) : EReal)) (r e : Fin 256) :
    headO (BitVec.ofNat 32 u.val) (g : EReal) q k v (fun _ => (0 : EReal)) r e
      = ((outR g Q K V (order u r).val e : ℝ) : EReal) := by
  unfold headO
  simp only [mul_zero, Finset.sum_const_zero, zero_add]
  rw [outR_tile]
  refine Eq.trans ?_ ((coe_sum _).trans (congrArg (fun z : ℝ => (z : EReal)) (Equiv.sum_comp (order u) _)))
  refine Fin.sum_fin_congr fun x => ?_
  rw [dist_real, mask_real, hv, EReal.coe_mul, EReal.coe_mul]
  refine congrArg (· * _ * _) ?_
  rw [← coe_sum]
  refine Fin.sum_fin_congr fun d => ?_
  rw [hq, hk, EReal.coe_mul]

/-- One head's state over the reals, from a zero state, is the scan's last state. -/
theorem headS_real (hk : ∀ a d, k (ix2 a d) * Ideal.ofBits .f32 0x3D800000#32 = ((K (order u a).val d : ℝ) : EReal))
    (hv : ∀ a d, v (ix2 a d) = ((V (order u a).val d : ℝ) : EReal)) (d e : Fin 256) :
    headS (BitVec.ofNat 32 u.val) (g : EReal) k v (fun _ => (0 : EReal)) d e
      = ((stateR g K V 256 d e : ℝ) : EReal) := by
  unfold headS
  rw [zero_mul, zero_add, stateR_tile]
  refine Eq.trans ?_ ((coe_sum _).trans (congrArg (fun z : ℝ => (z : EReal)) (Equiv.sum_comp (order u) _)))
  refine Fin.sum_fin_congr fun x => ?_
  rw [hk, down_real, hv, ← EReal.coe_mul g, Ideal.exp_coe, EReal.coe_mul, EReal.coe_mul]

end

section
variable (p : S16384x4096.Idx → ℝ) (w : S2x4.Idx → ℝ) (u : Fin 2) (b : Fin 32) (h : Fin 4)

/-- The number of a sequence's scan in a direction. -/
def scanOf (u : Fin 2) (b : Fin 32) : Fin 64 := ⟨u.val * 32 + b.val, by omega⟩

/-- A scan's direction. -/
theorem dirOf_scan : dirOf (scanOf u b) = u := by
  unfold dirOf scanOf
  apply Fin.ext
  have := u.isLt
  have := b.isLt
  simp only
  split <;> simp <;> omega

/-- A token of a sequence, by its number in the direction's order. -/
theorem rowAt_scan (a : Fin 256) : (⟨b.val * 256 + a.val, by omega⟩ : Fin 16384) = rowAt (scanOf u b) (order u a).val := by
  apply Fin.ext
  match u with
  | ⟨0, _⟩ =>
    have : (scanOf 0 b).val = b.val := by show 0 * 32 + b.val = b.val; omega
    show b.val * 256 + a.val = (rowAt (scanOf 0 b) (order 0 a).val).val
    rw [order_zero]
    unfold rowAt
    split <;> simp only <;> omega
  | ⟨1, _⟩ =>
    have : (scanOf 1 b).val = 32 + b.val := by show 1 * 32 + b.val = 32 + b.val; omega
    show b.val * 256 + a.val = (rowAt (scanOf 1 b) (order 1 a).val).val
    rw [order_one]
    unfold rowAt
    split <;> simp only <;> omega

/-- A tile of the projections, token by token in the direction's order. -/
theorem tile_scan (off : Fin 4) (a d : Fin 256) :
    tile (pE p) b off h (ix2 a d) = ((p (ix2 (rowAt (scanOf u b) (order u a).val) (colAt off h d)) : ℝ) : EReal) :=
  congrArg (fun z => ((p (ix2 z (colAt off h d)) : ℝ) : EReal)) (rowAt_scan u b a)

/-- The kernel's output is the scan's. -/
theorem outAt_real (r e : Fin 256) : outAt (pE p) (wE w) b u h r e
    = ((outR (gR w (scanOf u b) h) (qR p (scanOf u b) h) (kR p (scanOf u b) h) (vR p (scanOf u b) h) (order u r).val e : ℝ) : EReal) := by
  have hg : logSig (wE w (ix2 u h)) = ((gR w (scanOf u b) h : ℝ) : EReal) := by
    unfold gR
    rw [dirOf_scan]
    exact logSig_coe _
  unfold outAt
  rw [hg]
  refine headO_real u _ _ _ _ _ _ _ (fun a d => tile_scan p u b h 0 a d) (fun a d => ?_) (fun a d => tile_scan p u b h 2 a d) r e
  rw [tile_scan p u b h, scale_eq, ← EReal.coe_mul]
  rfl

/-- The kernel's state is the scan's last. -/
theorem finAt_real (d e : Fin 256) : finAt (pE p) (wE w) b u h d e
    = ((stateR (gR w (scanOf u b) h) (kR p (scanOf u b) h) (vR p (scanOf u b) h) 256 d e : ℝ) : EReal) := by
  have hg : logSig (wE w (ix2 u h)) = ((gR w (scanOf u b) h : ℝ) : EReal) := by
    unfold gR
    rw [dirOf_scan]
    exact logSig_coe _
  unfold finAt
  rw [hg]
  refine headS_real u _ _ _ _ _ (fun a d => ?_) (fun a d => tile_scan p u b h 2 a d) d e
  rw [tile_scan p u b h, scale_eq, ← EReal.coe_mul]
  rfl

end

end Cert.Retention

end
-- ==== Proof.Retention.lean ====
/-
  The retention claim: on finite arguments the reference's chunked scan and the kernel's one tile per sequence are the
  same real sums, so the two output arrays and the two state arrays are equal.
-/
module

public import proofs.«01_k».proof.Defs
public import proofs.«01_k».proof.Proof.RetEq
public import Idealize.ShloMosaic.Lib.ReduceAll

@[expose] public section

set_option maxRecDepth 16384

noncomputable section

namespace Cert.Retention

open Idealize.ShloMosaic Idealize.ShloMosaic.TcCoe Idealize.SL.Sem
open Cert.RetRef (pE wE fin_at out_at)
open Cert.RetRun (stateAt)

/-- A number whose absolute value is below infinity is real. -/
theorem real_of_abs (x : EReal) (h : max x (-x) < ⊤) : x = ((x.toReal : ℝ) : EReal) := by
  refine (EReal.coe_toReal (fun ht => ?_) (fun hb => ?_)).symm
  · rw [ht] at h; exact absurd h (by simp)
  · rw [hb] at h; exact absurd h (by simp)

/-- The pattern of the bound is infinity. -/
theorem bound_top : Ideal.ofBits .f32 0x7F800000#32 = ⊤ := by
  simp [Ideal.ofBits, Ideal.ieee]

instance : Subsingleton Cert.Pre_finite.S_.Idx := ⟨fun a b => funext fun i => i.elim0⟩

/-- A comparison's bit is set when the comparison holds. -/
theorem bit_true : ∀ b : Bool, BitVec.ofBool b = 1#1 → b = true := by decide

/-- Arguments that satisfy the precondition are real. -/
theorem real_of_pre [Cert.Pre_finite.Facts] (a0 : Cert.Pre_finite.S16384x4096.Idx → EReal) (a1 : Cert.Pre_finite.S2x4.Idx → EReal)
    (h : Cert.Pre_finite.fn (F := Ideal) a0 a1 = fun _ => 1#1) :
    ∃ p w, a0 = pE p ∧ a1 = wE w := by
  have e := congrFun h (fun a => a.elim0)
  obtain ⟨e0, e1⟩ := IntOp.andi_eq_one.1 e
  refine ⟨fun i => (a0 i).toReal, fun i => (a1 i).toReal, funext fun i => ?_, funext fun i => ?_⟩
  · have hi := Host.reduce_andi_all _ _ _ _ _ e0 i
    refine real_of_abs _ ?_
    pointwise at hi
    rw [bound_top] at hi
    exact of_decide_eq_true (bit_true _ hi)
  · have hi := Host.reduce_andi_all _ _ _ _ _ e1 i
    refine real_of_abs _ ?_
    pointwise at hi
    rw [bound_top] at hi
    exact of_decide_eq_true (bit_true _ hi)

section
variable (a0 : Cert.KernelIdeal.S16384x4096.Idx → EReal) (a1 : Cert.KernelIdeal.S2x4.Idx → EReal)

/-- The reference's outputs are the kernel's. -/
theorem out_ref (hr : ∃ p w, a0 = pE p ∧ a1 = wE w) : (Cert.ReferenceIdeal.Step.R_main_v62 (stateAt (F := Ideal) a0 a1 4) : Cert.KernelIdeal.S2x8192x1024.Idx → EReal)
    = fun i => outAt a0 a1
      ⟨(i 1).val / 256, by have : (i 1).val < 8192 := (i 1).isLt; omega⟩ (i 0)
      ⟨(i 2).val / 256, by have : (i 2).val < 1024 := (i 2).isLt; omega⟩ ⟨(i 1).val % 256, by omega⟩ ⟨(i 2).val % 256, by omega⟩ := by
  obtain ⟨p, w, rfl, rfl⟩ := hr
  funext i
  obtain ⟨u, r, x, rfl⟩ : ∃ (u : Fin 2) (r : Fin 8192) (x : Fin 1024), i = ix3 u r x := ⟨i 0, i 1, i 2, eq_ix3 i⟩
  obtain ⟨b, a, rfl⟩ : ∃ (b : Fin 32) (a : Fin 256), r = ⟨b.val * 256 + a.val, by omega⟩ :=
    ⟨⟨r.val / 256, by omega⟩, ⟨r.val % 256, by omega⟩, Fin.ext (by dsimp only; omega)⟩
  obtain ⟨h, e, rfl⟩ : ∃ (h : Fin 4) (e : Fin 256), x = ⟨h.val * 256 + e.val, by omega⟩ :=
    ⟨⟨x.val / 256, by omega⟩, ⟨x.val % 256, by omega⟩, Fin.ext (by dsimp only; omega)⟩
  refine (out_at u b a h e).trans ?_
  have hb : (⟨(b.val * 256 + a.val) / 256, by omega⟩ : Fin 32) = b := Fin.ext (by dsimp only; omega)
  have ha : (⟨(b.val * 256 + a.val) % 256, by omega⟩ : Fin 256) = a := Fin.ext (by dsimp only; omega)
  have hh : (⟨(h.val * 256 + e.val) / 256, by omega⟩ : Fin 4) = h := Fin.ext (by dsimp only; omega)
  have he : (⟨(h.val * 256 + e.val) % 256, by omega⟩ : Fin 256) = e := Fin.ext (by dsimp only; omega)
  show _ = outAt (pE p) (wE w) ⟨(b.val * 256 + a.val) / 256, _⟩ u ⟨(h.val * 256 + e.val) / 256, _⟩
    ⟨(b.val * 256 + a.val) % 256, _⟩ ⟨(h.val * 256 + e.val) % 256, _⟩
  rw [hb, ha, hh, he, outAt_real]
  have ho : (order u a).val = if u = 0 then a.val else 255 - a.val := by
    match u with
    | ⟨0, _⟩ => rfl
    | ⟨1, _⟩ => exact order_one a
  rw [ho]
  rfl

/-- The reference's last states are the kernel's. -/
theorem state_ref (hr : ∃ p w, a0 = pE p ∧ a1 = wE w) : (Cert.ReferenceIdeal.Step.R_main_v58 (stateAt (F := Ideal) a0 a1 4) : Cert.KernelIdeal.S32x2x4x256x256.Idx → EReal)
    = fun i => finAt a0 a1 (i 0) (i 1) (i 2) (i 3) (i 4) := by
  obtain ⟨p, w, rfl, rfl⟩ := hr
  funext i
  obtain ⟨b, u, h, d, e, rfl⟩ : ∃ (b : Fin 32) (u : Fin 2) (h : Fin 4) (d e : Fin 256), i = ix5 b u h d e :=
    ⟨i 0, i 1, i 2, i 3, i 4, eq_ix5 i⟩
  exact (fin_at b u h d e).trans (finAt_real p w u b h d e).symm

end

/-- On finite arguments the retention kernel's outputs and states equal the reference's, at the extended reals. -/
theorem algebraic [Cert.Pre_finite.Facts] : Cert.algebraic_KernelIdeal_ReferenceIdeal_pre_finite := by
  intro m ρ m' ρ' hpre hagree
  refine ⟨fun c => _, fun c => _, (θ_run Cert.KernelIdeal.defs _ _).mono (fun _ h c => ⟨((h c).1).trans (final_out m c),
    ((h c).2.1).trans (final_state m c), (h c).2.2⟩) (Cert.KernelIdeal.Value.run_blocks (F := Ideal) m ρ), ?_⟩
  refine (θ_run Cert.ReferenceIdeal.defs _ _).mono (fun _ h c => ⟨(h c).1.trans ?_, (h c).2.1.trans ?_, (h c).2.2⟩)
    (Cert.RetRun.run (F := Ideal) m' ρ')
  · rw [(hagree c).1, (hagree c).2]
    exact out_ref _ _ (real_of_pre _ _ (hpre c))
  · rw [(hagree c).1, (hagree c).2]
    exact state_ref _ _ (real_of_pre _ _ (hpre c))

end Cert.Retention

end
-- ==== Proof.Post.lean ====
/-
  The end of a mixer, as a function of one token's row: output projection, residual, layer norm, the experts' modulated
  input and the affinities.

  Both post-mixer programs and both references are read against these functions. A row is a function of its column, so
  the first half does not depend on how the token rows are laid out. The second half reads the rows from the arrays.
-/
module

public import proofs.«01_k».proof.Proof.InProjBlock
public import proofs.«01_k».proof.Kernel4Ideal
public import Idealize.ShloMosaic.Lib.Pointwise

@[expose] public section

noncomputable section

namespace Cert.Post

open Idealize.ShloMosaic Cert.Kernel3Ideal Cert.InProj

/-- The norms' epsilon, the 32-bit float nearest to 1e-5. -/
def eps : EReal := Ideal.ofBits .f32 0x3727C5AC#32

/-- The weight of the residual, the 32-bit float nearest to the fourth root of 8. -/
def alpha : EReal := Ideal.ofBits .f32 0x3FD744FD#32

/-- The lengths of the normed rows, 1024, 256 and 128. -/
def len1024 : EReal := Ideal.ofBits .f32 0x44800000#32

@[inherit_doc len1024] def len256 : EReal := Ideal.ofBits .f32 0x43800000#32

@[inherit_doc len1024] def len128 : EReal := Ideal.ofBits .f32 0x43000000#32

/-- A row less its mean, where the mean is the sum over `c`. -/
def centred {n : ℕ} (c : EReal) (z : Fin n → EReal) (d : Fin n) : EReal := z d - Ideal.div (∑ k, z k) c

/-- One over the deviation of a row: its mean square, raised by epsilon. -/
def scale {n : ℕ} (c : EReal) (z : Fin n → EReal) : EReal := Ideal.rsqrt (Ideal.div (∑ k, z k * z k) c + eps)

/-- A row less its mean and over its deviation. -/
def normed {n : ℕ} (c : EReal) (z : Fin n → EReal) (d : Fin n) : EReal := centred c z d * scale c (centred c z)

/-- `x · logistic x`. -/
def silu (x : EReal) : EReal := x * Ideal.logistic x

/-- The weighted residual plus the gated projection of the mixer's row `y`. -/
def resid (x gate y : Fin 1024 → EReal) (w : Fin 1024 → Fin 1024 → EReal) (d : Fin 1024) : EReal :=
  alpha * x d + gate d * ∑ k, y k * w k d

/-- The layer norm with its gain and offset. -/
def layerNorm (z g b : Fin 1024 → EReal) (d : Fin 1024) : EReal := normed len1024 z d * g d + b d

/-- The scaled and shifted row that the experts and the router read. -/
def modulate (h sc sh : Fin 1024 → EReal) (d : Fin 1024) : EReal := h d * (1 + sc d) + sh d

/-- The router's logit of expert `e`. -/
def logit (r : Fin 16 → Fin 1024 → EReal) (u : Fin 1024 → EReal) (e : Fin 16) : EReal := ∑ k, r e k * u k

/-- The largest logit. -/
def top (l : Fin 16 → EReal) : EReal := Finset.fold max (Ideal.ofBits .f32 0xFF800000#32) l Finset.univ

/-- The softmax over the experts. -/
def softmax (l : Fin 16 → EReal) (e : Fin 16) : EReal :=
  Ideal.div (Ideal.exp (l e - top l)) (∑ x, Ideal.exp (l x - top l))

/-- The hidden row of token `t` after the mixer, from the mixer's rows `y`. -/
def hid (y : Fin 16384 → Fin 1024 → EReal) (h : S16384x1024.Idx → EReal) (ada : S3x6x1024.Idx → EReal)
    (w : Kernel4Ideal.S2x1024x1024.Idx → EReal) (g b : Kernel4Ideal.S1024.Idx → EReal) (t : Fin 16384) (d : Fin 1024) : EReal :=
  layerNorm (resid (fun k => h (ix2 t k)) (fun k => ada (ix3 (request t) 2 k)) (y t) (fun k d => w (ix3 0 k d)))
    (fun k => g (ix1 k)) (fun k => b (ix1 k)) d

/-- The row of token `t` that its experts read. -/
def inp (y : Fin 16384 → Fin 1024 → EReal) (h : S16384x1024.Idx → EReal) (ada : S3x6x1024.Idx → EReal)
    (w : Kernel4Ideal.S2x1024x1024.Idx → EReal) (g b : Kernel4Ideal.S1024.Idx → EReal) (t : Fin 16384) (d : Fin 1024) : EReal :=
  modulate (hid y h ada w g b t) (fun k => ada (ix3 (request t) 4 k)) (fun k => ada (ix3 (request t) 3 k)) d

/-- The affinity of token `t` to expert `e`. -/
def aff (y : Fin 16384 → Fin 1024 → EReal) (h : S16384x1024.Idx → EReal) (ada : S3x6x1024.Idx → EReal)
    (w : Kernel4Ideal.S2x1024x1024.Idx → EReal) (g b : Kernel4Ideal.S1024.Idx → EReal)
    (r : Kernel4Ideal.S1024x16.Idx → EReal) (e : Fin 16) (t : Fin 16384) : EReal :=
  softmax (logit (fun e k => r (ix2 k e)) (inp y h ada w g b t)) e

/-- The first 16 grid points take the context's rows, the other 16 the latents'. -/
theorem pick {j : ℕ} (hj : j < 32) (a b : EReal) :
    Scalar.select (Scalar.cmpi .slt (BitVec.ofNat 32 j) 16#32) a b = if j < 16 then a else b := by
  have key : ∀ j : Fin 32, Scalar.cmpi .slt (BitVec.ofNat 32 j.val) 16#32 = if j.val < 16 then 1#1 else 0#1 := by decide
  have h := key ⟨j, hj⟩
  dsimp only at h
  rw [h]
  split <;> rfl

/-- One row of the modulation block. -/
theorem ld_row (X : Kernel4Ideal.S1x6x1024.Idx → EReal) (a : Fin 6) (off : Fin 3 → ℕ) (hoff : off = ![0, a.val, 0]) (inb) (k : Fin 1024) :
    View.ld (Val := Elt Ideal) (e' := .f32) X (Rect.unit (s := Kernel4Ideal.S1x6x1024) off ![1, 1, 1024] inb) (ix3 0 0 k : Kernel4Ideal.S1x1x1024.Idx)
      = X (ix3 0 a k) := by
  subst hoff
  refine View.ld_unit_apply_of (S := Kernel4Ideal.S1x6x1024) _ _ _ _ _ _ fun i => ?_
  match i with
  | ⟨0, _⟩ => rfl
  | ⟨1, _⟩ => exact (Nat.add_zero _).symm
  | ⟨2, _⟩ => exact (Nat.zero_add _).symm

/-- An entry of the modulation array is determined by its coordinates. -/
theorem ada_congr (x : Kernel4Ideal.S3x6x1024.Idx → EReal) {r r' : Fin 3} {a a' : Fin 6} (hr : r.val = r'.val)
    (ha : a.val = a'.val) (k : Fin 1024) : x (ix3 r a k) = x (ix3 r' a' k) := by
  obtain rfl := Fin.ext hr
  obtain rfl := Fin.ext ha
  rfl

end Cert.Post

end
-- ==== Proof.PostOddBlock.lean ====
/-
  The post-mixer kernel of an odd layer: what its three result arrays hold.

  A grid point takes 512 token rows: the sum of the two scan directions, normed head by head and gated, goes through the
  output projection, the residual and its layer norm, and the modulation and affinities that the experts need. The first
  16 points read the context's scan outputs, the last 16 the latents'. Each result is tiled by the points' blocks.
-/
module

public import proofs.«01_k».proof.Proof.Gen.Kernel4Ideal.Value
public import proofs.«01_k».proof.Proof.Post
public import Idealize.ShloMosaic.Lib.Pipeline.ValueKit
public import Idealize.ShloMosaic.Lib.Pointwise
public import Idealize.ShloMosaic.Lib.StableHlo.ReadAt

@[expose] public section

set_option maxRecDepth 16384

noncomputable section

namespace Cert.PostOdd

open Cert.Kernel4Ideal Cert.Kernel4Ideal.Gen Idealize.ShloMosaic Idealize.ShloMosaic.TcCoe Idealize.SL.Sem
open Idealize.ShloMosaic.Pipeline (Dat)
open Cert.Post

/-- The two scan directions' outputs, added: the context's rows first, then the latents'. -/
def scanSum (oc ol : S2x8192x1024.Idx → EReal) (t : Fin 16384) (k : Fin 1024) : EReal :=
  if h : t.val < 8192 then oc (ix3 0 ⟨t.val, h⟩ k) + oc (ix3 1 ⟨t.val, h⟩ k)
  else ol (ix3 0 ⟨t.val - 8192, by omega⟩ k) + ol (ix3 1 ⟨t.val - 8192, by omega⟩ k)

/-- The 256 columns of a row from column `o` on. -/
def cols (z : Fin 1024 → EReal) (o : ℕ) (ho : o + 256 ≤ 1024) (j : Fin 256) : EReal := z ⟨o + j.val, by omega⟩

/-- A row normed head by head. -/
def heads (z : Fin 1024 → EReal) (k : Fin 1024) : EReal :=
  normed len256 (cols z (k.val / 256 * 256) (by omega)) ⟨k.val % 256, by omega⟩

/-- The mixer's row of a token: its heads, gated. -/
def mixer (oc ol : S2x8192x1024.Idx → EReal) (p : S16384x4096.Idx → EReal) (t : Fin 16384) (k : Fin 1024) : EReal :=
  heads (scanSum oc ol t) k * silu (p (ix2 t ⟨3072 + k.val, by omega⟩))

variable (m : (ℓ : Loc nD τ sig) → Buf (Elt Ideal) ℓ) (ρ : Dev nD → PrngReg)

/-- The heads' columns joined by four choices are the row normed head by head. -/
theorem heads_cases (z : Fin 1024 → EReal) (x : Fin 1024) :
    (if h : x.val < 256 then normed len256 (cols z 0 (by omega)) ⟨x.val, h⟩
      else if h1 : x.val - 256 < 256 then normed len256 (cols z 256 (by omega)) ⟨x.val - 256, h1⟩
      else if h2 : x.val - 256 - 256 < 256 then normed len256 (cols z 512 (by omega)) ⟨x.val - 256 - 256, h2⟩
      else normed len256 (cols z 768 (by omega)) ⟨x.val - 256 - 256 - 256, by omega⟩) = heads z x := by
  have key : ∀ (o : ℕ) (ho : o + 256 ≤ 1024) (j : Fin 256), x.val / 256 * 256 = o → x.val % 256 = j.val →
      normed len256 (cols z o ho) j = heads z x := by
    rintro o ho j rfl hj
    exact congrArg (normed len256 _) (Fin.ext hj.symm)
  have hx := x.isLt
  split
  · exact key _ _ _ (by omega) (by dsimp only; omega)
  split
  · exact key _ _ _ (by omega) (by dsimp only; omega)
  split
  · exact key _ _ _ (by omega) (by dsimp only; omega)
  · exact key _ _ _ (by omega) (by dsimp only; omega)

/-! ## The payloads at an index -/

theorem pay1_at (v107 v109 : S1x1024.Idx → EReal) (v115 : S512x1024.Idx → EReal) (v118 : S512x1.Idx → EReal)
    (r : Fin 512) (d : Fin 1024) :
    k0_pay1 (F := Ideal) v107 v109 v115 v118 (ix2 r d)
      = v115 (ix2 r d) * Ideal.rsqrt (Ideal.div (v118 (ix2 r 0)) len1024 + eps) * v107 (ix2 0 d) + v109 (ix2 0 d) := by
  pointwise [k0_pay1]
  rfl

theorem pay2_at (v92 v94 v107 v109 : S1x1024.Idx → EReal) (v115 : S512x1024.Idx → EReal) (v118 : S512x1.Idx → EReal)
    (r : Fin 512) (d : Fin 1024) :
    k0_pay2 (F := Ideal) v92 v94 v107 v109 v115 v118 (ix2 r d)
      = k0_pay1 (F := Ideal) v107 v109 v115 v118 (ix2 r d) * (1 + v94 (ix2 0 d)) + v92 (ix2 0 d) := by
  pointwise [k0_pay2]

theorem pay3_at (v92 v94 v107 v109 : S1x1024.Idx → EReal) (v115 : S512x1024.Idx → EReal) (v118 : S512x1.Idx → EReal)
    (v139 : S16x1024.Idx → EReal) (e : Fin 16) (r : Fin 512) :
    k0_pay3 (F := Ideal) v92 v94 v107 v109 v115 v118 v139 (ix2 e r)
      = softmax (logit (fun e k => v139 (ix2 e k))
          (fun k => k0_pay2 (F := Ideal) v92 v94 v107 v109 v115 v118 (ix2 r k))) e := by
  pointwise [k0_pay3]
  rfl

theorem pay4_at (i : grid0.Coords) (v1 v5 v8 v12 : S1x512x1024.Idx → EReal) (r : Fin 512) (d : Fin 1024) :
    k0_pay4 (F := Ideal) i v1 v5 v8 v12 (ix2 r d)
      = Scalar.select (Scalar.cmpi .slt (BitVec.ofNat 32 (i 0).val) 16#32) (v1 (ix3 0 r d) + v5 (ix3 0 r d))
          (v8 (ix3 0 r d) + v12 (ix3 0 r d)) := by
  pointwise [k0_pay4]

theorem pay5_at (i : grid0.Coords) (v1 v5 v8 v12 : S1x512x1024.Idx → EReal) (r : Fin 512) (d : Fin 256) :
    k0_pay5 (F := Ideal) i v1 v5 v8 v12 (ix2 r d)
      = normed len256 (cols (fun k => k0_pay4 (F := Ideal) i v1 v5 v8 v12 (ix2 r k)) 0 (by omega)) d := by
  pointwise [k0_pay5]
  unfold normed scale centred cols
  simp only [Nat.zero_add]
  rfl

theorem pay8_at (i : grid0.Coords) (v1 v5 v8 v12 : S1x512x1024.Idx → EReal) (r : Fin 512) (d : Fin 256) :
    k0_pay8 (F := Ideal) (k0_pay6 i v1 v5 v8 v12) (k0_pay7 i v1 v5 v8 v12) (ix2 r d)
      = normed len256 (cols (fun k => k0_pay4 (F := Ideal) i v1 v5 v8 v12 (ix2 r k)) 256 (by omega)) d := by
  pointwise [k0_pay8, k0_pay6, k0_pay7]
  rfl

theorem pay9_at (v15 : S512x1024.Idx → EReal) (r : Fin 512) (d : Fin 256) :
    k0_pay9 (F := Ideal) v15 (ix2 r d) = normed len256 (cols (fun k => v15 (ix2 r k)) 512 (by omega)) d := by
  pointwise [k0_pay9]
  rfl

theorem pay10_at (v15 : S512x1024.Idx → EReal) (r : Fin 512) (d : Fin 256) :
    k0_pay10 (F := Ideal) v15 (ix2 r d) = centred len256 (cols (fun k => v15 (ix2 r k)) 768 (by omega)) d := by
  pointwise [k0_pay10]
  rfl

theorem pay11_at (v15 : S512x1024.Idx → EReal) (r : Fin 512) :
    Ideal.rsqrt (k0_pay11 (F := Ideal) v15 (ix2 r 0))
      = scale len256 (centred len256 (cols (fun k => v15 (ix2 r k)) 768 (by omega))) := by
  pointwise [k0_pay11]
  simp only [pay10_at]
  rfl

theorem pay16_at (v16 : S512x1024.Idx → EReal) (v33 v50 v67 v74 : S512x256.Idx → EReal) (v81 : S512x1.Idx → EReal)
    (v89 : S1x1x1024.Idx → EReal) (v96 : S1x1024x1024.Idx → EReal) (v100 : S512x1024.Idx → EReal) (r : Fin 512)
    (z y : Fin 1024 → EReal)
    (h0 : ∀ j, v33 (ix2 r j) = normed len256 (cols z 0 (by omega)) j)
    (h1 : ∀ j, v50 (ix2 r j) = normed len256 (cols z 256 (by omega)) j)
    (h2 : ∀ j, v67 (ix2 r j) = normed len256 (cols z 512 (by omega)) j)
    (h3 : ∀ j, v74 (ix2 r j) * Ideal.rsqrt (v81 (ix2 r 0)) = normed len256 (cols z 768 (by omega)) j)
    (hy : ∀ k, y k = heads z k * silu (v16 (ix2 r k)))
    (d : Fin 1024) :
    k0_pay16 (F := Ideal) v16 v33 v50 v67 v74 v81 v89 v96 v100 (ix2 r d)
      = centred len1024 (resid (fun k => v100 (ix2 r k)) (fun k => v89 (ix3 0 0 k)) y (fun k d => v96 (ix3 0 k d))) d := by
  obtain rfl : y = fun k => heads z k * silu (v16 (ix2 r k)) := funext hy
  pointwise [k0_pay16]
  simp only [h0, h1, h2, h3, heads_cases]
  rfl

theorem pay17_at (v16 : S512x1024.Idx → EReal) (v33 v50 v67 v74 : S512x256.Idx → EReal) (v81 : S512x1.Idx → EReal)
    (v89 : S1x1x1024.Idx → EReal) (v96 : S1x1024x1024.Idx → EReal) (v100 : S512x1024.Idx → EReal) (r : Fin 512) :
    k0_pay17 (F := Ideal) v16 v33 v50 v67 v74 v81 v89 v96 v100 (ix2 r 0)
      = ∑ k : Fin 1024, k0_pay16 (F := Ideal) v16 v33 v50 v67 v74 v81 v89 v96 v100 (ix2 r k)
          * k0_pay16 (F := Ideal) v16 v33 v50 v67 v74 v81 v89 v96 v100 (ix2 r k) := by
  pointwise [k0_pay17]

theorem row_h (v107 v109 : S1x1024.Idx → EReal) (v115 : S512x1024.Idx → EReal) (v118 : S512x1.Idx → EReal) (r : Fin 512)
    (z g b : Fin 1024 → EReal) (h115 : ∀ k, v115 (ix2 r k) = centred len1024 z k)
    (h118 : v118 (ix2 r 0) = ∑ k : Fin 1024, v115 (ix2 r k) * v115 (ix2 r k))
    (hg : ∀ k, v107 (ix2 0 k) = g k) (hb : ∀ k, v109 (ix2 0 k) = b k) (d : Fin 1024) :
    k0_pay1 (F := Ideal) v107 v109 v115 v118 (ix2 r d) = layerNorm z g b d := by
  rw [pay1_at, h118, hg, hb]
  simp only [h115]
  rfl

theorem row_u (v92 v94 v107 v109 : S1x1024.Idx → EReal) (v115 : S512x1024.Idx → EReal) (v118 : S512x1.Idx → EReal)
    (r : Fin 512) (h sc sh : Fin 1024 → EReal)
    (hh : ∀ k, k0_pay1 (F := Ideal) v107 v109 v115 v118 (ix2 r k) = h k)
    (hsc : ∀ k, v94 (ix2 0 k) = sc k) (hsh : ∀ k, v92 (ix2 0 k) = sh k) (d : Fin 1024) :
    k0_pay2 (F := Ideal) v92 v94 v107 v109 v115 v118 (ix2 r d) = modulate h sc sh d := by
  rw [pay2_at, hh, hsc, hsh]
  rfl

theorem row_aff (v92 v94 v107 v109 : S1x1024.Idx → EReal) (v115 : S512x1024.Idx → EReal) (v118 : S512x1.Idx → EReal)
    (v139 : S16x1024.Idx → EReal) (r : Fin 512) (u : Fin 1024 → EReal) (rt : Fin 16 → Fin 1024 → EReal)
    (hu : ∀ k, k0_pay2 (F := Ideal) v92 v94 v107 v109 v115 v118 (ix2 r k) = u k)
    (hr : ∀ e k, v139 (ix2 e k) = rt e k) (e : Fin 16) :
    k0_pay3 (F := Ideal) v92 v94 v107 v109 v115 v118 v139 (ix2 e r) = softmax (logit rt u) e := by
  rw [pay3_at]
  simp only [hu, hr]

/-! ## The blocks of a grid point -/

/-- Where each window's block lies at a grid point. -/
theorem idx : ∀ t : Fin cfg0.N,
    win0_0.index t = ![0, min (grid0.coords t 0).val 15, 0]
    ∧ win0_1.index t = ![1, min (grid0.coords t 0).val 15, 0]
    ∧ win0_2.index t = ![0, (grid0.coords t 0).val - 16, 0]
    ∧ win0_3.index t = ![1, (grid0.coords t 0).val - 16, 0]
    ∧ win0_4.index t = ![(grid0.coords t 0).val, 3]
    ∧ win0_5.index t = ![(grid0.coords t 0).val, 0]
    ∧ win0_6.index t = ![((grid0.coords t 0).val * 512 - 4096) / 4096, 0, 0]
    ∧ win0_7.index t = ![0, 0, 0]
    ∧ win0_8.index t = ![0, 0]
    ∧ win0_9.index t = ![0, 0]
    ∧ win0_10.index t = ![0, 0]
    ∧ win0_11.index t = ![(grid0.coords t 0).val, 0]
    ∧ win0_12.index t = ![(grid0.coords t 0).val, 0]
    ∧ win0_13.index t = ![0, (grid0.coords t 0).val] :=
  (by decide +kernel : ∀ t : Fin grid0.N, _)

/-- A grid point's coordinate is below 32. -/
theorem coords_lt (t : Fin cfg0.N) : (grid0.coords t 0).val < 32 := (grid0.coords t 0).isLt

/-- The token of a grid point's row. -/
def tok (t : Fin cfg0.N) (r : Fin 512) : Fin 16384 :=
  ⟨(grid0.coords t 0).val * 512 + r.val, by have := coords_lt t; omega⟩

theorem tok_val (t : Fin cfg0.N) (r : Fin 512) : (tok t r).val = (grid0.coords t 0).val * 512 + r.val := rfl

/-- The norm's gains, as the call finds them. -/
theorem V_gain (c : Dev nD) (k : Fin 1024) : (V m c main_v0 : S1x1024.Idx → EReal) (ix2 0 k)
    = (m ((c : Thread nD τ).loc main_arg6) : S1024.Idx → EReal) (ix1 k) := by
  unfold V
  after_reads_at

/-- The norm's offsets, as the call finds them. -/
theorem V_bias (c : Dev nD) (k : Fin 1024) : (V m c main_v1 : S1x1024.Idx → EReal) (ix2 0 k)
    = (m ((c : Thread nD τ).loc main_arg7) : S1024.Idx → EReal) (ix1 k) := by
  unfold V
  after_reads_at

/-- The router, transposed before the call. -/
theorem V_router (c : Dev nD) (e : Fin 16) (k : Fin 1024) : (V m c main_v2 : S16x1024.Idx → EReal) (ix2 e k)
    = (m ((c : Thread nD τ).loc main_arg8) : S1024x16.Idx → EReal) (ix2 k e) := by
  unfold V
  after_reads_at

/-- A function of the grid point and its blocks, at a grid point. -/
abbrev onBlocks {α : Type} (c : Dev nD) (t : Fin cfg0.N)
    (f : grid0.Coords → (S1x512x1024.Idx → EReal) → (S1x512x1024.Idx → EReal) → (S1x512x1024.Idx → EReal)
      → (S1x512x1024.Idx → EReal) → (S512x1024.Idx → EReal) → (S512x1024.Idx → EReal) → (S1x6x1024.Idx → EReal)
      → (S1x1024x1024.Idx → EReal) → (S1x1024.Idx → EReal) → (S1x1024.Idx → EReal) → (S16x1024.Idx → EReal) → α) : α :=
  f (grid0.coords t) (iblk m c 0 t) (iblk m c 1 t) (iblk m c 2 t) (iblk m c 3 t) (iblk m c 4 t) (iblk m c 5 t)
    (iblk m c 6 t) (iblk m c 7 t) (iblk m c 8 t) (iblk m c 9 t) (iblk m c 10 t)

/-- The summed scan outputs of a grid point's rows. -/
theorem blk_sum (c : Dev nD) (t : Fin cfg0.N) (r : Fin 512) (k : Fin 1024) :
    k0_pay4 (F := Ideal) (grid0.coords t) (iblk m c 0 t) (iblk m c 1 t) (iblk m c 2 t) (iblk m c 3 t) (ix2 r k)
      = scanSum (m ((c : Thread nD τ).loc main_arg0)) (m ((c : Thread nD τ).loc main_arg1)) (tok t r) k := by
  have ht := coords_lt t
  have htk := tok_val t r
  refine (pay4_at _ _ _ _ _ r k).trans ?_
  rw [pick (coords_lt t)]
  unfold scanSum
  rw [← V_main_arg0 m c, ← V_main_arg1 m c]
  by_cases h : (grid0.coords t 0).val < 16
  · rw [if_pos h, dif_pos (by omega)]
    have h0 : (iblk m c 0 t : S1x512x1024.Idx → EReal) (ix3 0 r k)
        = (V m c main_arg0 : S2x8192x1024.Idx → EReal) (ix3 0 ⟨(tok t r).val, by omega⟩ k) := by
      blk_ext [iblk, idx t]
    have h1 : (iblk m c 1 t : S1x512x1024.Idx → EReal) (ix3 0 r k)
        = (V m c main_arg0 : S2x8192x1024.Idx → EReal) (ix3 1 ⟨(tok t r).val, by omega⟩ k) := by
      blk_ext [iblk, idx t]
    rw [h0, h1]
  · rw [if_neg h, dif_neg (by omega)]
    have h0 : (iblk m c 2 t : S1x512x1024.Idx → EReal) (ix3 0 r k)
        = (V m c main_arg1 : S2x8192x1024.Idx → EReal) (ix3 0 ⟨(tok t r).val - 8192, by omega⟩ k) := by
      blk_ext [iblk, idx t]
    have h1 : (iblk m c 3 t : S1x512x1024.Idx → EReal) (ix3 0 r k)
        = (V m c main_arg1 : S2x8192x1024.Idx → EReal) (ix3 1 ⟨(tok t r).val - 8192, by omega⟩ k) := by
      blk_ext [iblk, idx t]
    rw [h0, h1]

theorem blk_gate (c : Dev nD) (t : Fin cfg0.N) (r : Fin 512) (k : Fin 1024) :
    (iblk m c 4 t : S512x1024.Idx → EReal) (ix2 r k)
      = (m ((c : Thread nD τ).loc main_arg2) : S16384x4096.Idx → EReal) (ix2 (tok t r) ⟨3072 + k.val, by omega⟩) := by
  have htk := tok_val t r
  rw [← V_main_arg2 m c]
  blk_ext [iblk, idx t]

theorem blk_h (c : Dev nD) (t : Fin cfg0.N) (r : Fin 512) (k : Fin 1024) :
    (iblk m c 5 t : S512x1024.Idx → EReal) (ix2 r k)
      = (m ((c : Thread nD τ).loc main_arg3) : S16384x1024.Idx → EReal) (ix2 (tok t r) k) := by
  have htk := tok_val t r
  rw [← V_main_arg3 m c]
  blk_ext [iblk, idx t]

/-- A grid point's rows are all of one request. -/
theorem blk_mod (c : Dev nD) (t : Fin cfg0.N) (r : Fin 512) (a : Fin 6) (k : Fin 1024) :
    (iblk m c 6 t : S1x6x1024.Idx → EReal) (ix3 0 a k)
      = (m ((c : Thread nD τ).loc main_arg4) : S3x6x1024.Idx → EReal) (ix3 (InProj.request (tok t r)) a k) := by
  have ht := coords_lt t
  have htk := tok_val t r
  rw [← V_main_arg4 m c]
  unfold InProj.request
  blk_ext [iblk, idx t]

theorem blk_w (c : Dev nD) (t : Fin cfg0.N) (k d : Fin 1024) :
    (iblk m c 7 t : S1x1024x1024.Idx → EReal) (ix3 0 k d)
      = (m ((c : Thread nD τ).loc main_arg5) : S2x1024x1024.Idx → EReal) (ix3 0 k d) := by
  rw [← V_main_arg5 m c]
  blk_ext [iblk, idx t]

theorem blk_gain (c : Dev nD) (t : Fin cfg0.N) (k : Fin 1024) :
    (iblk m c 8 t : S1x1024.Idx → EReal) (ix2 0 k)
      = (m ((c : Thread nD τ).loc main_arg6) : S1024.Idx → EReal) (ix1 k) := by
  rw [← V_gain m c]
  blk_ext [iblk, idx t]

theorem blk_bias (c : Dev nD) (t : Fin cfg0.N) (k : Fin 1024) :
    (iblk m c 9 t : S1x1024.Idx → EReal) (ix2 0 k)
      = (m ((c : Thread nD τ).loc main_arg7) : S1024.Idx → EReal) (ix1 k) := by
  rw [← V_bias m c]
  blk_ext [iblk, idx t]

theorem blk_router (c : Dev nD) (t : Fin cfg0.N) (e : Fin 16) (k : Fin 1024) :
    (iblk m c 10 t : S16x1024.Idx → EReal) (ix2 e k)
      = (m ((c : Thread nD τ).loc main_arg8) : S1024x16.Idx → EReal) (ix2 k e) := by
  rw [← V_router m c]
  blk_ext [iblk, idx t]

/-! ## What a grid point computes -/

/-- The argument arrays that the result depends on, in the order of `Post.hid`. -/
abbrev y0 (c : Dev nD) : Fin 16384 → Fin 1024 → EReal :=
  mixer (m ((c : Thread nD τ).loc main_arg0)) (m ((c : Thread nD τ).loc main_arg1)) (m ((c : Thread nD τ).loc main_arg2))

/-- The residual row of a token. -/
abbrev z0 (c : Dev nD) (t : Fin 16384) : Fin 1024 → EReal :=
  resid (fun k => (m ((c : Thread nD τ).loc main_arg3) : S16384x1024.Idx → EReal) (ix2 t k))
    (fun k => (m ((c : Thread nD τ).loc main_arg4) : S3x6x1024.Idx → EReal) (ix3 (InProj.request t) 2 k)) (y0 m c t)
    (fun k d => (m ((c : Thread nD τ).loc main_arg5) : S2x1024x1024.Idx → EReal) (ix3 0 k d))

theorem val_centred (c : Dev nD) (t : Fin cfg0.N) (r : Fin 512) (d : Fin 1024) :
    onBlocks m c t (k0_pay28 (F := Ideal)) (ix2 r d) = centred len1024 (z0 m c (tok t r)) d := by
  unfold onBlocks k0_pay28 k0_pay19 k0_pay20 k0_pay21 k0_pay22 k0_pay23 k0_pay18
  simp (disch := decide) only [View.ld_unit_lit']
  refine (pay16_at _ _ _ _ _ _ _ _ _ r
    (fun k => k0_pay4 (F := Ideal) (grid0.coords t) (iblk m c 0 t) (iblk m c 1 t) (iblk m c 2 t) (iblk m c 3 t) (ix2 r k))
    (y0 m c (tok t r)) (pay5_at _ _ _ _ _ r) (pay8_at _ _ _ _ _ r) (pay9_at _ r) (fun j => ?_) (fun k => ?_) d).trans ?_
  · rw [pay10_at, pay11_at]
    rfl
  · simp only [blk_sum, blk_gate]
    rfl
  · have hg : ∀ k : Fin 1024, View.ld (Val := Elt Ideal) (e' := .f32) (iblk m c 6 t : S1x6x1024.Idx → EReal) r0_2
        (ix3 0 0 k : S1x1x1024.Idx)
          = (m ((c : Thread nD τ).loc main_arg4) : S3x6x1024.Idx → EReal) (ix3 (InProj.request (tok t r)) 2 k) :=
      fun k => (ld_row _ 2 _ rfl _ k).trans (blk_mod m c t r 2 k)
    simp only [blk_h, blk_w, hg]

theorem val_square (c : Dev nD) (t : Fin cfg0.N) (r : Fin 512) :
    onBlocks m c t (k0_pay29 (F := Ideal)) (ix2 r 0)
      = ∑ k : Fin 1024, onBlocks m c t (k0_pay28 (F := Ideal)) (ix2 r k) * onBlocks m c t (k0_pay28 (F := Ideal)) (ix2 r k) :=
  pay17_at _ _ _ _ _ _ _ _ _ r

theorem val_shift (c : Dev nD) (t : Fin cfg0.N) (r : Fin 512) (k : Fin 1024) :
    onBlocks m c t (k0_pay24 (F := Ideal)) (ix2 0 k)
      = (m ((c : Thread nD τ).loc main_arg4) : S3x6x1024.Idx → EReal) (ix3 (InProj.request (tok t r)) 3 k) := by
  unfold onBlocks k0_pay24
  have hl : View.ld (Val := Elt Ideal) (e' := .f32) (iblk m c 6 t : S1x6x1024.Idx → EReal) r0_3 (ix3 0 0 k : S1x1x1024.Idx)
      = (m ((c : Thread nD τ).loc main_arg4) : S3x6x1024.Idx → EReal) (ix3 (InProj.request (tok t r)) 3 k) :=
    (ld_row _ 3 _ rfl _ k).trans (blk_mod m c t r 3 k)
  refine Eq.trans ?_ hl
  pointwise [k0_pay12]

theorem val_scale (c : Dev nD) (t : Fin cfg0.N) (r : Fin 512) (k : Fin 1024) :
    onBlocks m c t (k0_pay25 (F := Ideal)) (ix2 0 k)
      = (m ((c : Thread nD τ).loc main_arg4) : S3x6x1024.Idx → EReal) (ix3 (InProj.request (tok t r)) 4 k) := by
  unfold onBlocks k0_pay25
  have hl : View.ld (Val := Elt Ideal) (e' := .f32) (iblk m c 6 t : S1x6x1024.Idx → EReal) r0_4 (ix3 0 0 k : S1x1x1024.Idx)
      = (m ((c : Thread nD τ).loc main_arg4) : S3x6x1024.Idx → EReal) (ix3 (InProj.request (tok t r)) 4 k) :=
    (ld_row _ 4 _ rfl _ k).trans (blk_mod m c t r 4 k)
  refine Eq.trans ?_ hl
  pointwise [k0_pay13]

theorem val_gain (c : Dev nD) (t : Fin cfg0.N) (k : Fin 1024) :
    onBlocks m c t (k0_pay26 (F := Ideal)) (ix2 0 k) = (m ((c : Thread nD τ).loc main_arg6) : S1024.Idx → EReal) (ix1 k) := by
  unfold onBlocks k0_pay26
  simp (disch := decide) only [View.ld_unit_lit']
  refine Eq.trans ?_ (blk_gain m c t k)
  pointwise [k0_pay14]

theorem val_bias (c : Dev nD) (t : Fin cfg0.N) (k : Fin 1024) :
    onBlocks m c t (k0_pay27 (F := Ideal)) (ix2 0 k) = (m ((c : Thread nD τ).loc main_arg7) : S1024.Idx → EReal) (ix1 k) := by
  unfold onBlocks k0_pay27
  simp (disch := decide) only [View.ld_unit_lit']
  refine Eq.trans ?_ (blk_bias m c t k)
  pointwise [k0_pay15]

/-- The hidden row that a grid point stores. -/
theorem val_h (c : Dev nD) (t : Fin cfg0.N) (r : Fin 512) (d : Fin 1024) :
    k0_pay1 (F := Ideal) (onBlocks m c t (k0_pay26 (F := Ideal))) (onBlocks m c t (k0_pay27 (F := Ideal))) (onBlocks m c t (k0_pay28 (F := Ideal))) (onBlocks m c t (k0_pay29 (F := Ideal)))
        (ix2 r d)
      = hid (y0 m c) (m ((c : Thread nD τ).loc main_arg3)) (m ((c : Thread nD τ).loc main_arg4))
          (m ((c : Thread nD τ).loc main_arg5)) (m ((c : Thread nD τ).loc main_arg6)) (m ((c : Thread nD τ).loc main_arg7))
          (tok t r) d :=
  row_h _ _ _ _ r _ _ _ (val_centred m c t r) (val_square m c t r) (val_gain m c t) (val_bias m c t) d

/-- The experts' input row that a grid point stores. -/
theorem val_u (c : Dev nD) (t : Fin cfg0.N) (r : Fin 512) (d : Fin 1024) :
    k0_pay2 (F := Ideal) (onBlocks m c t (k0_pay24 (F := Ideal))) (onBlocks m c t (k0_pay25 (F := Ideal))) (onBlocks m c t (k0_pay26 (F := Ideal)))
        (onBlocks m c t (k0_pay27 (F := Ideal))) (onBlocks m c t (k0_pay28 (F := Ideal))) (onBlocks m c t (k0_pay29 (F := Ideal))) (ix2 r d)
      = inp (y0 m c) (m ((c : Thread nD τ).loc main_arg3)) (m ((c : Thread nD τ).loc main_arg4))
          (m ((c : Thread nD τ).loc main_arg5)) (m ((c : Thread nD τ).loc main_arg6)) (m ((c : Thread nD τ).loc main_arg7))
          (tok t r) d :=
  row_u _ _ _ _ _ _ r _ _ _ (val_h m c t r) (val_scale m c t r) (val_shift m c t r) d

/-- The affinities that a grid point stores. -/
theorem val_aff (c : Dev nD) (t : Fin cfg0.N) (r : Fin 512) (e : Fin 16) :
    k0_pay3 (F := Ideal) (onBlocks m c t (k0_pay24 (F := Ideal))) (onBlocks m c t (k0_pay25 (F := Ideal))) (onBlocks m c t (k0_pay26 (F := Ideal)))
        (onBlocks m c t (k0_pay27 (F := Ideal))) (onBlocks m c t (k0_pay28 (F := Ideal))) (onBlocks m c t (k0_pay29 (F := Ideal))) (iblk m c 10 t) (ix2 e r)
      = aff (y0 m c) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) e (tok t r) :=
  row_aff _ _ _ _ _ _ _ r _ _ (val_u m c t r) (blk_router m c t) e

/-! ## The result arrays after the run -/

/-- The hidden states. -/
theorem final_h (c : Dev nD) : (dats m 0 c).arrAt 11 cfg0.N = fun i : S16384x1024.Idx =>
    hid (y0 m c) (m ((c : Thread nD τ).loc main_arg3)) (m ((c : Thread nD τ).loc main_arg4))
      (m ((c : Thread nD τ).loc main_arg5)) (m ((c : Thread nD τ).loc main_arg6)) (m ((c : Thread nD τ).loc main_arg7))
      (i 0) (i 1) := by
  refine (dats m 0 c).arrAt_eq_of_covers 11 _ (by decide +kernel) fun t hf y => ?_
  have ht := coords_lt t
  obtain ⟨r, d, rfl⟩ : ∃ (r : Fin 512) (d : Fin 1024), y = ix2 r d := ⟨y 0, y 1, eq_ix2 y⟩
  have htk := tok_val t r
  have hi : (((cfg0.win 11).blk t).view.emb (ix2 r d) : S16384x1024.Idx) = ix2 (tok t r) d := by
    blk_ext [idx t]
  rw [hi]
  blk_simp
  rw [after0_11]
  frame_out
  exact val_h m c t r d

/-- The experts' inputs. -/
theorem final_u (c : Dev nD) : (dats m 0 c).arrAt 12 cfg0.N = fun i : S16384x1024.Idx =>
    inp (y0 m c) (m ((c : Thread nD τ).loc main_arg3)) (m ((c : Thread nD τ).loc main_arg4))
      (m ((c : Thread nD τ).loc main_arg5)) (m ((c : Thread nD τ).loc main_arg6)) (m ((c : Thread nD τ).loc main_arg7))
      (i 0) (i 1) := by
  refine (dats m 0 c).arrAt_eq_of_covers 12 _ (by decide +kernel) fun t hf y => ?_
  have ht := coords_lt t
  obtain ⟨r, d, rfl⟩ : ∃ (r : Fin 512) (d : Fin 1024), y = ix2 r d := ⟨y 0, y 1, eq_ix2 y⟩
  have htk := tok_val t r
  have hi : (((cfg0.win 12).blk t).view.emb (ix2 r d) : S16384x1024.Idx) = ix2 (tok t r) d := by
    blk_ext [idx t]
  rw [hi]
  blk_simp
  rw [after0_12]
  frame_out
  exact val_u m c t r d

/-- The affinities, one row for each expert. -/
theorem final_aff (c : Dev nD) : (dats m 0 c).arrAt 13 cfg0.N = fun i : S16x16384.Idx =>
    aff (y0 m c) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (i 0) (i 1) := by
  refine (dats m 0 c).arrAt_eq_of_covers 13 _ (by decide +kernel) fun t hf y => ?_
  have ht := coords_lt t
  obtain ⟨e, r, rfl⟩ : ∃ (e : Fin 16) (r : Fin 512), y = ix2 e r := ⟨y 0, y 1, eq_ix2 y⟩
  have htk := tok_val t r
  have hi : (((cfg0.win 13).blk t).view.emb (ix2 e r) : S16x16384.Idx) = ix2 e (tok t r) := by
    blk_ext [idx t]
  rw [hi]
  blk_simp
  rw [after0_13]
  frame_out
  exact val_aff m c t r e

end Cert.PostOdd

end
-- ==== Proof.PostOdd.lean ====
/-
  The post-mixer claim of an odd layer: the reference's three results are the kernel's functions of the arguments.

  The reference treats the context's and the latents' tokens as two groups, each laid out by sequence and position. Every
  stage is read at one token: the summed scans, the normed heads, the gated row, the residual, its layer norm, the
  modulated row, and the softmax over the experts.
-/
module

public import proofs.«01_k».proof.Defs
public import proofs.«01_k».proof.Proof.PostOddBlock
public import proofs.«01_k».proof.Proof.Gen.Reference4Ideal.Read

@[expose] public section

set_option maxRecDepth 16384

noncomputable section

namespace Cert.PostOdd

open Idealize.ShloMosaic Idealize.ShloMosaic.TcCoe Idealize.SL.Sem Cert.Reference4Ideal Cert.Reference4Ideal.Read
open Cert.Post

variable (x0 x1 : S2x8192x1024.Idx → EReal) (x2 : S16384x4096.Idx → EReal) (x3 : S16384x1024.Idx → EReal)
  (x4 : S3x6x1024.Idx → EReal) (x5 : S2x1024x1024.Idx → EReal) (x6 x7 : S1024.Idx → EReal) (x8 : S1024x16.Idx → EReal)

/-! ## The context -/

/-- The token at a sequence and a position of the context. -/
def tokC (b : Fin 32) (a : Fin 256) : Fin 16384 := ⟨b.val * 256 + a.val, by omega⟩

theorem ctx_sum (b : Fin 32) (a : Fin 256) (k : Fin 1024) :
    val_main_v8 (F := Ideal) x0 (ix3 b a k) = scanSum x0 x1 (tokC b a) k := by
  pointwise [val_main_v3, val_main_v4, val_main_v5, val_main_v6, val_main_v7, val_main_v8]
  unfold scanSum tokC
  rw [dif_pos (by dsimp only; omega)]

theorem ctx_head (b : Fin 32) (a : Fin 256) (h : Fin 4) (j : Fin 256) :
    val_main_v27 (F := Ideal) x0 (ix4 b a h j)
      = normed len256 (fun j => val_main_v8 (F := Ideal) x0 (ix3 b a ⟨h.val * 256 + j.val, by omega⟩)) j := by
  pointwise [val_main_v9, val_main_cst, val_main_v10, val_main_v11, val_main_cst_0, val_main_v12, val_main_v13, val_main_v14, val_main_v15, val_main_v16, val_main_cst_1, val_main_v17, val_main_v18, val_main_cst_2, val_main_v19, val_main_v20, val_main_v21, val_main_v22, val_main_cst_3, val_main_v23, val_main_v24, val_main_v25, val_main_v26, val_main_v27]
  rfl

theorem ctx_y (b : Fin 32) (a : Fin 256) (k : Fin 1024) :
    val_main_v32 (F := Ideal) x0 x2 (ix3 b a k) = mixer x0 x1 x2 (tokC b a) k := by
  pointwise [val_main_v28, val_main_v29, val_main_v30, val_main_call0_v0, val_main_call0_v1, val_main_call0_cst, val_main_call0_v2, val_main_call0_v3, val_main_call0_cst_0, val_main_call0_v4, val_main_call0_v5, val_main_v31, val_main_v32]
  rw [ctx_head]
  simp only [ctx_sum x0 x1]
  rfl

theorem ctx_resid (b : Fin 32) (a : Fin 256) (d : Fin 1024) :
    val_main_v50 (F := Ideal) x0 x2 x3 x4 x5 (ix3 b a d)
      = resid (fun k => x3 (ix2 (tokC b a) k)) (fun k => x4 (ix3 (InProj.request (tokC b a)) 2 k))
          (fun k => val_main_v32 (F := Ideal) x0 x2 (ix3 b a k)) (fun k d => x5 (ix3 0 k d)) d := by
  pointwise [val_main_v0, val_main_v1, val_main_v2, val_main_v33, val_main_v34, val_main_v35, val_main_v36, val_main_v37, val_main_v40, val_main_cst_4, val_main_v44, val_main_v45, val_main_v46, val_main_v47, val_main_v48, val_main_v49, val_main_v50]
  refine congrArg₂ (fun u v : EReal => alpha * x3 _ + u * v) (ada_congr x4 ?_ ?_ d) rfl
  · unfold InProj.request tokC; dsimp only [Fin.coe_ofNat_eq_mod]; omega
  · dsimp only [Fin.coe_ofNat_eq_mod]; omega

theorem ctx_h (b : Fin 32) (a : Fin 256) (d : Fin 1024) :
    val_main_v74 (F := Ideal) x0 x2 x3 x4 x5 x6 x7 (ix3 b a d)
      = layerNorm (fun k => val_main_v50 (F := Ideal) x0 x2 x3 x4 x5 (ix3 b a k)) (fun k => x6 (ix1 k)) (fun k => x7 (ix1 k)) d := by
  pointwise [val_main_cst_5, val_main_v51, val_main_v52, val_main_cst_6, val_main_v53, val_main_v54, val_main_v55, val_main_v56, val_main_v57, val_main_cst_7, val_main_v58, val_main_v59, val_main_cst_8, val_main_v60, val_main_v61, val_main_v62, val_main_v63, val_main_cst_9, val_main_v64, val_main_v65, val_main_v66, val_main_v67, val_main_v68, val_main_v69, val_main_v70, val_main_v71, val_main_v72, val_main_v73, val_main_v74]
  rfl

theorem ctx_u (b : Fin 32) (a : Fin 256) (d : Fin 1024) :
    val_main_v82 (F := Ideal) x0 x2 x3 x4 x5 x6 x7 (ix3 b a d)
      = modulate (fun k => val_main_v74 (F := Ideal) x0 x2 x3 x4 x5 x6 x7 (ix3 b a k))
          (fun k => x4 (ix3 (InProj.request (tokC b a)) 4 k)) (fun k => x4 (ix3 (InProj.request (tokC b a)) 3 k)) d := by
  pointwise [val_main_v0, val_main_v1, val_main_v2, val_main_v37, val_main_v41, val_main_v42, val_main_cst_10, val_main_v75, val_main_v76, val_main_v77, val_main_v78, val_main_v79, val_main_v80, val_main_v81, val_main_v82]
  refine congrArg₂ (fun u v : EReal => _ * (1 + u) + v) (ada_congr x4 ?_ ?_ d) (ada_congr x4 ?_ ?_ d)
  · unfold InProj.request tokC; dsimp only [Fin.coe_ofNat_eq_mod]; omega
  · dsimp only [Fin.coe_ofNat_eq_mod]; omega
  · unfold InProj.request tokC; dsimp only [Fin.coe_ofNat_eq_mod]; omega
  · dsimp only [Fin.coe_ofNat_eq_mod]; omega

theorem ctx_logit (b : Fin 32) (a : Fin 256) (e : Fin 16) :
    val_main_v84 (F := Ideal) x0 x2 x3 x4 x5 x6 x7 x8 (ix3 b e a)
      = logit (fun e k => x8 (ix2 k e)) (fun k => val_main_v82 (F := Ideal) x0 x2 x3 x4 x5 x6 x7 (ix3 b a k)) e := by
  pointwise [val_main_v83, val_main_v84]
  rfl

theorem ctx_top (b : Fin 32) (a : Fin 256) :
    val_main_v87 (F := Ideal) x0 x2 x3 x4 x5 x6 x7 x8 (ix2 b a)
      = top (fun e => val_main_v84 (F := Ideal) x0 x2 x3 x4 x5 x6 x7 x8 (ix3 b e a)) := by
  pointwise [val_main_cst_11, val_main_v85, val_main_cst_12, val_main_v86, val_main_v87]
  exact max_eq_right ((Finset.le_fold_max _).2 (Or.inl le_rfl))

theorem ctx_aff (b : Fin 32) (a : Fin 256) (e : Fin 16) :
    val_main_v95 (F := Ideal) x0 x2 x3 x4 x5 x6 x7 x8 (ix3 b e a)
      = softmax (fun e => val_main_v84 (F := Ideal) x0 x2 x3 x4 x5 x6 x7 x8 (ix3 b e a)) e := by
  pointwise [val_main_v88, val_main_v89, val_main_v90, val_main_v91, val_main_cst_13, val_main_v92, val_main_v93, val_main_v94, val_main_v95]
  rw [ctx_top]
  rfl

/-! ## The latents -/

/-- The token at a sequence and a position of the latents. -/
def tokL (b : Fin 2) (a : Fin 4096) : Fin 16384 := ⟨8192 + (b.val * 4096 + a.val), by omega⟩

theorem lat_sum (b : Fin 2) (a : Fin 4096) (k : Fin 1024) :
    val_main_v106 (F := Ideal) x1 (ix3 b a k) = scanSum x0 x1 (tokL b a) k := by
  pointwise [val_main_v101, val_main_v102, val_main_v103, val_main_v104, val_main_v105, val_main_v106]
  unfold scanSum tokL
  rw [dif_neg (by dsimp only; omega)]
  have e : (⟨8192 + (b.val * 4096 + a.val) - 8192, by omega⟩ : Fin 8192) = ⟨b.val * 4096 + a.val, by omega⟩ :=
    Fin.ext (by dsimp only; omega)
  rw [e]

theorem lat_head (b : Fin 2) (a : Fin 4096) (h : Fin 4) (j : Fin 256) :
    val_main_v125 (F := Ideal) x1 (ix4 b a h j)
      = normed len256 (fun j => val_main_v106 (F := Ideal) x1 (ix3 b a ⟨h.val * 256 + j.val, by omega⟩)) j := by
  pointwise [val_main_v107, val_main_cst_14, val_main_v108, val_main_v109, val_main_cst_15, val_main_v110, val_main_v111, val_main_v112, val_main_v113, val_main_v114, val_main_cst_16, val_main_v115, val_main_v116, val_main_cst_17, val_main_v117, val_main_v118, val_main_v119, val_main_v120, val_main_cst_18, val_main_v121, val_main_v122, val_main_v123, val_main_v124, val_main_v125]
  rfl

theorem lat_y (b : Fin 2) (a : Fin 4096) (k : Fin 1024) :
    val_main_v130 (F := Ideal) x1 x2 (ix3 b a k) = mixer x0 x1 x2 (tokL b a) k := by
  pointwise [val_main_v126, val_main_v127, val_main_v128, val_main_call1_v0, val_main_call1_v1, val_main_call1_cst, val_main_call1_v2, val_main_call1_v3, val_main_call1_cst_0, val_main_call1_v4, val_main_call1_v5, val_main_v129, val_main_v130]
  rw [lat_head]
  simp only [lat_sum x0 x1]
  rfl

theorem lat_resid (b : Fin 2) (a : Fin 4096) (d : Fin 1024) :
    val_main_v147 (F := Ideal) x1 x2 x3 x4 x5 (ix3 b a d)
      = resid (fun k => x3 (ix2 (tokL b a) k)) (fun k => x4 (ix3 (InProj.request (tokL b a)) 2 k))
          (fun k => val_main_v130 (F := Ideal) x1 x2 (ix3 b a k)) (fun k d => x5 (ix3 0 k d)) d := by
  pointwise [val_main_v0, val_main_v100, val_main_v131, val_main_v132, val_main_v133, val_main_v134, val_main_v135, val_main_v138, val_main_cst_19, val_main_v142, val_main_v143, val_main_v144, val_main_v145, val_main_v146, val_main_v147]
  refine congrArg₂ (fun u v : EReal => alpha * x3 _ + u * v) (ada_congr x4 ?_ ?_ d) rfl
  · unfold InProj.request tokL; dsimp only [Fin.coe_ofNat_eq_mod]; omega
  · dsimp only [Fin.coe_ofNat_eq_mod]; omega

theorem lat_h (b : Fin 2) (a : Fin 4096) (d : Fin 1024) :
    val_main_v171 (F := Ideal) x1 x2 x3 x4 x5 x6 x7 (ix3 b a d)
      = layerNorm (fun k => val_main_v147 (F := Ideal) x1 x2 x3 x4 x5 (ix3 b a k)) (fun k => x6 (ix1 k)) (fun k => x7 (ix1 k)) d := by
  pointwise [val_main_cst_20, val_main_v148, val_main_v149, val_main_cst_21, val_main_v150, val_main_v151, val_main_v152, val_main_v153, val_main_v154, val_main_cst_22, val_main_v155, val_main_v156, val_main_cst_23, val_main_v157, val_main_v158, val_main_v159, val_main_v160, val_main_cst_24, val_main_v161, val_main_v162, val_main_v163, val_main_v164, val_main_v165, val_main_v166, val_main_v167, val_main_v168, val_main_v169, val_main_v170, val_main_v171]
  rfl

theorem lat_u (b : Fin 2) (a : Fin 4096) (d : Fin 1024) :
    val_main_v177 (F := Ideal) x1 x2 x3 x4 x5 x6 x7 (ix3 b a d)
      = modulate (fun k => val_main_v171 (F := Ideal) x1 x2 x3 x4 x5 x6 x7 (ix3 b a k))
          (fun k => x4 (ix3 (InProj.request (tokL b a)) 4 k)) (fun k => x4 (ix3 (InProj.request (tokL b a)) 3 k)) d := by
  pointwise [val_main_v0, val_main_v100, val_main_v135, val_main_v139, val_main_v140, val_main_cst_25, val_main_v172, val_main_v173, val_main_v174, val_main_v175, val_main_v176, val_main_v177]
  refine congrArg₂ (fun u v : EReal => _ * (1 + u) + v) (ada_congr x4 ?_ ?_ d) (ada_congr x4 ?_ ?_ d)
  · unfold InProj.request tokL; dsimp only [Fin.coe_ofNat_eq_mod]; omega
  · dsimp only [Fin.coe_ofNat_eq_mod]; omega
  · unfold InProj.request tokL; dsimp only [Fin.coe_ofNat_eq_mod]; omega
  · dsimp only [Fin.coe_ofNat_eq_mod]; omega

theorem lat_logit (b : Fin 2) (a : Fin 4096) (e : Fin 16) :
    val_main_v179 (F := Ideal) x1 x2 x3 x4 x5 x6 x7 x8 (ix3 b e a)
      = logit (fun e k => x8 (ix2 k e)) (fun k => val_main_v177 (F := Ideal) x1 x2 x3 x4 x5 x6 x7 (ix3 b a k)) e := by
  pointwise [val_main_v178, val_main_v179]
  rfl

theorem lat_top (b : Fin 2) (a : Fin 4096) :
    val_main_v182 (F := Ideal) x1 x2 x3 x4 x5 x6 x7 x8 (ix2 b a)
      = top (fun e => val_main_v179 (F := Ideal) x1 x2 x3 x4 x5 x6 x7 x8 (ix3 b e a)) := by
  pointwise [val_main_cst_26, val_main_v180, val_main_cst_27, val_main_v181, val_main_v182]
  exact max_eq_right ((Finset.le_fold_max _).2 (Or.inl le_rfl))

theorem lat_aff (b : Fin 2) (a : Fin 4096) (e : Fin 16) :
    val_main_v190 (F := Ideal) x1 x2 x3 x4 x5 x6 x7 x8 (ix3 b e a)
      = softmax (fun e => val_main_v179 (F := Ideal) x1 x2 x3 x4 x5 x6 x7 x8 (ix3 b e a)) e := by
  pointwise [val_main_v183, val_main_v184, val_main_v185, val_main_v186, val_main_cst_28, val_main_v187, val_main_v188, val_main_v189, val_main_v190]
  rw [lat_top]
  rfl

/-! ## The three results -/

theorem ctx_hid (b : Fin 32) (a : Fin 256) (d : Fin 1024) :
    val_main_v74 (F := Ideal) x0 x2 x3 x4 x5 x6 x7 (ix3 b a d) = hid (mixer x0 x1 x2) x3 x4 x5 x6 x7 (tokC b a) d := by
  rw [ctx_h]
  simp only [ctx_resid, ctx_y x0 x1]
  rfl

theorem lat_hid (b : Fin 2) (a : Fin 4096) (d : Fin 1024) :
    val_main_v171 (F := Ideal) x1 x2 x3 x4 x5 x6 x7 (ix3 b a d) = hid (mixer x0 x1 x2) x3 x4 x5 x6 x7 (tokL b a) d := by
  rw [lat_h]
  simp only [lat_resid, lat_y x0 x1]
  rfl

theorem ctx_inp (b : Fin 32) (a : Fin 256) (d : Fin 1024) :
    val_main_v82 (F := Ideal) x0 x2 x3 x4 x5 x6 x7 (ix3 b a d) = inp (mixer x0 x1 x2) x3 x4 x5 x6 x7 (tokC b a) d := by
  rw [ctx_u]
  simp only [ctx_hid x0 x1]
  rfl

theorem lat_inp (b : Fin 2) (a : Fin 4096) (d : Fin 1024) :
    val_main_v177 (F := Ideal) x1 x2 x3 x4 x5 x6 x7 (ix3 b a d) = inp (mixer x0 x1 x2) x3 x4 x5 x6 x7 (tokL b a) d := by
  rw [lat_u]
  simp only [lat_hid x0 x1]
  rfl

theorem ctx_affinity (b : Fin 32) (a : Fin 256) (e : Fin 16) :
    val_main_v95 (F := Ideal) x0 x2 x3 x4 x5 x6 x7 x8 (ix3 b e a)
      = aff (mixer x0 x1 x2) x3 x4 x5 x6 x7 x8 e (tokC b a) := by
  rw [ctx_aff]
  simp only [ctx_logit, ctx_inp x0 x1]
  rfl

theorem lat_affinity (b : Fin 2) (a : Fin 4096) (e : Fin 16) :
    val_main_v190 (F := Ideal) x1 x2 x3 x4 x5 x6 x7 x8 (ix3 b e a)
      = aff (mixer x0 x1 x2) x3 x4 x5 x6 x7 x8 e (tokL b a) := by
  rw [lat_aff]
  simp only [lat_logit, lat_inp x0 x1]
  rfl

/-- The first result is the hidden states. -/
theorem reference_h : (val_main_v195 (F := Ideal) x0 x1 x2 x3 x4 x5 x6 x7 : S16384x1024.Idx → EReal)
    = fun i => hid (mixer x0 x1 x2) x3 x4 x5 x6 x7 (i 0) (i 1) := by
  funext i
  obtain ⟨r, d, rfl⟩ : ∃ (r : Fin 16384) (d : Fin 1024), i = ix2 r d := ⟨i 0, i 1, eq_ix2 i⟩
  pointwise [val_main_v195, val_main_v96, val_main_v191]
  split
  · rw [ctx_hid x0 x1]
    exact congrArg (hid (mixer x0 x1 x2) x3 x4 x5 x6 x7 · d) (Fin.ext (by unfold tokC; dsimp only; omega))
  · rw [lat_hid x0 x1]
    exact congrArg (hid (mixer x0 x1 x2) x3 x4 x5 x6 x7 · d) (Fin.ext (by unfold tokL; dsimp only; omega))

/-- The second result is the experts' inputs. -/
theorem reference_u : (val_main_v197 (F := Ideal) x0 x1 x2 x3 x4 x5 x6 x7 : S16384x1024.Idx → EReal)
    = fun i => inp (mixer x0 x1 x2) x3 x4 x5 x6 x7 (i 0) (i 1) := by
  funext i
  obtain ⟨r, d, rfl⟩ : ∃ (r : Fin 16384) (d : Fin 1024), i = ix2 r d := ⟨i 0, i 1, eq_ix2 i⟩
  pointwise [val_main_v197, val_main_v196, val_main_v97, val_main_v192]
  split
  · rw [ctx_inp x0 x1]
    exact congrArg (inp (mixer x0 x1 x2) x3 x4 x5 x6 x7 · d) (Fin.ext (by unfold tokC; dsimp only; omega))
  · rw [lat_inp x0 x1]
    exact congrArg (inp (mixer x0 x1 x2) x3 x4 x5 x6 x7 · d) (Fin.ext (by unfold tokL; dsimp only; omega))

/-- The context's affinities, the sequences side by side. -/
theorem ctx_flat (e : Fin 16) (s : Fin 8192) :
    val_main_v99 (F := Ideal) x0 x2 x3 x4 x5 x6 x7 x8 (ix2 e s)
      = val_main_v95 (F := Ideal) x0 x2 x3 x4 x5 x6 x7 x8
          (ix3 ⟨s.val / 256, by omega⟩ e ⟨s.val % 256, by omega⟩) := by
  pointwise [val_main_v98, val_main_v99]

/-- The latents' affinities, the sequences side by side. -/
theorem lat_flat (e : Fin 16) (s : Fin 8192) :
    val_main_v194 (F := Ideal) x1 x2 x3 x4 x5 x6 x7 x8 (ix2 e s)
      = val_main_v190 (F := Ideal) x1 x2 x3 x4 x5 x6 x7 x8
          (ix3 ⟨s.val / 4096, by omega⟩ e ⟨s.val % 4096, by omega⟩) := by
  pointwise [val_main_v193, val_main_v194]

/-- The third result is the affinities. -/
theorem reference_aff : (val_main_v198 (F := Ideal) x0 x1 x2 x3 x4 x5 x6 x7 x8 : S16x16384.Idx → EReal)
    = fun i => aff (mixer x0 x1 x2) x3 x4 x5 x6 x7 x8 (i 0) (i 1) := by
  funext i
  obtain ⟨e, r, rfl⟩ : ∃ (e : Fin 16) (r : Fin 16384), i = ix2 e r := ⟨i 0, i 1, eq_ix2 i⟩
  pointwise [val_main_v198]
  split
  · rw [ctx_flat, ctx_affinity x0 x1]
    exact congrArg (aff (mixer x0 x1 x2) x3 x4 x5 x6 x7 x8 e) (Fin.ext (by unfold tokC; dsimp only; omega))
  · rw [lat_flat, lat_affinity x0 x1]
    exact congrArg (aff (mixer x0 x1 x2) x3 x4 x5 x6 x7 x8 e) (Fin.ext (by unfold tokL; dsimp only; omega))

section
variable {x0 x1 x2 x3 x4 x5 x6 x7 x8}
variable {y0 y1 : S2x8192x1024.Idx → EReal} {y2 : S16384x4096.Idx → EReal} {y3 : S16384x1024.Idx → EReal}
  {y4 : S3x6x1024.Idx → EReal} {y5 : S2x1024x1024.Idx → EReal} {y6 y7 : S1024.Idx → EReal} {y8 : S1024x16.Idx → EReal}
  (e0 : x0 = y0) (e1 : x1 = y1) (e2 : x2 = y2) (e3 : x3 = y3) (e4 : x4 = y4) (e5 : x5 = y5) (e6 : x6 = y6) (e7 : x7 = y7)
  (e8 : x8 = y8)
include e0 e1 e2 e3 e4 e5 e6 e7

/-- The three results for arguments that equal the kernel's. -/
theorem equal_h : (val_main_v195 (F := Ideal) x0 x1 x2 x3 x4 x5 x6 x7 : S16384x1024.Idx → EReal)
    = fun i => hid (mixer y0 y1 y2) y3 y4 y5 y6 y7 (i 0) (i 1) := by
  subst e0 e1 e2 e3 e4 e5 e6 e7
  exact reference_h _ _ _ _ _ _ _ _

@[inherit_doc equal_h] theorem equal_u : (val_main_v197 (F := Ideal) x0 x1 x2 x3 x4 x5 x6 x7 : S16384x1024.Idx → EReal)
    = fun i => inp (mixer y0 y1 y2) y3 y4 y5 y6 y7 (i 0) (i 1) := by
  subst e0 e1 e2 e3 e4 e5 e6 e7
  exact reference_u _ _ _ _ _ _ _ _

include e8 in
@[inherit_doc equal_h] theorem equal_aff : (val_main_v198 (F := Ideal) x0 x1 x2 x3 x4 x5 x6 x7 x8 : S16x16384.Idx → EReal)
    = fun i => aff (mixer y0 y1 y2) y3 y4 y5 y6 y7 y8 (i 0) (i 1) := by
  subst e0 e1 e2 e3 e4 e5 e6 e7 e8
  exact reference_aff _ _ _ _ _ _ _ _ _

end

/-- The post-mixer kernel's three result arrays equal the reference's, at the extended reals. -/
theorem algebraic : Cert.algebraic_Kernel4Ideal_Reference4Ideal := by
  intro m ρ m' ρ' _ hagree
  refine ⟨fun c => _, fun c => _, fun c => _, (θ_run Cert.Kernel4Ideal.defs _ _).mono (fun _ h c =>
    ⟨((h c).1).trans (final_h m c), ((h c).2.1).trans (final_u m c), ((h c).2.2.1).trans (final_aff m c), (h c).2.2.2⟩)
    (Cert.Kernel4Ideal.Value.run_blocks (F := Ideal) m ρ), ?_⟩
  refine (θ_run Cert.Reference4Ideal.defs _ _).mono (fun _ h c =>
    ⟨(h c).1.trans ?_, (h c).2.1.trans ?_, (h c).2.2.1.trans ?_, (h c).2.2.2⟩)
    (Cert.Reference4Ideal.Value.run (F := Ideal) m' ρ')
  all_goals obtain ⟨e0, e1, e2, e3, e4, e5, e6, e7, e8⟩ := hagree c
  · exact (val_main_v195_eq _).trans (equal_h e0 e1 e2 e3 e4 e5 e6 e7)
  · exact (val_main_v197_eq _).trans (equal_u e0 e1 e2 e3 e4 e5 e6 e7)
  · exact (val_main_v198_eq _).trans (equal_aff e0 e1 e2 e3 e4 e5 e6 e7 e8)

end Cert.PostOdd

end
-- ==== Proof.PostEvenBlock.lean ====
/-
  The post-mixer kernel of an even layer: what its three result arrays hold.

  A grid point takes 512 token rows. The left half of the mixer's row is the sum of the two scan directions, each head
  divided by its root mean square, weighted and gated; the right half is the convolution's output. The row then goes
  through the output projection, the residual and its layer norm, and the modulation and affinities that the experts
  need. The first 16 points read the context's mixer outputs, the last 16 the latents'.
-/
module

public import proofs.«01_k».proof.Proof.Gen.Kernel5Ideal.Value
public import proofs.«01_k».proof.Proof.Post
public import Idealize.ShloMosaic.Lib.Pipeline.ValueKit
public import Idealize.ShloMosaic.Lib.Pointwise
public import Idealize.ShloMosaic.Lib.StableHlo.ReadAt

@[expose] public section

set_option maxRecDepth 16384

noncomputable section

namespace Cert.PostEven

open Cert.Kernel5Ideal Cert.Kernel5Ideal.Gen Idealize.ShloMosaic Idealize.ShloMosaic.TcCoe Idealize.SL.Sem
open Idealize.ShloMosaic.Pipeline (Dat)
open Cert.Post

/-- The two scan directions' outputs, added: the context's rows first, then the latents'. -/
def scanSum (fc bc fl bl : S8192x512.Idx → EReal) (t : Fin 16384) (k : Fin 512) : EReal :=
  if h : t.val < 8192 then fc (ix2 ⟨t.val, h⟩ k) + bc (ix2 ⟨t.val, h⟩ k)
  else fl (ix2 ⟨t.val - 8192, by omega⟩ k) + bl (ix2 ⟨t.val - 8192, by omega⟩ k)

/-- The convolution's outputs: the context's rows first, then the latents'. -/
def conv (yc yl : S1x8192x512.Idx → EReal) (t : Fin 16384) (k : Fin 512) : EReal :=
  if h : t.val < 8192 then yc (ix3 0 ⟨t.val, h⟩ k) else yl (ix3 0 ⟨t.val - 8192, by omega⟩ k)

/-- The 128 columns of a row from column `o` on. -/
def cols (z : Fin 512 → EReal) (o : ℕ) (ho : o + 128 ≤ 512) (j : Fin 128) : EReal := z ⟨o + j.val, by omega⟩

/-- A head over its root mean square. -/
def scaled (z : Fin 128 → EReal) (j : Fin 128) : EReal := z j * scale len128 z

/-- A row over its root mean square, head by head. -/
def heads (z : Fin 512 → EReal) (k : Fin 512) : EReal :=
  scaled (cols z (k.val / 128 * 128) (by omega)) ⟨k.val % 128, by omega⟩

/-- A row of two halves: the heads of `z`, weighted and gated, and `v`. -/
def joined (z nw g v : Fin 512 → EReal) (k : Fin 1024) : EReal :=
  if h : k.val < 512 then heads z ⟨k.val, h⟩ * nw ⟨k.val, h⟩ * silu (g ⟨k.val, h⟩) else v ⟨k.val - 512, by omega⟩

/-- The mixer's row of a token. -/
def mixer (fc bc fl bl : S8192x512.Idx → EReal) (yc yl : S1x8192x512.Idx → EReal) (p : S16384x4096.Idx → EReal)
    (nw : S512.Idx → EReal) (t : Fin 16384) : Fin 1024 → EReal :=
  joined (scanSum fc bc fl bl t) (fun k => nw (ix1 k)) (fun k => p (ix2 t ⟨2048 + k.val, by omega⟩)) (conv yc yl t)

theorem joined_congr {z z' nw nw' g g' v v' : Fin 512 → EReal} (hz : ∀ k, z k = z' k) (hn : ∀ k, nw k = nw' k)
    (hg : ∀ k, g k = g' k) (hv : ∀ k, v k = v' k) (k : Fin 1024) : joined z nw g v k = joined z' nw' g' v' k := by
  rw [funext hz, funext hn, funext hg, funext hv]

variable (m : (ℓ : Loc nD τ sig) → Buf (Elt Ideal) ℓ) (ρ : Dev nD → PrngReg)

/-- The heads' columns joined by four choices are the row scaled head by head. -/
theorem heads_cases (z : Fin 512 → EReal) (x : Fin 512) :
    (if h : x.val < 128 then scaled (cols z 0 (by omega)) ⟨x.val, h⟩
      else if h1 : x.val - 128 < 128 then scaled (cols z 128 (by omega)) ⟨x.val - 128, h1⟩
      else if h2 : x.val - 128 - 128 < 128 then scaled (cols z 256 (by omega)) ⟨x.val - 128 - 128, h2⟩
      else scaled (cols z 384 (by omega)) ⟨x.val - 128 - 128 - 128, by omega⟩) = heads z x := by
  have key : ∀ (o : ℕ) (ho : o + 128 ≤ 512) (j : Fin 128), x.val / 128 * 128 = o → x.val % 128 = j.val →
      scaled (cols z o ho) j = heads z x := by
    rintro o ho j rfl hj
    exact congrArg (scaled _) (Fin.ext hj.symm)
  have hx := x.isLt
  split
  · exact key _ _ _ (by omega) (by dsimp only; omega)
  split
  · exact key _ _ _ (by omega) (by dsimp only; omega)
  split
  · exact key _ _ _ (by omega) (by dsimp only; omega)
  · exact key _ _ _ (by omega) (by dsimp only; omega)

/-! ## The payloads at an index -/

theorem pay3_at (i : grid0.Coords) (v1 v4 v6 v9 : S512x512.Idx → EReal) (r : Fin 512) (d : Fin 512) :
    k0_pay3 (F := Ideal) i v1 v4 v6 v9 (ix2 r d)
      = Scalar.select (Scalar.cmpi .slt (BitVec.ofNat 32 (i 0).val) 16#32) (v1 (ix2 r d) + v4 (ix2 r d))
          (v6 (ix2 r d) + v9 (ix2 r d)) := by
  pointwise [k0_pay3]

theorem pay4_at (i : grid0.Coords) (v1 v4 v6 v9 : S512x512.Idx → EReal) (r : Fin 512) (d : Fin 128) :
    k0_pay4 (F := Ideal) i v1 v4 v6 v9 (ix2 r d)
      = scaled (cols (fun k => k0_pay3 (F := Ideal) i v1 v4 v6 v9 (ix2 r k)) 0 (by omega)) d := by
  pointwise [k0_pay4]
  unfold scaled scale cols
  simp only [Nat.zero_add]
  rfl

theorem pay5_at (i : grid0.Coords) (v1 v4 v6 v9 : S512x512.Idx → EReal) (r : Fin 512) (d : Fin 128) :
    k0_pay5 (F := Ideal) i v1 v4 v6 v9 (ix2 r d)
      = scaled (cols (fun k => k0_pay3 (F := Ideal) i v1 v4 v6 v9 (ix2 r k)) 128 (by omega)) d := by
  pointwise [k0_pay5]
  rfl

theorem pay6_at (i : grid0.Coords) (v1 v4 v6 v9 : S512x512.Idx → EReal) (r : Fin 512) (d : Fin 128) :
    k0_pay6 (F := Ideal) i v1 v4 v6 v9 (ix2 r d)
      = cols (fun k => k0_pay3 (F := Ideal) i v1 v4 v6 v9 (ix2 r k)) 256 (by omega) d := by
  pointwise [k0_pay6]
  rfl

theorem pay7_at (i : grid0.Coords) (v1 v4 v6 v9 : S512x512.Idx → EReal) (r : Fin 512) :
    k0_pay7 (F := Ideal) i v1 v4 v6 v9 (ix2 r 0)
      = ∑ k : Fin 128, k0_pay6 (F := Ideal) i v1 v4 v6 v9 (ix2 r k) * k0_pay6 (F := Ideal) i v1 v4 v6 v9 (ix2 r k) := by
  pointwise [k0_pay7]

theorem pay8_at (a : BitVec 32) (v11 v12 : S512x512.Idx → EReal) (v23 v34 v35 : S512x128.Idx → EReal)
    (v38 : S512x1.Idx → EReal) (v58 : S1x512.Idx → EReal) (v66 v70 : S1x512x512.Idx → EReal) (r : Fin 512)
    (h0 : ∀ j, v23 (ix2 r j) = scaled (cols (fun k => v11 (ix2 r k)) 0 (by omega)) j)
    (h1 : ∀ j, v34 (ix2 r j) = scaled (cols (fun k => v11 (ix2 r k)) 128 (by omega)) j)
    (h2 : ∀ j, v35 (ix2 r j) = cols (fun k => v11 (ix2 r k)) 256 (by omega) j)
    (h38 : v38 (ix2 r 0) = ∑ k : Fin 128, v35 (ix2 r k) * v35 (ix2 r k)) (k : Fin 1024) :
    k0_pay8 (F := Ideal) a v11 v12 v23 v34 v35 v38 v58 v66 v70 (ix2 r k)
      = joined (fun k => v11 (ix2 r k)) (fun k => v58 (ix2 0 k)) (fun k => v12 (ix2 r k))
          (fun k => Scalar.select (Scalar.cmpi .slt a 16#32) (v66 (ix3 0 r k)) (v70 (ix3 0 r k))) k := by
  pointwise [k0_pay8]
  unfold joined
  simp only [← heads_cases]
  simp only [h0, h1, h38, h2]
  rfl

theorem pay12_at (v75 : S512x1024.Idx → EReal) (v77 : S1x1024.Idx → EReal) (v83 : S1x1024x1024.Idx → EReal)
    (v87 : S512x1024.Idx → EReal) (v93 v95 : S1x1024.Idx → EReal) (r : Fin 512) (d : Fin 1024) :
    k0_pay12 (F := Ideal) v75 v77 v83 v87 v93 v95 (ix2 r d)
      = layerNorm (resid (fun k => v87 (ix2 r k)) (fun k => v77 (ix2 0 k)) (fun k => v75 (ix2 r k))
          (fun k d => v83 (ix3 0 k d))) (fun k => v93 (ix2 0 k)) (fun k => v95 (ix2 0 k)) d := by
  pointwise [k0_pay12]
  rfl

theorem row_h (v75 : S512x1024.Idx → EReal) (v77 : S1x1024.Idx → EReal) (v83 : S1x1024x1024.Idx → EReal)
    (v87 : S512x1024.Idx → EReal) (v93 v95 : S1x1024.Idx → EReal) (r : Fin 512) (x gt y : Fin 1024 → EReal)
    (w : Fin 1024 → Fin 1024 → EReal) (g b : Fin 1024 → EReal) (hx : ∀ k, v87 (ix2 r k) = x k)
    (hgt : ∀ k, v77 (ix2 0 k) = gt k) (hy : ∀ k, v75 (ix2 r k) = y k) (hw : ∀ k d, v83 (ix3 0 k d) = w k d)
    (hg : ∀ k, v93 (ix2 0 k) = g k) (hb : ∀ k, v95 (ix2 0 k) = b k) (d : Fin 1024) :
    k0_pay12 (F := Ideal) v75 v77 v83 v87 v93 v95 (ix2 r d) = layerNorm (resid x gt y w) g b d := by
  rw [pay12_at]
  simp only [hx, hgt, hy, hw, hg, hb]

theorem row_u (v79 v81 : S1x1024.Idx → EReal) (v116 : S512x1024.Idx → EReal) (r : Fin 512) (h sc sh : Fin 1024 → EReal)
    (hh : ∀ k, v116 (ix2 r k) = h k) (hsc : ∀ k, v81 (ix2 0 k) = sc k) (hsh : ∀ k, v79 (ix2 0 k) = sh k) (d : Fin 1024) :
    k0_pay1 (F := Ideal) v79 v81 v116 (ix2 r d) = modulate h sc sh d := by
  pointwise [k0_pay1]
  rw [hh, hsc, hsh]
  rfl

theorem pay2_at (v79 v81 : S1x1024.Idx → EReal) (v116 : S512x1024.Idx → EReal) (v126 : S16x1024.Idx → EReal)
    (e : Fin 16) (r : Fin 512) :
    k0_pay2 (F := Ideal) v79 v81 v116 v126 (ix2 e r)
      = softmax (logit (fun e k => v126 (ix2 e k)) (fun k => k0_pay1 (F := Ideal) v79 v81 v116 (ix2 r k))) e := by
  pointwise [k0_pay2]
  rfl

theorem row_aff (v79 v81 : S1x1024.Idx → EReal) (v116 : S512x1024.Idx → EReal) (v126 : S16x1024.Idx → EReal) (r : Fin 512)
    (u : Fin 1024 → EReal) (rt : Fin 16 → Fin 1024 → EReal)
    (hu : ∀ k, k0_pay1 (F := Ideal) v79 v81 v116 (ix2 r k) = u k) (hr : ∀ e k, v126 (ix2 e k) = rt e k) (e : Fin 16) :
    k0_pay2 (F := Ideal) v79 v81 v116 v126 (ix2 e r) = softmax (logit rt u) e := by
  rw [pay2_at]
  simp only [hu, hr]

/-! ## The blocks of a grid point -/

/-- Where each window's block lies at a grid point. -/
theorem idx : ∀ t : Fin cfg0.N,
    win0_0.index t = ![min (grid0.coords t 0).val 15, 0]
    ∧ win0_1.index t = ![min (grid0.coords t 0).val 15, 0]
    ∧ win0_2.index t = ![(grid0.coords t 0).val - 16, 0]
    ∧ win0_3.index t = ![(grid0.coords t 0).val - 16, 0]
    ∧ win0_4.index t = ![0, min (grid0.coords t 0).val 15, 0]
    ∧ win0_5.index t = ![0, (grid0.coords t 0).val - 16, 0]
    ∧ win0_6.index t = ![(grid0.coords t 0).val, 4]
    ∧ win0_7.index t = ![0, 0]
    ∧ win0_8.index t = ![(grid0.coords t 0).val, 0]
    ∧ win0_9.index t = ![((grid0.coords t 0).val * 512 - 4096) / 4096, 0, 0]
    ∧ win0_10.index t = ![0, 0, 0]
    ∧ win0_11.index t = ![0, 0]
    ∧ win0_12.index t = ![0, 0]
    ∧ win0_13.index t = ![0, 0]
    ∧ win0_14.index t = ![(grid0.coords t 0).val, 0]
    ∧ win0_15.index t = ![(grid0.coords t 0).val, 0]
    ∧ win0_16.index t = ![0, (grid0.coords t 0).val] :=
  (by decide +kernel : ∀ t : Fin grid0.N, _)

/-- A grid point's coordinate is below 32. -/
theorem coords_lt (t : Fin cfg0.N) : (grid0.coords t 0).val < 32 := (grid0.coords t 0).isLt

/-- The token of a grid point's row. -/
def tok (t : Fin cfg0.N) (r : Fin 512) : Fin 16384 :=
  ⟨(grid0.coords t 0).val * 512 + r.val, by have := coords_lt t; omega⟩

theorem tok_val (t : Fin cfg0.N) (r : Fin 512) : (tok t r).val = (grid0.coords t 0).val * 512 + r.val := rfl

/-- The norm's gains, as the call finds them. -/
theorem V_gain (c : Dev nD) (k : Fin 1024) : (V m c main_v0 : S1x1024.Idx → EReal) (ix2 0 k)
    = (m ((c : Thread nD τ).loc main_arg11) : S1024.Idx → EReal) (ix1 k) := by
  unfold V
  after_reads_at

/-- The norm's offsets, as the call finds them. -/
theorem V_bias (c : Dev nD) (k : Fin 1024) : (V m c main_v1 : S1x1024.Idx → EReal) (ix2 0 k)
    = (m ((c : Thread nD τ).loc main_arg12) : S1024.Idx → EReal) (ix1 k) := by
  unfold V
  after_reads_at

/-- The router, transposed before the call. -/
theorem V_router (c : Dev nD) (e : Fin 16) (k : Fin 1024) : (V m c main_v2 : S16x1024.Idx → EReal) (ix2 e k)
    = (m ((c : Thread nD τ).loc main_arg13) : S1024x16.Idx → EReal) (ix2 k e) := by
  unfold V
  after_reads_at

/-- The heads' weights, as the call finds them. -/
theorem V_weight (c : Dev nD) (k : Fin 512) : (V m c main_v3 : S1x512.Idx → EReal) (ix2 0 k)
    = (m ((c : Thread nD τ).loc main_arg7) : S512.Idx → EReal) (ix1 k) := by
  unfold V
  after_reads_at

/-- A function of the grid point and its blocks, at a grid point. -/
abbrev onBlocks {α : Type} (c : Dev nD) (t : Fin cfg0.N)
    (f : grid0.Coords → (S512x512.Idx → EReal) → (S512x512.Idx → EReal) → (S512x512.Idx → EReal) → (S512x512.Idx → EReal)
      → (S1x512x512.Idx → EReal) → (S1x512x512.Idx → EReal) → (S512x512.Idx → EReal)
      → (S1x512.Idx → EReal) → (S512x1024.Idx → EReal) → (S1x6x1024.Idx → EReal) → (S1x1024x1024.Idx → EReal)
      → (S1x1024.Idx → EReal) → (S1x1024.Idx → EReal) → (S16x1024.Idx → EReal) → α) : α :=
  f (grid0.coords t) (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t)
    (iblk m c 13 t)

/-- The summed scan outputs of a grid point's rows. -/
theorem blk_sum (c : Dev nD) (t : Fin cfg0.N) (r : Fin 512) (k : Fin 512) :
    k0_pay3 (F := Ideal) (grid0.coords t) (iblk m c 0 t) (iblk m c 1 t) (iblk m c 2 t) (iblk m c 3 t) (ix2 r k)
      = scanSum (m ((c : Thread nD τ).loc main_arg0)) (m ((c : Thread nD τ).loc main_arg1))
          (m ((c : Thread nD τ).loc main_arg2)) (m ((c : Thread nD τ).loc main_arg3)) (tok t r) k := by
  have ht := coords_lt t
  have htk := tok_val t r
  refine (pay3_at _ _ _ _ _ r k).trans ?_
  rw [pick ht]
  unfold scanSum
  rw [← V_main_arg0 m c, ← V_main_arg1 m c, ← V_main_arg2 m c, ← V_main_arg3 m c]
  by_cases h : (grid0.coords t 0).val < 16
  · rw [if_pos h, dif_pos (by omega)]
    have h0 : (iblk m c 0 t : S512x512.Idx → EReal) (ix2 r k)
        = (V m c main_arg0 : S8192x512.Idx → EReal) (ix2 ⟨(tok t r).val, by omega⟩ k) := by
      blk_ext [iblk, idx t]
    have h1 : (iblk m c 1 t : S512x512.Idx → EReal) (ix2 r k)
        = (V m c main_arg1 : S8192x512.Idx → EReal) (ix2 ⟨(tok t r).val, by omega⟩ k) := by
      blk_ext [iblk, idx t]
    rw [h0, h1]
  · rw [if_neg h, dif_neg (by omega)]
    have h2 : (iblk m c 2 t : S512x512.Idx → EReal) (ix2 r k)
        = (V m c main_arg2 : S8192x512.Idx → EReal) (ix2 ⟨(tok t r).val - 8192, by omega⟩ k) := by
      blk_ext [iblk, idx t]
    have h3 : (iblk m c 3 t : S512x512.Idx → EReal) (ix2 r k)
        = (V m c main_arg3 : S8192x512.Idx → EReal) (ix2 ⟨(tok t r).val - 8192, by omega⟩ k) := by
      blk_ext [iblk, idx t]
    rw [h2, h3]

/-- The convolution's outputs of a grid point's rows. -/
theorem blk_conv (c : Dev nD) (t : Fin cfg0.N) (r : Fin 512) (k : Fin 512) :
    Scalar.select (Scalar.cmpi .slt (BitVec.ofNat 32 (grid0.coords t 0).val) 16#32)
        ((iblk m c 4 t : S1x512x512.Idx → EReal) (ix3 0 r k)) ((iblk m c 5 t : S1x512x512.Idx → EReal) (ix3 0 r k))
      = conv (m ((c : Thread nD τ).loc main_arg4)) (m ((c : Thread nD τ).loc main_arg5)) (tok t r) k := by
  have ht := coords_lt t
  have htk := tok_val t r
  rw [pick ht]
  unfold conv
  rw [← V_main_arg4 m c, ← V_main_arg5 m c]
  by_cases h : (grid0.coords t 0).val < 16
  · rw [if_pos h, dif_pos (by omega)]
    blk_ext [iblk, idx t]
  · rw [if_neg h, dif_neg (by omega)]
    blk_ext [iblk, idx t]

theorem blk_gate (c : Dev nD) (t : Fin cfg0.N) (r : Fin 512) (k : Fin 512) :
    (iblk m c 6 t : S512x512.Idx → EReal) (ix2 r k)
      = (m ((c : Thread nD τ).loc main_arg6) : S16384x4096.Idx → EReal) (ix2 (tok t r) ⟨2048 + k.val, by omega⟩) := by
  have htk := tok_val t r
  rw [← V_main_arg6 m c]
  blk_ext [iblk, idx t]

theorem blk_weight (c : Dev nD) (t : Fin cfg0.N) (k : Fin 512) :
    (iblk m c 7 t : S1x512.Idx → EReal) (ix2 0 k) = (m ((c : Thread nD τ).loc main_arg7) : S512.Idx → EReal) (ix1 k) := by
  rw [← V_weight m c]
  blk_ext [iblk, idx t]

theorem blk_h (c : Dev nD) (t : Fin cfg0.N) (r : Fin 512) (k : Fin 1024) :
    (iblk m c 8 t : S512x1024.Idx → EReal) (ix2 r k) = (m ((c : Thread nD τ).loc main_arg8) : S16384x1024.Idx → EReal) (ix2 (tok t r) k) := by
  have htk := tok_val t r
  rw [← V_main_arg8 m c]
  blk_ext [iblk, idx t]

/-- A grid point's rows are all of one request. -/
theorem blk_mod (c : Dev nD) (t : Fin cfg0.N) (r : Fin 512) (a : Fin 6) (k : Fin 1024) :
    (iblk m c 9 t : S1x6x1024.Idx → EReal) (ix3 0 a k)
      = (m ((c : Thread nD τ).loc main_arg9) : S3x6x1024.Idx → EReal) (ix3 (InProj.request (tok t r)) a k) := by
  have ht := coords_lt t
  have htk := tok_val t r
  rw [← V_main_arg9 m c]
  unfold InProj.request
  blk_ext [iblk, idx t]

theorem blk_w (c : Dev nD) (t : Fin cfg0.N) (k d : Fin 1024) :
    (iblk m c 10 t : S1x1024x1024.Idx → EReal) (ix3 0 k d) = (m ((c : Thread nD τ).loc main_arg10) : S2x1024x1024.Idx → EReal) (ix3 0 k d) := by
  rw [← V_main_arg10 m c]
  blk_ext [iblk, idx t]

theorem blk_gain (c : Dev nD) (t : Fin cfg0.N) (k : Fin 1024) :
    (iblk m c 11 t : S1x1024.Idx → EReal) (ix2 0 k) = (m ((c : Thread nD τ).loc main_arg11) : S1024.Idx → EReal) (ix1 k) := by
  rw [← V_gain m c]
  blk_ext [iblk, idx t]

theorem blk_bias (c : Dev nD) (t : Fin cfg0.N) (k : Fin 1024) :
    (iblk m c 12 t : S1x1024.Idx → EReal) (ix2 0 k) = (m ((c : Thread nD τ).loc main_arg12) : S1024.Idx → EReal) (ix1 k) := by
  rw [← V_bias m c]
  blk_ext [iblk, idx t]

theorem blk_router (c : Dev nD) (t : Fin cfg0.N) (e : Fin 16) (k : Fin 1024) :
    (iblk m c 13 t : S16x1024.Idx → EReal) (ix2 e k) = (m ((c : Thread nD τ).loc main_arg13) : S1024x16.Idx → EReal) (ix2 k e) := by
  rw [← V_router m c]
  blk_ext [iblk, idx t]

/-! ## What a grid point computes -/

/-- The mixer's rows, from the argument arrays. -/
abbrev y0 (c : Dev nD) : Fin 16384 → Fin 1024 → EReal :=
  mixer (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

/-- The mixer's row of a grid point's token. -/
theorem val_y (c : Dev nD) (t : Fin cfg0.N) (r : Fin 512) (k : Fin 1024) :
    k0_pay8 (F := Ideal) (BitVec.ofNat 32 (grid0.coords t 0).val)
        (k0_pay3 (grid0.coords t) (iblk m c 0 t) (iblk m c 1 t) (iblk m c 2 t) (iblk m c 3 t)) (iblk m c 6 t)
        (k0_pay4 (grid0.coords t) (iblk m c 0 t) (iblk m c 1 t) (iblk m c 2 t) (iblk m c 3 t))
        (k0_pay5 (grid0.coords t) (iblk m c 0 t) (iblk m c 1 t) (iblk m c 2 t) (iblk m c 3 t))
        (k0_pay6 (grid0.coords t) (iblk m c 0 t) (iblk m c 1 t) (iblk m c 2 t) (iblk m c 3 t))
        (k0_pay7 (grid0.coords t) (iblk m c 0 t) (iblk m c 1 t) (iblk m c 2 t) (iblk m c 3 t))
        (iblk m c 7 t) (iblk m c 4 t) (iblk m c 5 t) (ix2 r k) = y0 m c (tok t r) k := by
  refine (pay8_at _ _ _ _ _ _ _ _ _ _ r (pay4_at _ _ _ _ _ r) (pay5_at _ _ _ _ _ r) (pay6_at _ _ _ _ _ r)
    (pay7_at _ _ _ _ _ r) k).trans ?_
  exact joined_congr (blk_sum m c t r) (blk_weight m c t) (blk_gate m c t r) (blk_conv m c t r) k

/-! The rows of the modulation block that a grid point reads. -/

theorem val_gate (c : Dev nD) (t : Fin cfg0.N) (r : Fin 512) (k : Fin 1024) :
    k0_pay9 (F := Ideal) (View.ld (Val := Elt Ideal) (e' := .f32) (iblk m c 9 t) r0_3) (ix2 0 k)
      = (m ((c : Thread nD τ).loc main_arg9) : S3x6x1024.Idx → EReal) (ix3 (InProj.request (tok t r)) 2 k) := by
  have hl : View.ld (Val := Elt Ideal) (e' := .f32) (iblk m c 9 t : S1x6x1024.Idx → EReal) r0_3 (ix3 0 0 k : S1x1x1024.Idx)
      = (m ((c : Thread nD τ).loc main_arg9) : S3x6x1024.Idx → EReal) (ix3 (InProj.request (tok t r)) 2 k) :=
    (ld_row _ 2 _ rfl _ k).trans (blk_mod m c t r 2 k)
  refine Eq.trans ?_ hl
  pointwise [k0_pay9]

theorem val_shift (c : Dev nD) (t : Fin cfg0.N) (r : Fin 512) (k : Fin 1024) :
    onBlocks m c t (k0_pay13 (F := Ideal)) (ix2 0 k)
      = (m ((c : Thread nD τ).loc main_arg9) : S3x6x1024.Idx → EReal) (ix3 (InProj.request (tok t r)) 3 k) := by
  have hl : View.ld (Val := Elt Ideal) (e' := .f32) (iblk m c 9 t : S1x6x1024.Idx → EReal) r0_4 (ix3 0 0 k : S1x1x1024.Idx)
      = (m ((c : Thread nD τ).loc main_arg9) : S3x6x1024.Idx → EReal) (ix3 (InProj.request (tok t r)) 3 k) :=
    (ld_row _ 3 _ rfl _ k).trans (blk_mod m c t r 3 k)
  refine Eq.trans ?_ hl
  pointwise [k0_pay13, k0_pay10]

theorem val_scale (c : Dev nD) (t : Fin cfg0.N) (r : Fin 512) (k : Fin 1024) :
    onBlocks m c t (k0_pay14 (F := Ideal)) (ix2 0 k)
      = (m ((c : Thread nD τ).loc main_arg9) : S3x6x1024.Idx → EReal) (ix3 (InProj.request (tok t r)) 4 k) := by
  have hl : View.ld (Val := Elt Ideal) (e' := .f32) (iblk m c 9 t : S1x6x1024.Idx → EReal) r0_5 (ix3 0 0 k : S1x1x1024.Idx)
      = (m ((c : Thread nD τ).loc main_arg9) : S3x6x1024.Idx → EReal) (ix3 (InProj.request (tok t r)) 4 k) :=
    (ld_row _ 4 _ rfl _ k).trans (blk_mod m c t r 4 k)
  refine Eq.trans ?_ hl
  pointwise [k0_pay14, k0_pay11]

/-- The hidden row that a grid point stores. -/
theorem val_h (c : Dev nD) (t : Fin cfg0.N) (r : Fin 512) (d : Fin 1024) :
    onBlocks m c t (k0_pay15 (F := Ideal)) (ix2 r d)
      = hid (y0 m c) (m ((c : Thread nD τ).loc main_arg8)) (m ((c : Thread nD τ).loc main_arg9))
          (m ((c : Thread nD τ).loc main_arg10)) (m ((c : Thread nD τ).loc main_arg11)) (m ((c : Thread nD τ).loc main_arg12))
          (tok t r) d := by
  unfold onBlocks k0_pay15
  simp (disch := decide) only [View.ld_unit_lit']
  exact row_h _ _ _ _ _ _ r _ _ _ _ _ _ (blk_h m c t r) (val_gate m c t r) (val_y m c t r) (blk_w m c t) (blk_gain m c t)
    (blk_bias m c t) d

/-- The experts' input row that a grid point stores. -/
theorem val_u (c : Dev nD) (t : Fin cfg0.N) (r : Fin 512) (d : Fin 1024) :
    k0_pay1 (F := Ideal) (onBlocks m c t (k0_pay13 (F := Ideal))) (onBlocks m c t (k0_pay14 (F := Ideal)))
        (onBlocks m c t (k0_pay15 (F := Ideal))) (ix2 r d)
      = inp (y0 m c) (m ((c : Thread nD τ).loc main_arg8)) (m ((c : Thread nD τ).loc main_arg9))
          (m ((c : Thread nD τ).loc main_arg10)) (m ((c : Thread nD τ).loc main_arg11)) (m ((c : Thread nD τ).loc main_arg12))
          (tok t r) d :=
  row_u _ _ _ r _ _ _ (val_h m c t r) (val_scale m c t r) (val_shift m c t r) d

/-- The affinities that a grid point stores. -/
theorem val_aff (c : Dev nD) (t : Fin cfg0.N) (r : Fin 512) (e : Fin 16) :
    k0_pay2 (F := Ideal) (onBlocks m c t (k0_pay13 (F := Ideal))) (onBlocks m c t (k0_pay14 (F := Ideal)))
        (onBlocks m c t (k0_pay15 (F := Ideal))) (iblk m c 13 t) (ix2 e r)
      = aff (y0 m c) (m ((c : Thread nD τ).loc main_arg8)) (m ((c : Thread nD τ).loc main_arg9))
          (m ((c : Thread nD τ).loc main_arg10)) (m ((c : Thread nD τ).loc main_arg11)) (m ((c : Thread nD τ).loc main_arg12))
          (m ((c : Thread nD τ).loc main_arg13)) e (tok t r) :=
  row_aff _ _ _ _ r _ _ (val_u m c t r) (blk_router m c t) e

/-! ## The result arrays after the run -/

/-- The hidden states. -/
theorem final_h (c : Dev nD) : (dats m 0 c).arrAt 14 cfg0.N = fun i : S16384x1024.Idx =>
    hid (y0 m c) (m ((c : Thread nD τ).loc main_arg8)) (m ((c : Thread nD τ).loc main_arg9))
      (m ((c : Thread nD τ).loc main_arg10)) (m ((c : Thread nD τ).loc main_arg11)) (m ((c : Thread nD τ).loc main_arg12))
      (i 0) (i 1) := by
  refine (dats m 0 c).arrAt_eq_of_covers 14 _ (by decide +kernel) fun t hf y => ?_
  have ht := coords_lt t
  obtain ⟨r, d, rfl⟩ : ∃ (r : Fin 512) (d : Fin 1024), y = ix2 r d := ⟨y 0, y 1, eq_ix2 y⟩
  have htk := tok_val t r
  have hi : (((cfg0.win 14).blk t).view.emb (ix2 r d) : S16384x1024.Idx) = ix2 (tok t r) d := by
    blk_ext [idx t]
  rw [hi]
  blk_simp
  rw [after0_14]
  frame_out
  exact val_h m c t r d

/-- The experts' inputs. -/
theorem final_u (c : Dev nD) : (dats m 0 c).arrAt 15 cfg0.N = fun i : S16384x1024.Idx =>
    inp (y0 m c) (m ((c : Thread nD τ).loc main_arg8)) (m ((c : Thread nD τ).loc main_arg9))
      (m ((c : Thread nD τ).loc main_arg10)) (m ((c : Thread nD τ).loc main_arg11)) (m ((c : Thread nD τ).loc main_arg12))
      (i 0) (i 1) := by
  refine (dats m 0 c).arrAt_eq_of_covers 15 _ (by decide +kernel) fun t hf y => ?_
  have ht := coords_lt t
  obtain ⟨r, d, rfl⟩ : ∃ (r : Fin 512) (d : Fin 1024), y = ix2 r d := ⟨y 0, y 1, eq_ix2 y⟩
  have htk := tok_val t r
  have hi : (((cfg0.win 15).blk t).view.emb (ix2 r d) : S16384x1024.Idx) = ix2 (tok t r) d := by
    blk_ext [idx t]
  rw [hi]
  blk_simp
  rw [after0_15]
  frame_out
  exact val_u m c t r d

/-- The affinities, one row for each expert. -/
theorem final_aff (c : Dev nD) : (dats m 0 c).arrAt 16 cfg0.N = fun i : S16x16384.Idx =>
    aff (y0 m c) (m ((c : Thread nD τ).loc main_arg8)) (m ((c : Thread nD τ).loc main_arg9))
      (m ((c : Thread nD τ).loc main_arg10)) (m ((c : Thread nD τ).loc main_arg11)) (m ((c : Thread nD τ).loc main_arg12))
      (m ((c : Thread nD τ).loc main_arg13)) (i 0) (i 1) := by
  refine (dats m 0 c).arrAt_eq_of_covers 16 _ (by decide +kernel) fun t hf y => ?_
  have ht := coords_lt t
  obtain ⟨e, r, rfl⟩ : ∃ (e : Fin 16) (r : Fin 512), y = ix2 e r := ⟨y 0, y 1, eq_ix2 y⟩
  have htk := tok_val t r
  have hi : (((cfg0.win 16).blk t).view.emb (ix2 e r) : S16x16384.Idx) = ix2 e (tok t r) := by
    blk_ext [idx t]
  rw [hi]
  blk_simp
  rw [after0_16]
  frame_out
  exact val_aff m c t r e

end Cert.PostEven

end
-- ==== Proof.PostEven.lean ====
/-
  The post-mixer claim of an even layer: the reference's three results are the kernel's functions of the arguments.

  The reference treats the context's and the latents' tokens as two groups, each laid out by sequence and position. Every
  stage is read at one token: the summed scans, the scaled heads, the two halves of the mixer's row, the residual, its
  layer norm, the modulated row, and the softmax over the experts.
-/
module

public import proofs.«01_k».proof.Defs
public import proofs.«01_k».proof.Proof.PostEvenBlock
public import proofs.«01_k».proof.Proof.Gen.Reference5Ideal.Read

@[expose] public section

set_option maxRecDepth 16384

noncomputable section

namespace Cert.PostEven

open Idealize.ShloMosaic Idealize.ShloMosaic.TcCoe Idealize.SL.Sem Cert.Reference5Ideal Cert.Reference5Ideal.Read
open Cert.Post

variable (x0 x1 x2 x3 : S8192x512.Idx → EReal) (x4 x5 : S1x8192x512.Idx → EReal) (x6 : S16384x4096.Idx → EReal)
  (x7 : S512.Idx → EReal) (x8 : S16384x1024.Idx → EReal) (x9 : S3x6x1024.Idx → EReal) (x10 : S2x1024x1024.Idx → EReal)
  (x11 x12 : S1024.Idx → EReal) (x13 : S1024x16.Idx → EReal)

/-! ## The context -/

/-- The token at a sequence and a position of the context. -/
def tokC (b : Fin 32) (a : Fin 256) : Fin 16384 := ⟨b.val * 256 + a.val, by omega⟩

theorem ctx_sum (b : Fin 32) (a : Fin 256) (k : Fin 512) :
    val_main_v4 (F := Ideal) x0 x1 (ix3 b a k) = scanSum x0 x1 x2 x3 (tokC b a) k := by
  pointwise [val_main_v3, val_main_v4]
  unfold scanSum tokC
  rw [dif_pos (by dsimp only; omega)]

theorem ctx_head (b : Fin 32) (a : Fin 256) (h : Fin 4) (j : Fin 128) :
    val_main_v15 (F := Ideal) x0 x1 (ix4 b a h j)
      = scaled (fun j => val_main_v4 (F := Ideal) x0 x1 (ix3 b a ⟨h.val * 128 + j.val, by omega⟩)) j := by
  pointwise [val_main_v5, val_main_v6, val_main_cst, val_main_v7, val_main_v8, val_main_cst_0, val_main_v9, val_main_v10, val_main_cst_1, val_main_v11, val_main_v12, val_main_v13, val_main_v14, val_main_v15]
  rfl

theorem ctx_conv (b : Fin 32) (a : Fin 256) (k : Fin 512) :
    val_main_v26 (F := Ideal) x4 (ix3 b a k) = conv x4 x5 (tokC b a) k := by
  pointwise [val_main_v25, val_main_v26]
  unfold conv tokC
  rw [dif_pos (by dsimp only; omega)]

theorem ctx_left (b : Fin 32) (a : Fin 256) (k : Fin 512) :
    val_main_v24 (F := Ideal) x0 x1 x6 x7 (ix3 b a k)
      = heads (scanSum x0 x1 x2 x3 (tokC b a)) k * x7 (ix1 k) * silu (x6 (ix2 (tokC b a) ⟨2048 + k.val, by omega⟩)) := by
  pointwise [val_main_v16, val_main_v17, val_main_v18, val_main_v19, val_main_v20, val_main_v21, val_main_v22, val_main_call0_v0, val_main_call0_v1, val_main_call0_cst, val_main_call0_v2, val_main_call0_v3, val_main_call0_cst_0, val_main_call0_v4, val_main_call0_v5, val_main_v23, val_main_v24]
  rw [ctx_head]
  simp only [ctx_sum x0 x1 x2 x3]
  rfl

theorem ctx_y (b : Fin 32) (a : Fin 256) (k : Fin 1024) :
    val_main_v27 (F := Ideal) x0 x1 x4 x6 x7 (ix3 b a k) = mixer x0 x1 x2 x3 x4 x5 x6 x7 (tokC b a) k := by
  pointwise [val_main_v27]
  unfold mixer joined
  split
  · rw [ctx_left x0 x1 x2 x3]
  · rw [ctx_conv x4 x5]

theorem ctx_resid (b : Fin 32) (a : Fin 256) (d : Fin 1024) :
    val_main_v45 (F := Ideal) x0 x1 x4 x6 x7 x8 x9 x10 (ix3 b a d)
      = resid (fun k => x8 (ix2 (tokC b a) k)) (fun k => x9 (ix3 (InProj.request (tokC b a)) 2 k))
          (fun k => val_main_v27 (F := Ideal) x0 x1 x4 x6 x7 (ix3 b a k)) (fun k d => x10 (ix3 0 k d)) d := by
  pointwise [val_main_v0, val_main_v1, val_main_v2, val_main_v28, val_main_v29, val_main_v30, val_main_v31, val_main_v32, val_main_v35, val_main_cst_2, val_main_v39, val_main_v40, val_main_v41, val_main_v42, val_main_v43, val_main_v44, val_main_v45]
  refine congrArg₂ (fun u v : EReal => alpha * x8 _ + u * v) (ada_congr x9 ?_ ?_ d) rfl
  · unfold InProj.request tokC; dsimp only [Fin.coe_ofNat_eq_mod]; omega
  · dsimp only [Fin.coe_ofNat_eq_mod]; omega

theorem ctx_h (b : Fin 32) (a : Fin 256) (d : Fin 1024) :
    val_main_v69 (F := Ideal) x0 x1 x4 x6 x7 x8 x9 x10 x11 x12 (ix3 b a d)
      = layerNorm (fun k => val_main_v45 (F := Ideal) x0 x1 x4 x6 x7 x8 x9 x10 (ix3 b a k)) (fun k => x11 (ix1 k)) (fun k => x12 (ix1 k)) d := by
  pointwise [val_main_cst_3, val_main_v46, val_main_v47, val_main_cst_4, val_main_v48, val_main_v49, val_main_v50, val_main_v51, val_main_v52, val_main_cst_5, val_main_v53, val_main_v54, val_main_cst_6, val_main_v55, val_main_v56, val_main_v57, val_main_v58, val_main_cst_7, val_main_v59, val_main_v60, val_main_v61, val_main_v62, val_main_v63, val_main_v64, val_main_v65, val_main_v66, val_main_v67, val_main_v68, val_main_v69]
  rfl

theorem ctx_u (b : Fin 32) (a : Fin 256) (d : Fin 1024) :
    val_main_v77 (F := Ideal) x0 x1 x4 x6 x7 x8 x9 x10 x11 x12 (ix3 b a d)
      = modulate (fun k => val_main_v69 (F := Ideal) x0 x1 x4 x6 x7 x8 x9 x10 x11 x12 (ix3 b a k))
          (fun k => x9 (ix3 (InProj.request (tokC b a)) 4 k)) (fun k => x9 (ix3 (InProj.request (tokC b a)) 3 k)) d := by
  pointwise [val_main_v0, val_main_v1, val_main_v2, val_main_v32, val_main_v36, val_main_v37, val_main_cst_8, val_main_v70, val_main_v71, val_main_v72, val_main_v73, val_main_v74, val_main_v75, val_main_v76, val_main_v77]
  refine congrArg₂ (fun u v : EReal => _ * (1 + u) + v) (ada_congr x9 ?_ ?_ d) (ada_congr x9 ?_ ?_ d)
  · unfold InProj.request tokC; dsimp only [Fin.coe_ofNat_eq_mod]; omega
  · dsimp only [Fin.coe_ofNat_eq_mod]; omega
  · unfold InProj.request tokC; dsimp only [Fin.coe_ofNat_eq_mod]; omega
  · dsimp only [Fin.coe_ofNat_eq_mod]; omega

theorem ctx_logit (b : Fin 32) (a : Fin 256) (e : Fin 16) :
    val_main_v79 (F := Ideal) x0 x1 x4 x6 x7 x8 x9 x10 x11 x12 x13 (ix3 b e a)
      = logit (fun e k => x13 (ix2 k e)) (fun k => val_main_v77 (F := Ideal) x0 x1 x4 x6 x7 x8 x9 x10 x11 x12 (ix3 b a k)) e := by
  pointwise [val_main_v78, val_main_v79]
  rfl

theorem ctx_top (b : Fin 32) (a : Fin 256) :
    val_main_v82 (F := Ideal) x0 x1 x4 x6 x7 x8 x9 x10 x11 x12 x13 (ix2 b a)
      = top (fun e => val_main_v79 (F := Ideal) x0 x1 x4 x6 x7 x8 x9 x10 x11 x12 x13 (ix3 b e a)) := by
  pointwise [val_main_cst_9, val_main_v80, val_main_cst_10, val_main_v81, val_main_v82]
  exact max_eq_right ((Finset.le_fold_max _).2 (Or.inl le_rfl))

theorem ctx_aff (b : Fin 32) (a : Fin 256) (e : Fin 16) :
    val_main_v90 (F := Ideal) x0 x1 x4 x6 x7 x8 x9 x10 x11 x12 x13 (ix3 b e a)
      = softmax (fun e => val_main_v79 (F := Ideal) x0 x1 x4 x6 x7 x8 x9 x10 x11 x12 x13 (ix3 b e a)) e := by
  pointwise [val_main_v83, val_main_v84, val_main_v85, val_main_v86, val_main_cst_11, val_main_v87, val_main_v88, val_main_v89, val_main_v90]
  rw [ctx_top]
  rfl

theorem ctx_hid (b : Fin 32) (a : Fin 256) (d : Fin 1024) :
    val_main_v69 (F := Ideal) x0 x1 x4 x6 x7 x8 x9 x10 x11 x12 (ix3 b a d)
      = hid (mixer x0 x1 x2 x3 x4 x5 x6 x7) x8 x9 x10 x11 x12 (tokC b a) d := by
  rw [ctx_h]
  simp only [ctx_resid, ctx_y x0 x1 x2 x3 x4 x5]
  rfl

theorem ctx_inp (b : Fin 32) (a : Fin 256) (d : Fin 1024) :
    val_main_v77 (F := Ideal) x0 x1 x4 x6 x7 x8 x9 x10 x11 x12 (ix3 b a d)
      = inp (mixer x0 x1 x2 x3 x4 x5 x6 x7) x8 x9 x10 x11 x12 (tokC b a) d := by
  rw [ctx_u]
  simp only [ctx_hid x0 x1 x2 x3 x4 x5]
  rfl

theorem ctx_affinity (b : Fin 32) (a : Fin 256) (e : Fin 16) :
    val_main_v90 (F := Ideal) x0 x1 x4 x6 x7 x8 x9 x10 x11 x12 x13 (ix3 b e a)
      = aff (mixer x0 x1 x2 x3 x4 x5 x6 x7) x8 x9 x10 x11 x12 x13 e (tokC b a) := by
  rw [ctx_aff]
  simp only [ctx_logit, ctx_inp x0 x1 x2 x3 x4 x5]
  rfl

/-! ## The latents -/

/-- The token at a sequence and a position of the latents. -/
def tokL (b : Fin 2) (a : Fin 4096) : Fin 16384 := ⟨8192 + (b.val * 4096 + a.val), by omega⟩

theorem lat_sum (b : Fin 2) (a : Fin 4096) (k : Fin 512) :
    val_main_v97 (F := Ideal) x2 x3 (ix3 b a k) = scanSum x0 x1 x2 x3 (tokL b a) k := by
  pointwise [val_main_v96, val_main_v97]
  unfold scanSum tokL
  rw [dif_neg (by dsimp only; omega)]
  have e : (⟨8192 + (b.val * 4096 + a.val) - 8192, by omega⟩ : Fin 8192) = ⟨b.val * 4096 + a.val, by omega⟩ :=
    Fin.ext (by dsimp only; omega)
  rw [e]

theorem lat_head (b : Fin 2) (a : Fin 4096) (h : Fin 4) (j : Fin 128) :
    val_main_v108 (F := Ideal) x2 x3 (ix4 b a h j)
      = scaled (fun j => val_main_v97 (F := Ideal) x2 x3 (ix3 b a ⟨h.val * 128 + j.val, by omega⟩)) j := by
  pointwise [val_main_v98, val_main_v99, val_main_cst_12, val_main_v100, val_main_v101, val_main_cst_13, val_main_v102, val_main_v103, val_main_cst_14, val_main_v104, val_main_v105, val_main_v106, val_main_v107, val_main_v108]
  rfl

theorem lat_conv (b : Fin 2) (a : Fin 4096) (k : Fin 512) :
    val_main_v119 (F := Ideal) x5 (ix3 b a k) = conv x4 x5 (tokL b a) k := by
  pointwise [val_main_v118, val_main_v119]
  unfold conv tokL
  rw [dif_neg (by dsimp only; omega)]
  have e : (⟨8192 + (b.val * 4096 + a.val) - 8192, by omega⟩ : Fin 8192) = ⟨b.val * 4096 + a.val, by omega⟩ :=
    Fin.ext (by dsimp only; omega)
  rw [e]

theorem lat_left (b : Fin 2) (a : Fin 4096) (k : Fin 512) :
    val_main_v117 (F := Ideal) x2 x3 x6 x7 (ix3 b a k)
      = heads (scanSum x0 x1 x2 x3 (tokL b a)) k * x7 (ix1 k) * silu (x6 (ix2 (tokL b a) ⟨2048 + k.val, by omega⟩)) := by
  pointwise [val_main_v109, val_main_v110, val_main_v111, val_main_v112, val_main_v113, val_main_v114, val_main_v115, val_main_call1_v0, val_main_call1_v1, val_main_call1_cst, val_main_call1_v2, val_main_call1_v3, val_main_call1_cst_0, val_main_call1_v4, val_main_call1_v5, val_main_v116, val_main_v117]
  rw [lat_head]
  simp only [lat_sum x0 x1 x2 x3]
  rfl

theorem lat_y (b : Fin 2) (a : Fin 4096) (k : Fin 1024) :
    val_main_v120 (F := Ideal) x2 x3 x5 x6 x7 (ix3 b a k) = mixer x0 x1 x2 x3 x4 x5 x6 x7 (tokL b a) k := by
  pointwise [val_main_v120]
  unfold mixer joined
  split
  · rw [lat_left x0 x1 x2 x3]
  · rw [lat_conv x4 x5]

theorem lat_resid (b : Fin 2) (a : Fin 4096) (d : Fin 1024) :
    val_main_v137 (F := Ideal) x2 x3 x5 x6 x7 x8 x9 x10 (ix3 b a d)
      = resid (fun k => x8 (ix2 (tokL b a) k)) (fun k => x9 (ix3 (InProj.request (tokL b a)) 2 k))
          (fun k => val_main_v120 (F := Ideal) x2 x3 x5 x6 x7 (ix3 b a k)) (fun k d => x10 (ix3 0 k d)) d := by
  pointwise [val_main_v0, val_main_v95, val_main_v121, val_main_v122, val_main_v123, val_main_v124, val_main_v125, val_main_v128, val_main_cst_15, val_main_v132, val_main_v133, val_main_v134, val_main_v135, val_main_v136, val_main_v137]
  refine congrArg₂ (fun u v : EReal => alpha * x8 _ + u * v) (ada_congr x9 ?_ ?_ d) rfl
  · unfold InProj.request tokL; dsimp only [Fin.coe_ofNat_eq_mod]; omega
  · dsimp only [Fin.coe_ofNat_eq_mod]; omega

theorem lat_h (b : Fin 2) (a : Fin 4096) (d : Fin 1024) :
    val_main_v161 (F := Ideal) x2 x3 x5 x6 x7 x8 x9 x10 x11 x12 (ix3 b a d)
      = layerNorm (fun k => val_main_v137 (F := Ideal) x2 x3 x5 x6 x7 x8 x9 x10 (ix3 b a k)) (fun k => x11 (ix1 k)) (fun k => x12 (ix1 k)) d := by
  pointwise [val_main_cst_16, val_main_v138, val_main_v139, val_main_cst_17, val_main_v140, val_main_v141, val_main_v142, val_main_v143, val_main_v144, val_main_cst_18, val_main_v145, val_main_v146, val_main_cst_19, val_main_v147, val_main_v148, val_main_v149, val_main_v150, val_main_cst_20, val_main_v151, val_main_v152, val_main_v153, val_main_v154, val_main_v155, val_main_v156, val_main_v157, val_main_v158, val_main_v159, val_main_v160, val_main_v161]
  rfl

theorem lat_u (b : Fin 2) (a : Fin 4096) (d : Fin 1024) :
    val_main_v167 (F := Ideal) x2 x3 x5 x6 x7 x8 x9 x10 x11 x12 (ix3 b a d)
      = modulate (fun k => val_main_v161 (F := Ideal) x2 x3 x5 x6 x7 x8 x9 x10 x11 x12 (ix3 b a k))
          (fun k => x9 (ix3 (InProj.request (tokL b a)) 4 k)) (fun k => x9 (ix3 (InProj.request (tokL b a)) 3 k)) d := by
  pointwise [val_main_v0, val_main_v95, val_main_v125, val_main_v129, val_main_v130, val_main_cst_21, val_main_v162, val_main_v163, val_main_v164, val_main_v165, val_main_v166, val_main_v167]
  refine congrArg₂ (fun u v : EReal => _ * (1 + u) + v) (ada_congr x9 ?_ ?_ d) (ada_congr x9 ?_ ?_ d)
  · unfold InProj.request tokL; dsimp only [Fin.coe_ofNat_eq_mod]; omega
  · dsimp only [Fin.coe_ofNat_eq_mod]; omega
  · unfold InProj.request tokL; dsimp only [Fin.coe_ofNat_eq_mod]; omega
  · dsimp only [Fin.coe_ofNat_eq_mod]; omega

theorem lat_logit (b : Fin 2) (a : Fin 4096) (e : Fin 16) :
    val_main_v169 (F := Ideal) x2 x3 x5 x6 x7 x8 x9 x10 x11 x12 x13 (ix3 b e a)
      = logit (fun e k => x13 (ix2 k e)) (fun k => val_main_v167 (F := Ideal) x2 x3 x5 x6 x7 x8 x9 x10 x11 x12 (ix3 b a k)) e := by
  pointwise [val_main_v168, val_main_v169]
  rfl

theorem lat_top (b : Fin 2) (a : Fin 4096) :
    val_main_v172 (F := Ideal) x2 x3 x5 x6 x7 x8 x9 x10 x11 x12 x13 (ix2 b a)
      = top (fun e => val_main_v169 (F := Ideal) x2 x3 x5 x6 x7 x8 x9 x10 x11 x12 x13 (ix3 b e a)) := by
  pointwise [val_main_cst_22, val_main_v170, val_main_cst_23, val_main_v171, val_main_v172]
  exact max_eq_right ((Finset.le_fold_max _).2 (Or.inl le_rfl))

theorem lat_aff (b : Fin 2) (a : Fin 4096) (e : Fin 16) :
    val_main_v180 (F := Ideal) x2 x3 x5 x6 x7 x8 x9 x10 x11 x12 x13 (ix3 b e a)
      = softmax (fun e => val_main_v169 (F := Ideal) x2 x3 x5 x6 x7 x8 x9 x10 x11 x12 x13 (ix3 b e a)) e := by
  pointwise [val_main_v173, val_main_v174, val_main_v175, val_main_v176, val_main_cst_24, val_main_v177, val_main_v178, val_main_v179, val_main_v180]
  rw [lat_top]
  rfl

theorem lat_hid (b : Fin 2) (a : Fin 4096) (d : Fin 1024) :
    val_main_v161 (F := Ideal) x2 x3 x5 x6 x7 x8 x9 x10 x11 x12 (ix3 b a d)
      = hid (mixer x0 x1 x2 x3 x4 x5 x6 x7) x8 x9 x10 x11 x12 (tokL b a) d := by
  rw [lat_h]
  simp only [lat_resid, lat_y x0 x1 x2 x3 x4 x5]
  rfl

theorem lat_inp (b : Fin 2) (a : Fin 4096) (d : Fin 1024) :
    val_main_v167 (F := Ideal) x2 x3 x5 x6 x7 x8 x9 x10 x11 x12 (ix3 b a d)
      = inp (mixer x0 x1 x2 x3 x4 x5 x6 x7) x8 x9 x10 x11 x12 (tokL b a) d := by
  rw [lat_u]
  simp only [lat_hid x0 x1 x2 x3 x4 x5]
  rfl

theorem lat_affinity (b : Fin 2) (a : Fin 4096) (e : Fin 16) :
    val_main_v180 (F := Ideal) x2 x3 x5 x6 x7 x8 x9 x10 x11 x12 x13 (ix3 b e a)
      = aff (mixer x0 x1 x2 x3 x4 x5 x6 x7) x8 x9 x10 x11 x12 x13 e (tokL b a) := by
  rw [lat_aff]
  simp only [lat_logit, lat_inp x0 x1 x2 x3 x4 x5]
  rfl

/-! ## The three results -/

/-- The first result is the hidden states. -/
theorem reference_h : (val_main_v185 (F := Ideal) x0 x1 x2 x3 x4 x5 x6 x7 x8 x9 x10 x11 x12 : S16384x1024.Idx → EReal)
    = fun i => hid (mixer x0 x1 x2 x3 x4 x5 x6 x7) x8 x9 x10 x11 x12 (i 0) (i 1) := by
  funext i
  obtain ⟨r, d, rfl⟩ : ∃ (r : Fin 16384) (d : Fin 1024), i = ix2 r d := ⟨i 0, i 1, eq_ix2 i⟩
  pointwise [val_main_v185, val_main_v91, val_main_v181]
  split
  · rw [ctx_hid x0 x1 x2 x3 x4 x5]
    exact congrArg (hid (mixer x0 x1 x2 x3 x4 x5 x6 x7) x8 x9 x10 x11 x12 · d) (Fin.ext (by unfold tokC; dsimp only; omega))
  · rw [lat_hid x0 x1 x2 x3 x4 x5]
    exact congrArg (hid (mixer x0 x1 x2 x3 x4 x5 x6 x7) x8 x9 x10 x11 x12 · d) (Fin.ext (by unfold tokL; dsimp only; omega))

/-- The second result is the experts' inputs. -/
theorem reference_u : (val_main_v187 (F := Ideal) x0 x1 x2 x3 x4 x5 x6 x7 x8 x9 x10 x11 x12 : S16384x1024.Idx → EReal)
    = fun i => inp (mixer x0 x1 x2 x3 x4 x5 x6 x7) x8 x9 x10 x11 x12 (i 0) (i 1) := by
  funext i
  obtain ⟨r, d, rfl⟩ : ∃ (r : Fin 16384) (d : Fin 1024), i = ix2 r d := ⟨i 0, i 1, eq_ix2 i⟩
  pointwise [val_main_v187, val_main_v186, val_main_v92, val_main_v182]
  split
  · rw [ctx_inp x0 x1 x2 x3 x4 x5]
    exact congrArg (inp (mixer x0 x1 x2 x3 x4 x5 x6 x7) x8 x9 x10 x11 x12 · d) (Fin.ext (by unfold tokC; dsimp only; omega))
  · rw [lat_inp x0 x1 x2 x3 x4 x5]
    exact congrArg (inp (mixer x0 x1 x2 x3 x4 x5 x6 x7) x8 x9 x10 x11 x12 · d) (Fin.ext (by unfold tokL; dsimp only; omega))

/-- The context's affinities, the sequences side by side. -/
theorem ctx_flat (e : Fin 16) (s : Fin 8192) :
    val_main_v94 (F := Ideal) x0 x1 x4 x6 x7 x8 x9 x10 x11 x12 x13 (ix2 e s)
      = val_main_v90 (F := Ideal) x0 x1 x4 x6 x7 x8 x9 x10 x11 x12 x13
          (ix3 ⟨s.val / 256, by omega⟩ e ⟨s.val % 256, by omega⟩) := by
  pointwise [val_main_v93, val_main_v94]

/-- The latents' affinities, the sequences side by side. -/
theorem lat_flat (e : Fin 16) (s : Fin 8192) :
    val_main_v184 (F := Ideal) x2 x3 x5 x6 x7 x8 x9 x10 x11 x12 x13 (ix2 e s)
      = val_main_v180 (F := Ideal) x2 x3 x5 x6 x7 x8 x9 x10 x11 x12 x13
          (ix3 ⟨s.val / 4096, by omega⟩ e ⟨s.val % 4096, by omega⟩) := by
  pointwise [val_main_v183, val_main_v184]

/-- The third result is the affinities. -/
theorem reference_aff : (val_main_v188 (F := Ideal) x0 x1 x2 x3 x4 x5 x6 x7 x8 x9 x10 x11 x12 x13 : S16x16384.Idx → EReal)
    = fun i => aff (mixer x0 x1 x2 x3 x4 x5 x6 x7) x8 x9 x10 x11 x12 x13 (i 0) (i 1) := by
  funext i
  obtain ⟨e, r, rfl⟩ : ∃ (e : Fin 16) (r : Fin 16384), i = ix2 e r := ⟨i 0, i 1, eq_ix2 i⟩
  pointwise [val_main_v188]
  split
  · rw [ctx_flat, ctx_affinity x0 x1 x2 x3 x4 x5]
    exact congrArg (aff (mixer x0 x1 x2 x3 x4 x5 x6 x7) x8 x9 x10 x11 x12 x13 e) (Fin.ext (by unfold tokC; dsimp only; omega))
  · rw [lat_flat, lat_affinity x0 x1 x2 x3 x4 x5]
    exact congrArg (aff (mixer x0 x1 x2 x3 x4 x5 x6 x7) x8 x9 x10 x11 x12 x13 e) (Fin.ext (by unfold tokL; dsimp only; omega))

section
variable {x0 x1 x2 x3 x4 x5 x6 x7 x8 x9 x10 x11 x12 x13}
variable {y0 y1 y2 y3 : S8192x512.Idx → EReal} {y4 y5 : S1x8192x512.Idx → EReal} {y6 : S16384x4096.Idx → EReal}
  {y7 : S512.Idx → EReal} {y8 : S16384x1024.Idx → EReal} {y9 : S3x6x1024.Idx → EReal} {y10 : S2x1024x1024.Idx → EReal}
  {y11 y12 : S1024.Idx → EReal} {y13 : S1024x16.Idx → EReal}
  (e0 : x0 = y0) (e1 : x1 = y1) (e2 : x2 = y2) (e3 : x3 = y3) (e4 : x4 = y4) (e5 : x5 = y5) (e6 : x6 = y6)
  (e7 : x7 = y7) (e8 : x8 = y8) (e9 : x9 = y9) (e10 : x10 = y10) (e11 : x11 = y11) (e12 : x12 = y12) (e13 : x13 = y13)
include e0 e1 e2 e3 e4 e5 e6 e7 e8 e9 e10 e11 e12

/-- The three results for arguments that equal the kernel's. -/
theorem equal_h : (val_main_v185 (F := Ideal) x0 x1 x2 x3 x4 x5 x6 x7 x8 x9 x10 x11 x12 : S16384x1024.Idx → EReal)
    = fun i => hid (mixer y0 y1 y2 y3 y4 y5 y6 y7) y8 y9 y10 y11 y12 (i 0) (i 1) := by
  subst e0 e1 e2 e3 e4 e5 e6 e7 e8 e9 e10 e11 e12
  exact reference_h _ _ _ _ _ _ _ _ _ _ _ _ _

@[inherit_doc equal_h] theorem equal_u : (val_main_v187 (F := Ideal) x0 x1 x2 x3 x4 x5 x6 x7 x8 x9 x10 x11 x12 : S16384x1024.Idx → EReal)
    = fun i => inp (mixer y0 y1 y2 y3 y4 y5 y6 y7) y8 y9 y10 y11 y12 (i 0) (i 1) := by
  subst e0 e1 e2 e3 e4 e5 e6 e7 e8 e9 e10 e11 e12
  exact reference_u _ _ _ _ _ _ _ _ _ _ _ _ _

include e13 in
@[inherit_doc equal_h] theorem equal_aff : (val_main_v188 (F := Ideal) x0 x1 x2 x3 x4 x5 x6 x7 x8 x9 x10 x11 x12 x13 : S16x16384.Idx → EReal)
    = fun i => aff (mixer y0 y1 y2 y3 y4 y5 y6 y7) y8 y9 y10 y11 y12 y13 (i 0) (i 1) := by
  subst e0 e1 e2 e3 e4 e5 e6 e7 e8 e9 e10 e11 e12 e13
  exact reference_aff _ _ _ _ _ _ _ _ _ _ _ _ _ _

end

/-- The post-mixer kernel's three result arrays equal the reference's, at the extended reals. -/
theorem algebraic : Cert.algebraic_Kernel5Ideal_Reference5Ideal := by
  intro m ρ m' ρ' _ hagree
  refine ⟨fun c => _, fun c => _, fun c => _, (θ_run Cert.Kernel5Ideal.defs _ _).mono (fun _ h c =>
    ⟨((h c).1).trans (final_h m c), ((h c).2.1).trans (final_u m c), ((h c).2.2.1).trans (final_aff m c), (h c).2.2.2⟩)
    (Cert.Kernel5Ideal.Value.run_blocks (F := Ideal) m ρ), ?_⟩
  refine (θ_run Cert.Reference5Ideal.defs _ _).mono (fun _ h c =>
    ⟨(h c).1.trans ?_, (h c).2.1.trans ?_, (h c).2.2.1.trans ?_, (h c).2.2.2⟩)
    (Cert.Reference5Ideal.Value.run (F := Ideal) m' ρ')
  all_goals obtain ⟨e0, e1, e2, e3, e4, e5, e6, e7, e8, e9, e10, e11, e12, e13⟩ := hagree c
  · exact (val_main_v185_eq _).trans (equal_h e0 e1 e2 e3 e4 e5 e6 e7 e8 e9 e10 e11 e12)
  · exact (val_main_v187_eq _).trans (equal_u e0 e1 e2 e3 e4 e5 e6 e7 e8 e9 e10 e11 e12)
  · exact (val_main_v188_eq _).trans (equal_aff e0 e1 e2 e3 e4 e5 e6 e7 e8 e9 e10 e11 e12 e13)

end Cert.PostEven

end
-- ==== Proof.CombineBlock.lean ====
/-
  The combining kernel of the experts' outputs: what its result array holds.

  A grid point takes 512 token rows. For each token it sums, over the experts, the token's gate times the row of the
  slot in which the expert keeps the token. The first 16 points take the context's rows. They repeat each expert's slot
  number and gate over the 32 slots of a group by a product with a matrix of zeros and ones, and multiply the gates in
  parts. The last 16 points take the latents' rows, 512 slots for each expert. The weighted residual and the last layer
  norm follow.
-/
module

public import proofs.«01_k».proof.Proof.Gen.Kernel6Ideal.Value
public import proofs.«01_k».proof.Proof.Post
public import Idealize.ShloMosaic.Lib.Pipeline.ValueKit
public import Idealize.ShloMosaic.Lib.Pointwise
public import Idealize.ShloMosaic.Lib.StableHlo.ReadAt

@[expose] public section

set_option maxRecDepth 16384

noncomputable section

namespace Cert.Combine

open Cert.Kernel6Ideal Cert.Kernel6Ideal.Gen Idealize.ShloMosaic Idealize.ShloMosaic.TcCoe Idealize.SL.Sem
open Idealize.ShloMosaic.Pipeline (Dat)
open Cert.Post

/-- One expert's part of a token's output: the gate `g` times the row of the slot `p`, as a sum over the slots. -/
def share {n : ℕ} (p : BitVec 32) (g : EReal) (y : Fin n → EReal) : EReal :=
  ∑ s : Fin n, (if p = BitVec.ofNat 32 s.val then g else 0) * y s

/-- The experts' outputs of a token, summed. A context token reads the 32 slots of its group of 256 tokens, a latent
    token the 512 slots of its request. -/
def mixed (pos : S16384x16.Idx → BitVec 32) (gate : S16384x16.Idx → EReal) (ys : S16x2048x1024.Idx → EReal)
    (t : Fin 16384) (d : Fin 1024) : EReal :=
  if h : t.val < 8192 then
    ∑ e : Fin 16, share (pos (ix2 t e)) (gate (ix2 t e)) fun s : Fin 32 => ys (ix3 e ⟨t.val / 256 * 32 + s.val, by omega⟩ d)
  else
    ∑ e : Fin 16, share (pos (ix2 t e)) (gate (ix2 t e)) fun s : Fin 512 =>
      ys (ix3 e ⟨1024 + (t.val - 8192) / 4096 * 512 + s.val, by omega⟩ d)

/-- The layer's output row of a token. -/
def outRow (pos : S16384x16.Idx → BitVec 32) (gate : S16384x16.Idx → EReal) (ys : S16x2048x1024.Idx → EReal)
    (h : S16384x1024.Idx → EReal) (ada : S3x6x1024.Idx → EReal) (g b : S1024.Idx → EReal) (t : Fin 16384) (d : Fin 1024) : EReal :=
  layerNorm (fun k => alpha * h (ix2 t k) + ada (ix3 (InProj.request t) 5 k) * mixed pos gate ys t k)
    (fun k => g (ix1 k)) (fun k => b (ix1 k)) d

/-- All gates are real. -/
def Real (gate : S16384x16.Idx → EReal) : Prop := ∀ i, ∃ x : ℝ, gate i = x

theorem layerNorm_congr {z z' g g' b b' : Fin 1024 → EReal} (hz : ∀ k, z k = z' k) (hg : ∀ k, g k = g' k)
    (hb : ∀ k, b k = b' k) (d : Fin 1024) : layerNorm z g b d = layerNorm z' g' b' d := by
  rw [funext hz, funext hg, funext hb]

/-! ## The two ways to take a slot's row -/

/-- A choice by the equality of two words. -/
theorem pick_eq (p q : BitVec 32) (a b : EReal) : Scalar.select (IntOp.cmpi .eq p q) a b = if p = q then a else b := by
  by_cases h : p = q
  · subst h
    simp [IntOp.cmpi, Scalar.select]
  · have hb : (p == q) = false := beq_eq_false_iff_ne.mpr h
    simp [IntOp.cmpi, Scalar.select, hb, h]

/-- Words of numbers below 512 differ when the numbers do. -/
theorem word_inj {a b : ℕ} (ha : a < 512) (hb : b < 512) (h : BitVec.ofNat 32 a = BitVec.ofNat 32 b) : a = b := by
  have := congrArg BitVec.toNat h
  simp only [BitVec.toNat_ofNat] at this
  omega

/-- The gate times the picked row. -/
def one (p : BitVec 32) (g : EReal) (y : Fin 512 → EReal) : EReal :=
  g * ∑ x : Fin 512, Scalar.select (IntOp.cmpi .eq p (BitVec.ofNat 32 x.val)) (y x) 0

/-- At most one slot is the token's, so the gate may be taken into the sum. -/
theorem one_eq (p : BitVec 32) (g : EReal) (y : Fin 512 → EReal) : one p g y = share p g y := by
  unfold one share
  simp only [pick_eq]
  by_cases h : ∃ s : Fin 512, p = BitVec.ofNat 32 s.val
  · obtain ⟨s, rfl⟩ := h
    have hne : ∀ x : Fin 512, x ≠ s → ¬ BitVec.ofNat 32 s.val = BitVec.ofNat 32 x.val :=
      fun x hx e => hx (Fin.ext (word_inj s.isLt x.isLt e).symm)
    rw [Finset.sum_eq_single s (fun x _ hx => if_neg (hne x hx)) (fun hs => absurd (Finset.mem_univ s) hs),
      Finset.sum_eq_single s (fun x _ hx => by rw [if_neg (hne x hx), zero_mul]) (fun hs => absurd (Finset.mem_univ s) hs),
      if_pos rfl, if_pos rfl]
  · have hne : ∀ x : Fin 512, ¬ p = BitVec.ofNat 32 x.val := fun x e => h ⟨x, e⟩
    simp only [if_neg (hne _), zero_mul, Finset.sum_const_zero, mul_zero]

/-- A real number less itself. -/
theorem sub_real {x : EReal} (h : ∃ r : ℝ, x = r) : x - x = 0 := by
  obtain ⟨r, rfl⟩ := h
  rw [← EReal.coe_sub, sub_self, EReal.coe_zero]

/-- A product with a row of zeros and a one. -/
theorem sum_unit (u : Fin 16 → EReal) (x : Fin 512) :
    ∑ e : Fin 16, u e * (if x.val / 32 = e.val then 1 else 0) = u ⟨x.val / 32, by omega⟩ := by
  rw [Finset.sum_eq_single (⟨x.val / 32, by omega⟩ : Fin 16)]
  · rw [if_pos rfl, mul_one]
  · intro e _ he
    rw [if_neg fun h => he (Fin.ext h.symm), mul_zero]
  · intro h
    exact absurd (Finset.mem_univ _) h

/-- The gate of a lane: the three parts of its expert's gate, repeated and added, where the lane is the token's slot. -/
def lane (V : Fin 16 → Fin 512 → EReal) (S : Fin 512 → EReal) (p : Fin 16 → EReal) (g : Fin 16 → EReal) (x : Fin 512) : EReal :=
  if ∑ e, p e * V e x = S x then
    ∑ e, g e * V e x + ∑ e, (g e - g e) * V e x + ∑ e, (g e - g e - (g e - g e)) * V e x
  else 0

/-- The product of the lanes' gates, in two parts, with the slots' rows. -/
def lanes (V : Fin 16 → Fin 512 → EReal) (S : Fin 512 → EReal) (p : Fin 16 → EReal) (g : Fin 16 → EReal)
    (y : Fin 512 → EReal) : EReal :=
  ∑ x, lane V S p g x * y x + ∑ x, (lane V S p g x - lane V S p g x) * y x

/-- Real gates lose nothing in parts: the lanes are the experts' slots. -/
theorem lanes_eq (P : Fin 16 → BitVec 32) (g : Fin 16 → EReal) (hg : ∀ e, ∃ r : ℝ, g e = r) (y : Fin 16 → Fin 32 → EReal) :
    lanes (fun e x => if x.val / 32 = e.val then 1 else 0) (fun x => (((BitVec.ofNat 32 (x.val % 32)).toInt : ℝ) : EReal))
        (fun e => (((P e).toInt : ℝ) : EReal)) g (fun x => y ⟨x.val / 32, by omega⟩ ⟨x.val % 32, by omega⟩)
      = ∑ e, share (P e) (g e) (y e) := by
  have hl : ∀ x : Fin 512, lane (fun e x => if x.val / 32 = e.val then 1 else 0)
      (fun x => (((BitVec.ofNat 32 (x.val % 32)).toInt : ℝ) : EReal)) (fun e => (((P e).toInt : ℝ) : EReal)) g x
        = if P ⟨x.val / 32, by omega⟩ = BitVec.ofNat 32 (x.val % 32) then g ⟨x.val / 32, by omega⟩ else 0 := by
    intro x
    unfold lane
    simp only [sub_real (hg _), sub_zero, sum_unit, add_zero, EReal.coe_eq_coe_iff, Int.cast_inj, BitVec.toInt_inj]
  have hr : ∀ x : Fin 512, lane (fun e x => if x.val / 32 = e.val then 1 else 0)
      (fun x => (((BitVec.ofNat 32 (x.val % 32)).toInt : ℝ) : EReal)) (fun e => (((P e).toInt : ℝ) : EReal)) g x
      - lane (fun e x => if x.val / 32 = e.val then 1 else 0)
      (fun x => (((BitVec.ofNat 32 (x.val % 32)).toInt : ℝ) : EReal)) (fun e => (((P e).toInt : ℝ) : EReal)) g x = 0 := by
    intro x
    refine sub_real ?_
    rw [hl]
    split
    · exact hg _
    · exact ⟨0, EReal.coe_zero.symm⟩
  unfold lanes share
  simp only [hr, zero_mul, Finset.sum_const_zero, add_zero]
  simp only [hl]
  rw [← Fintype.sum_prod_type' (f := fun (e : Fin 16) (s : Fin 32) => (if P e = BitVec.ofNat 32 s.val then g e else 0) * y e s),
    ← Equiv.sum_comp (finProdFinEquiv : Fin 16 × Fin 32 ≃ Fin 512)]
  refine Fintype.sum_congr _ _ fun i => ?_
  obtain ⟨e, s⟩ := i
  have h1 : (⟨(finProdFinEquiv (e, s) : Fin 512).val / 32, by omega⟩ : Fin 16) = e :=
    Fin.ext (by simp only [finProdFinEquiv_apply_val]; omega)
  have h2 : (⟨(finProdFinEquiv (e, s) : Fin 512).val % 32, by omega⟩ : Fin 32) = s :=
    Fin.ext (by simp only [finProdFinEquiv_apply_val]; omega)
  have h3 : (finProdFinEquiv (e, s) : Fin 512).val % 32 = s.val := congrArg Fin.val h2
  rw [h1, h2, h3]

/-! ## The context's payloads at an index -/

/-- The word of a lane's expert. -/
theorem lane_div : ∀ j : Fin 512,
    (Scalar.select
          (IntOp.andi
            (IntOp.cmpi CmpIPredicate.ne
              (IntOp.subi (BitVec.setWidth 32 (IntOp.cmpi CmpIPredicate.sgt (BitVec.ofNat 32 j.val) 0#32))
                (BitVec.setWidth 32 (IntOp.cmpi CmpIPredicate.slt (BitVec.ofNat 32 j.val) 0#32)))
              (Scalar.subi (Scalar.extui (Scalar.cmpi CmpIPredicate.sgt 32#32 0#32))
                (Scalar.extui (Scalar.cmpi CmpIPredicate.slt 32#32 0#32))))
            (IntOp.cmpi CmpIPredicate.ne (IntOp.remsi ArithUnit.vector (BitVec.ofNat 32 j.val) 32#32) 0#32))
          (IntOp.subi (IntOp.divsi ArithUnit.vector (BitVec.ofNat 32 j.val) 32#32) 1#32)
          (IntOp.divsi ArithUnit.vector (BitVec.ofNat 32 j.val) 32#32)) = BitVec.ofNat 32 (j.val / 32) := by
  decide +kernel

/-- The matrix that repeats an expert's number over its 32 lanes. -/
theorem pay3_at (e : Fin 16) (j : Fin 512) :
    k0_pay3 (F := Ideal) (ix2 e j) = if j.val / 32 = e.val then 1 else 0 := by
  pointwise [k0_pay3]
  rw [lane_div j, pick_eq]
  by_cases h : j.val / 32 = e.val
  · rw [if_pos (by rw [h]), if_pos h]
  · rw [if_neg fun hw => h (word_inj (by omega) (by omega) hw), if_neg h]

/-- The word of a lane's slot. -/
theorem lane_mod : ∀ j : Fin 512,
    (Scalar.select
        (IntOp.andi
          (IntOp.xori
            (IntOp.cmpi CmpIPredicate.slt
              (IntOp.remsi ArithUnit.vector (BitVec.ofNat 32 j.val)
                (Scalar.select (Scalar.cmpi CmpIPredicate.eq 32#32 0#32) 1#32 32#32))
              0#32)
            (Scalar.cmpi CmpIPredicate.slt (Scalar.select (Scalar.cmpi CmpIPredicate.eq 32#32 0#32) 1#32 32#32) 0#32))
          (IntOp.cmpi CmpIPredicate.ne
            (IntOp.remsi ArithUnit.vector (BitVec.ofNat 32 j.val)
              (Scalar.select (Scalar.cmpi CmpIPredicate.eq 32#32 0#32) 1#32 32#32))
            0#32))
        (IntOp.addi
          (IntOp.remsi ArithUnit.vector (BitVec.ofNat 32 j.val)
            (Scalar.select (Scalar.cmpi CmpIPredicate.eq 32#32 0#32) 1#32 32#32))
          (Scalar.select (Scalar.cmpi CmpIPredicate.eq 32#32 0#32) 1#32 32#32))
        (IntOp.remsi ArithUnit.vector (BitVec.ofNat 32 j.val)
          (Scalar.select (Scalar.cmpi CmpIPredicate.eq 32#32 0#32) 1#32 32#32))) = BitVec.ofNat 32 (j.val % 32) := by
  decide +kernel

/-- The slot of each lane, as a number. -/
theorem pay6_at (r : Fin 256) (j : Fin 512) :
    k0_pay6 (F := Ideal) (Scalar.select (Scalar.cmpi .eq 32#32 0#32) 1#32 32#32) k0_pay4 k0_pay5 (ix2 r j)
      = (((BitVec.ofNat 32 (j.val % 32)).toInt : ℝ) : EReal) := by
  pointwise [k0_pay6, k0_pay5, k0_pay4]
  rw [lane_mod j]
  rfl

theorem pay7_at (v36 : S16x512.Idx → EReal) (v55 : S256x16.Idx → BitVec 32) (v59 : S256x16.Idx → EReal)
    (v81 : S16x32x1024.Idx → EReal) (a : BitVec 32) (v41 : S256x512.Idx → BitVec 32) (v50 : S256x512.Idx → BitVec 1)
    (r : Fin 256) (d : Fin 1024) :
    k0_pay7 (F := Ideal) v36 a v41 v50 v55 v59 v81 (ix2 r d)
      = lanes (fun e x => v36 (ix2 e x)) (fun x => k0_pay6 (F := Ideal) a v41 v50 (ix2 r x))
          (fun e => (((v55 (ix2 r e)).toInt : ℝ) : EReal)) (fun e => v59 (ix2 r e))
          (fun x => v81 (ix3 ⟨x.val / 32, by omega⟩ ⟨x.val % 32, by omega⟩ d)) := by
  pointwise [k0_pay7]
  rfl

theorem pay8_at (v36 : S16x512.Idx → EReal) (v86 : S256x16.Idx → BitVec 32) (r : Fin 256) (x : Fin 512) :
    k0_pay8 (F := Ideal) v36 v86 (ix2 r x) = ∑ e : Fin 16, (((v86 (ix2 r e)).toInt : ℝ) : EReal) * v36 (ix2 e x) := by
  pointwise [k0_pay8]
  rfl

theorem pay9_at (v36 : S16x512.Idx → EReal) (v54 : S256x512.Idx → EReal) (v85 : S256x1024.Idx → EReal)
    (v86 : S256x16.Idx → BitVec 32) (v90 : S256x16.Idx → EReal) (v112 : S16x32x1024.Idx → EReal)
    (v118 : S1x1x1024.Idx → EReal) (v120 : S512x1024.Idx → EReal) (r : Fin 512) (d : Fin 1024) :
    k0_pay9 (F := Ideal) v36 v54 v85 (k0_pay8 v36 v86) v90 v112 v118 v120 (ix2 r d)
      = alpha * v120 (ix2 r d) + v118 (ix3 0 0 d) * (if h : r.val < 256 then v85 (ix2 ⟨r.val, h⟩ d) else
          lanes (fun e x => v36 (ix2 e x)) (fun x => v54 (ix2 ⟨r.val - 256, by omega⟩ x))
          (fun e => (((v86 (ix2 ⟨r.val - 256, by omega⟩ e)).toInt : ℝ) : EReal)) (fun e => v90 (ix2 ⟨r.val - 256, by omega⟩ e))
          (fun x => v112 (ix3 ⟨x.val / 32, by omega⟩ ⟨x.val % 32, by omega⟩ d))) := by
  pointwise [k0_pay9]
  simp only [pay8_at]
  rfl

/-- The lanes of two rows of 256 tokens, by the token's slots and gates. -/
theorem row_ctx (v55 v86 : S256x16.Idx → BitVec 32) (v59 v90 : S256x16.Idx → EReal) (v81 v112 : S16x32x1024.Idx → EReal)
    (v118 : S1x1x1024.Idx → EReal) (v120 : S512x1024.Idx → EReal) (r : Fin 512) (d : Fin 1024)
    (P : Fin 16 → BitVec 32) (G : Fin 16 → EReal) (Y : Fin 16 → Fin 32 → EReal) (hg : ∀ e, ∃ x : ℝ, G e = x)
    (h55 : ∀ (h : r.val < 256) e, v55 (ix2 ⟨r.val, h⟩ e) = P e) (h86 : ¬ r.val < 256 → ∀ e, v86 (ix2 ⟨r.val - 256, by omega⟩ e) = P e)
    (h59 : ∀ (h : r.val < 256) e, v59 (ix2 ⟨r.val, h⟩ e) = G e) (h90 : ¬ r.val < 256 → ∀ e, v90 (ix2 ⟨r.val - 256, by omega⟩ e) = G e)
    (h81 : r.val < 256 → ∀ e s, v81 (ix3 e s d) = Y e s) (h112 : ¬ r.val < 256 → ∀ e s, v112 (ix3 e s d) = Y e s) :
    k0_pay9 (F := Ideal) k0_pay3 (k0_pay6 (F := Ideal) (Scalar.select (Scalar.cmpi .eq 32#32 0#32) 1#32 32#32) k0_pay4 k0_pay5)
        (k0_pay7 (F := Ideal) k0_pay3 (Scalar.select (Scalar.cmpi .eq 32#32 0#32) 1#32 32#32) k0_pay4 k0_pay5 v55 v59 v81)
        (k0_pay8 k0_pay3 v86) v90 v112 v118 v120 (ix2 r d)
      = alpha * v120 (ix2 r d) + v118 (ix3 0 0 d) * ∑ e, share (P e) (G e) (Y e) := by
  rw [pay9_at, ← lanes_eq P G hg Y]
  by_cases h : r.val < 256
  · rw [dif_pos h, pay7_at]
    simp only [pay3_at, pay6_at, h55 h, h59 h, h81 h]
  · rw [dif_neg h]
    simp only [pay3_at, pay6_at, h86 h, h90 h, h112 h]

/-- The layer norm of the context's rows. -/
theorem pay1_at (v125 : S512x1024.Idx → EReal) (v126 v128 : S1x1024.Idx → EReal) (r : Fin 512) (d : Fin 1024) :
    k0_pay1 (F := Ideal) v125 (k0_pay10 v126) (k0_pay11 v128) (ix2 r d)
      = layerNorm (fun k => v125 (ix2 r k)) (fun k => v126 (ix2 0 k)) (fun k => v128 (ix2 0 k)) d := by
  pointwise [k0_pay1, k0_pay10, k0_pay11]
  rfl

/-! ## The latents' payloads at an index -/

/-- The slot numbers. -/
abbrev slotNo : S512x512.Idx → BitVec 32 := iota .tc S512x512 32 [1] iota_S512x512_d1_w32

/-- One expert's part of row `r`, from its slot numbers, gates and rows. -/
abbrev part (r : Fin 512) (d : Fin 1024) (p : S512x1.Idx → BitVec 32) (g : S512x1.Idx → EReal) (y : S1x512x1024.Idx → EReal) : EReal :=
  one (p (ix2 r 0)) (g (ix2 r 0)) fun x => y (ix3 0 x d)

theorem pay12_at (p0 p1 : S512x1.Idx → BitVec 32) (g0 g1 : S512x1.Idx → EReal) (y0 y1 : S1x512x1024.Idx → EReal)
    (r : Fin 512) (d : Fin 1024) :
    k0_pay12 (F := Ideal) p0 g0 y0 p1 g1 y1 (ix2 r d) = part r d p0 g0 y0 + part r d p1 g1 y1 := by
  pointwise [k0_pay12]
  rfl

theorem pay16_at (v : S512x1024.Idx → EReal) (p0 p1 : S512x1.Idx → BitVec 32) (g0 g1 : S512x1.Idx → EReal)
    (y0 y1 : S1x512x1024.Idx → EReal) (r : Fin 512) (d : Fin 1024) :
    k0_pay16 (F := Ideal) slotNo v (k0_pay13 (F := Ideal) p0) k0_pay14 k0_pay15 g0 y0 p1 g1 y1 (ix2 r d)
      = v (ix2 r d) + part r d p0 g0 y0 + part r d p1 g1 y1 := by
  pointwise [k0_pay16, k0_pay13, k0_pay14, k0_pay15]
  rfl

theorem pay18_at (v : S512x1024.Idx → EReal) (p0 p1 p2 : S512x1.Idx → BitVec 32) (g0 g1 g2 : S512x1.Idx → EReal)
    (y0 y1 y2 : S1x512x1024.Idx → EReal) (r : Fin 512) (d : Fin 1024) :
    k0_pay18 (F := Ideal) slotNo v g0 (k0_pay17 slotNo p0 y0) p1 g1 y1 p2 g2 y2 (ix2 r d)
      = v (ix2 r d) + part r d p0 g0 y0 + part r d p1 g1 y1 + part r d p2 g2 y2 := by
  pointwise [k0_pay18, k0_pay17]
  rfl

theorem pay22_at (v : S512x1024.Idx → EReal) (p0 p1 : S512x1.Idx → BitVec 32) (g0 g1 : S512x1.Idx → EReal)
    (y0 y1 : S1x512x1024.Idx → EReal) (r : Fin 512) (d : Fin 1024) :
    k0_pay22 (F := Ideal) slotNo v (k0_pay19 (F := Ideal) slotNo p0) k0_pay20 k0_pay21 g0 y0 p1 g1 y1 (ix2 r d)
      = v (ix2 r d) + part r d p0 g0 y0 + part r d p1 g1 y1 := by
  pointwise [k0_pay22, k0_pay19, k0_pay20, k0_pay21]
  rfl

theorem pay24_at (v : S512x1024.Idx → EReal) (p0 p1 p2 : S512x1.Idx → BitVec 32) (g0 g1 g2 : S512x1.Idx → EReal)
    (y0 y1 y2 : S1x512x1024.Idx → EReal) (r : Fin 512) (d : Fin 1024) :
    k0_pay24 (F := Ideal) slotNo v g0 (k0_pay23 slotNo p0 y0) p1 g1 y1 p2 g2 y2 (ix2 r d)
      = v (ix2 r d) + part r d p0 g0 y0 + part r d p1 g1 y1 + part r d p2 g2 y2 := by
  pointwise [k0_pay24, k0_pay23]
  rfl

theorem pay28_at (v : S512x1024.Idx → EReal) (p0 p1 : S512x1.Idx → BitVec 32) (g0 g1 : S512x1.Idx → EReal)
    (y0 y1 : S1x512x1024.Idx → EReal) (r : Fin 512) (d : Fin 1024) :
    k0_pay28 (F := Ideal) slotNo v (k0_pay25 (F := Ideal) slotNo p0) k0_pay26 k0_pay27 g0 y0 p1 g1 y1 (ix2 r d)
      = v (ix2 r d) + part r d p0 g0 y0 + part r d p1 g1 y1 := by
  pointwise [k0_pay28, k0_pay25, k0_pay26, k0_pay27]
  rfl

theorem pay32_at (v : S512x1024.Idx → EReal) (p0 p1 : S512x1.Idx → BitVec 32) (g0 g1 : S512x1.Idx → EReal)
    (y0 y1 : S1x512x1024.Idx → EReal) (gt : S1x1x1024.Idx → EReal) (h : S512x1024.Idx → EReal) (r : Fin 512) (d : Fin 1024) :
    k0_pay32 (F := Ideal) slotNo v g0 (k0_pay29 slotNo p0 y0) p1 g1 y1 gt h (ix2 r d)
      = centred len1024 (fun k => alpha * h (ix2 r k)
          + gt (ix3 0 0 k) * (v (ix2 r k) + part r k p0 g0 y0 + part r k p1 g1 y1)) d := by
  pointwise [k0_pay32, k0_pay29]
  rfl

/-- The layer norm of the latents' rows. -/
theorem pay2_at (v : S512x1024.Idx → EReal) (p0 p1 : S512x1.Idx → BitVec 32) (g0 g1 : S512x1.Idx → EReal)
    (y0 y1 : S1x512x1024.Idx → EReal) (gt : S1x1x1024.Idx → EReal) (h : S512x1024.Idx → EReal)
    (v240 v242 : S1x1024.Idx → EReal) (r : Fin 512) (d : Fin 1024) :
    k0_pay2 (F := Ideal) (k0_pay30 v240) (k0_pay31 v242)
        (k0_pay32 (F := Ideal) slotNo v g0 (k0_pay29 slotNo p0 y0) p1 g1 y1 gt h)
        (k0_pay33 (F := Ideal) slotNo v g0 (k0_pay29 slotNo p0 y0) p1 g1 y1 gt h) (ix2 r d)
      = layerNorm (fun k => alpha * h (ix2 r k)
          + gt (ix3 0 0 k) * (v (ix2 r k) + part r k p0 g0 y0 + part r k p1 g1 y1))
          (fun k => v240 (ix2 0 k)) (fun k => v242 (ix2 0 k)) d := by
  have e : ∀ k, k0_pay32 (F := Ideal) slotNo v g0 (k0_pay29 slotNo p0 y0) p1 g1 y1 gt h (ix2 r k) = _ :=
    pay32_at v p0 p1 g0 g1 y0 y1 gt h r
  pointwise [k0_pay2, k0_pay33, k0_pay30, k0_pay31]
  simp only [e]
  rfl

/-- The 16 experts' parts, added in turn. -/
theorem sum16 (f : Fin 16 → EReal) :
    f 0 + f 1 + f 2 + f 3 + f 4 + f 5 + f 6 + f 7 + f 8 + f 9 + f 10 + f 11 + f 12 + f 13 + f 14 + f 15 = ∑ e, f e := by
  simp only [Fin.sum_univ_castSucc, Fin.sum_univ_zero, zero_add]
  rfl

/-- The latents' row, from the experts' slot numbers, gates and rows. -/
theorem row_lat (p : Fin 16 → S512x1.Idx → BitVec 32) (g : Fin 16 → S512x1.Idx → EReal) (y : Fin 16 → S1x512x1024.Idx → EReal)
    (gt : S1x1x1024.Idx → EReal) (h : S512x1024.Idx → EReal) (v240 v242 : S1x1024.Idx → EReal) (r : Fin 512) (d : Fin 1024) :
    k0_pay2 (F := Ideal) (k0_pay30 v240) (k0_pay31 v242)
        (k0_pay32 (F := Ideal) slotNo
          (k0_pay28 slotNo (k0_pay24 slotNo (k0_pay22 slotNo (k0_pay18 slotNo (k0_pay16 slotNo
            (k0_pay12 (p 0) (g 0) (y 0) (p 1) (g 1) (y 1)) (k0_pay13 (F := Ideal) (p 2)) k0_pay14 k0_pay15 (g 2) (y 2) (p 3) (g 3) (y 3))
            (g 4) (k0_pay17 slotNo (p 4) (y 4)) (p 5) (g 5) (y 5) (p 6) (g 6) (y 6))
            (k0_pay19 (F := Ideal) slotNo (p 7)) k0_pay20 k0_pay21 (g 7) (y 7) (p 8) (g 8) (y 8))
            (g 9) (k0_pay23 slotNo (p 9) (y 9)) (p 10) (g 10) (y 10) (p 11) (g 11) (y 11))
            (k0_pay25 (F := Ideal) slotNo (p 12)) k0_pay26 k0_pay27 (g 12) (y 12) (p 13) (g 13) (y 13))
          (g 14) (k0_pay29 slotNo (p 14) (y 14)) (p 15) (g 15) (y 15) gt h)
        (k0_pay33 (F := Ideal) slotNo
          (k0_pay28 slotNo (k0_pay24 slotNo (k0_pay22 slotNo (k0_pay18 slotNo (k0_pay16 slotNo
            (k0_pay12 (p 0) (g 0) (y 0) (p 1) (g 1) (y 1)) (k0_pay13 (F := Ideal) (p 2)) k0_pay14 k0_pay15 (g 2) (y 2) (p 3) (g 3) (y 3))
            (g 4) (k0_pay17 slotNo (p 4) (y 4)) (p 5) (g 5) (y 5) (p 6) (g 6) (y 6))
            (k0_pay19 (F := Ideal) slotNo (p 7)) k0_pay20 k0_pay21 (g 7) (y 7) (p 8) (g 8) (y 8))
            (g 9) (k0_pay23 slotNo (p 9) (y 9)) (p 10) (g 10) (y 10) (p 11) (g 11) (y 11))
            (k0_pay25 (F := Ideal) slotNo (p 12)) k0_pay26 k0_pay27 (g 12) (y 12) (p 13) (g 13) (y 13))
          (g 14) (k0_pay29 slotNo (p 14) (y 14)) (p 15) (g 15) (y 15) gt h) (ix2 r d)
      = layerNorm (fun k => alpha * h (ix2 r k)
          + gt (ix3 0 0 k) * ∑ e, share (p e (ix2 r 0)) (g e (ix2 r 0)) fun x => y e (ix3 0 x k))
          (fun k => v240 (ix2 0 k)) (fun k => v242 (ix2 0 k)) d := by
  rw [pay2_at]
  refine layerNorm_congr (fun k => ?_) (fun _ => rfl) (fun _ => rfl) d
  rw [pay28_at, pay24_at, pay22_at, pay18_at, pay16_at, pay12_at]
  simp only [← one_eq]
  rw [← sum16 fun e => one (p e (ix2 r 0)) (g e (ix2 r 0)) fun x => y e (ix3 0 x k)]

end Cert.Combine

end
-- ==== Proof.CombineKernel.lean ====
/-
  The combining kernel's result array, from its argument arrays.
-/
module

public import proofs.«01_k».proof.Proof.CombineBlock

@[expose] public section

set_option maxRecDepth 16384

noncomputable section

namespace Cert.Combine

open Cert.Kernel6Ideal Cert.Kernel6Ideal.Gen Idealize.ShloMosaic Idealize.ShloMosaic.TcCoe Idealize.SL.Sem
open Idealize.ShloMosaic.Pipeline (Dat)
open Cert.Post

variable (m : (ℓ : Loc nD τ sig) → Buf (Elt Ideal) ℓ) (ρ : Dev nD → PrngReg)

/-! ## The blocks of a grid point -/

/-- Where each window's block lies at a grid point. -/
theorem idx : ∀ t : Fin cfg0.N,
    win0_0.index t = ![t.val, 0]
    ∧ win0_1.index t = ![t.val, 0]
    ∧ win0_2.index t = ![0, min t.val 15, 0]
    ∧ win0_3.index t = ![0, 2 + (t.val - 16) / 8, 0]
    ∧ win0_4.index t = ![t.val, 0]
    ∧ win0_5.index t = ![(t.val * 512 - 4096) / 4096, 0, 0]
    ∧ win0_6.index t = ![0, 0]
    ∧ win0_7.index t = ![0, 0]
    ∧ win0_8.index t = ![t.val, 0] :=
  (by decide +kernel : ∀ t : Fin grid0.N, _)

/-- There are 32 grid points. -/
theorem point_lt (t : Fin cfg0.N) : t.val < 32 := lt_of_lt_of_eq t.isLt (show cfg0.N = 32 from N_0)

/-- The token of a grid point's row. -/
def tok (t : Fin cfg0.N) (r : Fin 512) : Fin 16384 :=
  ⟨t.val * 512 + r.val, by have := point_lt t; omega⟩

theorem tok_val (t : Fin cfg0.N) (r : Fin 512) : (tok t r).val = t.val * 512 + r.val := rfl

/-- The norm's gains, as the call finds them. -/
theorem V_gain (c : Dev nD) (k : Fin 1024) : (V m c main_v0 : S1x1024.Idx → EReal) (ix2 0 k)
    = (m ((c : Thread nD τ).loc main_arg5) : S1024.Idx → EReal) (ix1 k) := by
  unfold V
  after_reads_at

/-- The norm's offsets, as the call finds them. -/
theorem V_bias (c : Dev nD) (k : Fin 1024) : (V m c main_v1 : S1x1024.Idx → EReal) (ix2 0 k)
    = (m ((c : Thread nD τ).loc main_arg6) : S1024.Idx → EReal) (ix1 k) := by
  unfold V
  after_reads_at

theorem blk_pos (c : Dev nD) (t : Fin cfg0.N) (r : Fin 512) (e : Fin 16) :
    (iblk m c 0 t : S512x16.Idx → BitVec 32) (ix2 r e)
      = (m ((c : Thread nD τ).loc main_arg0) : S16384x16.Idx → BitVec 32) (ix2 (tok t r) e) := by
  have htk := tok_val t r
  rw [← V_main_arg0 m c]
  blk_ext [iblk, idx t]

theorem blk_gate (c : Dev nD) (t : Fin cfg0.N) (r : Fin 512) (e : Fin 16) :
    (iblk m c 1 t : S512x16.Idx → EReal) (ix2 r e)
      = (m ((c : Thread nD τ).loc main_arg1) : S16384x16.Idx → EReal) (ix2 (tok t r) e) := by
  have htk := tok_val t r
  rw [← V_main_arg1 m c]
  blk_ext [iblk, idx t]

/-- The two context groups whose slots a grid point reads. -/
theorem blk_ctx (c : Dev nD) (t : Fin cfg0.N) (ht : t.val < 16) (e : Fin 16) (s : Fin 64) (k : Fin 1024) :
    (iblk m c 2 t : S16x64x1024.Idx → EReal) (ix3 e s k)
      = (m ((c : Thread nD τ).loc main_arg2) : S16x2048x1024.Idx → EReal) (ix3 e ⟨t.val * 64 + s.val, by omega⟩ k) := by
  rw [← V_main_arg2 m c]
  blk_ext [iblk, idx t]

/-- The latent request whose slots a grid point reads. -/
theorem blk_lat (c : Dev nD) (t : Fin cfg0.N) (ht : ¬ t.val < 16) (e : Fin 16) (s : Fin 512) (k : Fin 1024) :
    (iblk m c 3 t : S16x512x1024.Idx → EReal) (ix3 e s k)
      = (m ((c : Thread nD τ).loc main_arg2) : S16x2048x1024.Idx → EReal)
          (ix3 e ⟨1024 + (t.val - 16) / 8 * 512 + s.val, by have := point_lt t; omega⟩ k) := by
  have := point_lt t
  rw [← V_main_arg2 m c]
  blk_ext [iblk, idx t]

theorem blk_h (c : Dev nD) (t : Fin cfg0.N) (r : Fin 512) (k : Fin 1024) :
    (iblk m c 4 t : S512x1024.Idx → EReal) (ix2 r k) = (m ((c : Thread nD τ).loc main_arg3) : S16384x1024.Idx → EReal) (ix2 (tok t r) k) := by
  have htk := tok_val t r
  rw [← V_main_arg3 m c]
  blk_ext [iblk, idx t]

/-- A grid point's rows are all of one request. -/
theorem blk_mod (c : Dev nD) (t : Fin cfg0.N) (r : Fin 512) (a : Fin 6) (k : Fin 1024) :
    (iblk m c 5 t : S1x6x1024.Idx → EReal) (ix3 0 a k)
      = (m ((c : Thread nD τ).loc main_arg4) : S3x6x1024.Idx → EReal) (ix3 (InProj.request (tok t r)) a k) := by
  have ht := point_lt t
  have htk := tok_val t r
  rw [← V_main_arg4 m c]
  unfold InProj.request
  blk_ext [iblk, idx t]

theorem blk_gain (c : Dev nD) (t : Fin cfg0.N) (k : Fin 1024) :
    (iblk m c 6 t : S1x1024.Idx → EReal) (ix2 0 k) = (m ((c : Thread nD τ).loc main_arg5) : S1024.Idx → EReal) (ix1 k) := by
  rw [← V_gain m c]
  blk_ext [iblk, idx t]

theorem blk_bias (c : Dev nD) (t : Fin cfg0.N) (k : Fin 1024) :
    (iblk m c 7 t : S1x1024.Idx → EReal) (ix2 0 k) = (m ((c : Thread nD τ).loc main_arg6) : S1024.Idx → EReal) (ix1 k) := by
  rw [← V_bias m c]
  blk_ext [iblk, idx t]

/-! ## The loads inside a block -/

/-- The gate row of the modulation block. -/
theorem ld_mod (c : Dev nD) (t : Fin cfg0.N) (r : Fin 512) (inb) (k : Fin 1024) :
    View.ld (Val := Elt Ideal) (e' := .f32) (iblk m c 5 t : S1x6x1024.Idx → EReal)
        (Rect.unit (s := S1x6x1024) ![0, 5, 0] ![1, 1, 1024] inb) (ix3 0 0 k : S1x1x1024.Idx)
      = (m ((c : Thread nD τ).loc main_arg4) : S3x6x1024.Idx → EReal) (ix3 (InProj.request (tok t r)) 5 k) :=
  (ld_row _ 5 _ rfl _ k).trans (blk_mod m c t r 5 k)

/-- A row of 256 rows from row `o` on. -/
theorem ld_rows {ε : EltTy} (X : S512x16.Idx → Elt Ideal ε) (o : ℕ) (inb) (i : Fin 256) (r : Fin 512) (h : r.val = o + i.val) (e : Fin 16) :
    View.ld (Val := Elt Ideal) (e' := ε) X (Rect.unit (s := S512x16) ![o, 0] ![256, 16] inb) (ix2 i e : S256x16.Idx) = X (ix2 r e) := by
  refine View.ld_unit_apply_of (S := S512x16) _ _ _ _ _ _ fun a => ?_
  match a with
  | ⟨0, _⟩ => exact h
  | ⟨1, _⟩ => exact (Nat.zero_add _).symm

/-- A group's slots, from slot `o` of the block on. -/
theorem ld_group (X : S16x64x1024.Idx → EReal) (o : ℕ) (inb) (e : Fin 16) (s : Fin 32) (s' : Fin 64) (h : s'.val = o + s.val) (k : Fin 1024) :
    View.ld (Val := Elt Ideal) (e' := .bf16) X (Rect.unit (s := S16x64x1024) ![0, o, 0] ![16, 32, 1024] inb) (ix3 e s k : S16x32x1024.Idx)
      = X (ix3 e s' k) := by
  refine View.ld_unit_apply_of (S := S16x64x1024) _ _ _ _ _ _ fun a => ?_
  match a with
  | ⟨0, _⟩ => exact (Nat.zero_add _).symm
  | ⟨1, _⟩ => exact h
  | ⟨2, _⟩ => exact (Nat.zero_add _).symm

/-- One expert's column lies inside the block. -/
theorem inb_col (e : Fin 16) : ∀ a, (![0, e.val] : Fin 2 → ℕ) a + (![512, 1] : Fin 2 → ℕ) a ≤ S512x16.size a := by
  revert e
  decide

/-- One expert's slots lie inside the block. -/
theorem inb_slab (e : Fin 16) : ∀ a, (![e.val, 0, 0] : Fin 3 → ℕ) a + (![1, 512, 1024] : Fin 3 → ℕ) a ≤ S16x512x1024.size a := by
  revert e
  decide

/-- One expert's column of a block. -/
abbrev col {ε : EltTy} (X : S512x16.Idx → Elt Ideal ε) (e : Fin 16) : S512x1.Idx → Elt Ideal ε :=
  View.ld (Val := Elt Ideal) (e' := ε) X (Rect.unit (s := S512x16) ![0, e.val] ![512, 1] (inb_col e))

theorem ld_col {ε : EltTy} (X : S512x16.Idx → Elt Ideal ε) (e : Fin 16) (r : Fin 512) : col X e (ix2 r 0 : S512x1.Idx) = X (ix2 r e) := by
  refine View.ld_unit_apply_of (S := S512x16) _ _ _ _ _ _ fun a => ?_
  match a with
  | ⟨0, _⟩ => exact (Nat.zero_add _).symm
  | ⟨1, _⟩ => exact (Nat.add_zero _).symm

/-- One expert's slots of a block. -/
abbrev slab (X : S16x512x1024.Idx → EReal) (e : Fin 16) : S1x512x1024.Idx → EReal :=
  View.ld (Val := Elt Ideal) (e' := .bf16) X (Rect.unit (s := S16x512x1024) ![e.val, 0, 0] ![1, 512, 1024] (inb_slab e))

theorem ld_slab (X : S16x512x1024.Idx → EReal) (e : Fin 16) (s : Fin 512) (k : Fin 1024) : slab X e (ix3 0 s k : S1x512x1024.Idx) = X (ix3 e s k) := by
  refine View.ld_unit_apply_of (S := S16x512x1024) _ _ _ _ _ _ fun a => ?_
  match a with
  | ⟨0, _⟩ => exact (Nat.add_zero _).symm
  | ⟨1, _⟩ => exact (Nat.zero_add _).symm
  | ⟨2, _⟩ => exact (Nat.zero_add _).symm

/-! ## What a grid point stores -/

/-- The result rows, from the argument arrays. -/
abbrev row0 (c : Dev nD) : Fin 16384 → Fin 1024 → EReal :=
  outRow (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

theorem share_congr {n : ℕ} {p p' : BitVec 32} {g g' : EReal} {y y' : Fin n → EReal} (hp : p = p') (hg : g = g')
    (hy : ∀ s, y s = y' s) : share p g y = share p' g' y' := by
  rw [hp, hg, funext hy]

/-- The summed outputs of a context token. -/
theorem mixed_ctx (pos : S16384x16.Idx → BitVec 32) (gate : S16384x16.Idx → EReal) (ys : S16x2048x1024.Idx → EReal)
    (t : Fin 16384) (h : t.val < 8192) (d : Fin 1024) : mixed pos gate ys t d
      = ∑ e : Fin 16, share (pos (ix2 t e)) (gate (ix2 t e)) fun s : Fin 32 => ys (ix3 e ⟨t.val / 256 * 32 + s.val, by omega⟩ d) :=
  dif_pos h

/-- The summed outputs of a latent token. -/
theorem mixed_lat (pos : S16384x16.Idx → BitVec 32) (gate : S16384x16.Idx → EReal) (ys : S16x2048x1024.Idx → EReal)
    (t : Fin 16384) (h : ¬ t.val < 8192) (d : Fin 1024) : mixed pos gate ys t d
      = ∑ e : Fin 16, share (pos (ix2 t e)) (gate (ix2 t e)) fun s : Fin 512 =>
          ys (ix3 e ⟨1024 + (t.val - 8192) / 4096 * 512 + s.val, by omega⟩ d) :=
  dif_neg h

/-- The context's rows. -/
theorem val_ctx (c : Dev nD) (hg : Real (m ((c : Thread nD τ).loc main_arg1))) (t : Fin cfg0.N) (ht : t.val < 16)
    (r : Fin 512) (d : Fin 1024) : (outsAt0 m c t.val t.isLt : S512x1024.Idx → EReal) (ix2 r d) = row0 m c (tok t r) d := by
  have htk := tok_val t r
  rw [outsAt0_A m c t ht (by omega)]
  unfold out0_A_8
  frame_out
  refine (pay1_at _ _ _ r d).trans (layerNorm_congr (fun k => ?_) (blk_gain m c t) (blk_bias m c t) d)
  refine (row_ctx _ _ _ _ _ _ _ _ r k
    (fun e => (m ((c : Thread nD τ).loc main_arg0) : S16384x16.Idx → BitVec 32) (ix2 (tok t r) e))
    (fun e => (m ((c : Thread nD τ).loc main_arg1) : S16384x16.Idx → EReal) (ix2 (tok t r) e))
    (fun e s => (m ((c : Thread nD τ).loc main_arg2) : S16x2048x1024.Idx → EReal) (ix3 e ⟨(tok t r).val / 256 * 32 + s.val, by omega⟩ k))
    (fun e => hg _)
    (fun h e => (ld_rows (ε := .i32) _ 0 _ _ r (Nat.zero_add _).symm e).trans (blk_pos m c t r e))
    (fun h e => (ld_rows (ε := .i32) _ 256 _ _ r (by dsimp only; omega) e).trans (blk_pos m c t r e))
    (fun h e => (ld_rows (ε := .f32) _ 0 _ _ r (Nat.zero_add _).symm e).trans (blk_gate m c t r e))
    (fun h e => (ld_rows (ε := .f32) _ 256 _ _ r (by dsimp only; omega) e).trans (blk_gate m c t r e))
    (fun h e s => ?_) (fun h e s => ?_)).trans ?_
  · refine (ld_group _ 0 _ e s ⟨s.val, by omega⟩ (Nat.zero_add _).symm k).trans ((blk_ctx m c t ht e _ k).trans ?_)
    exact congrArg (fun i => (m ((c : Thread nD τ).loc main_arg2) : S16x2048x1024.Idx → EReal) (ix3 e i k))
      (Fin.ext (by dsimp only; omega))
  · refine (ld_group _ 32 _ e s ⟨32 + s.val, by omega⟩ rfl k).trans ((blk_ctx m c t ht e _ k).trans ?_)
    exact congrArg (fun i => (m ((c : Thread nD τ).loc main_arg2) : S16x2048x1024.Idx → EReal) (ix3 e i k))
      (Fin.ext (by dsimp only; omega))
  · rw [mixed_ctx _ _ _ _ (by omega)]
    exact congrArg₂ (· + ·) (congrArg (alpha * ·) (blk_h m c t r k)) (congrArg (· * _) (ld_mod m c t r _ k))

/-- The latents' rows. -/
theorem val_lat (c : Dev nD) (t : Fin cfg0.N) (ht : ¬ t.val < 16)
    (r : Fin 512) (d : Fin 1024) : (outsAt0 m c t.val t.isLt : S512x1024.Idx → EReal) (ix2 r d) = row0 m c (tok t r) d := by
  have htk := tok_val t r
  have hlt := point_lt t
  rw [outsAt0_B m c t ht (by omega)]
  unfold out0_B_8
  frame_out
  refine (row_lat (col (ε := .i32) (iblk m c 0 t)) (col (ε := .f32) (iblk m c 1 t)) (slab (iblk m c 3 t)) _ _ _ _ r d).trans
    (layerNorm_congr (fun k => ?_) (blk_gain m c t) (blk_bias m c t) d)
  rw [mixed_lat _ _ _ _ (by omega)]
  refine congrArg₂ (· + ·) (congrArg (alpha * ·) (blk_h m c t r k)) (congrArg₂ (· * ·) (ld_mod m c t r _ k) ?_)
  refine Fin.sum_fin_congr fun e => share_congr ?_ ?_ fun s => ?_
  · exact (ld_col (ε := .i32) _ e r).trans (blk_pos m c t r e)
  · exact (ld_col (ε := .f32) _ e r).trans (blk_gate m c t r e)
  · refine (ld_slab _ e s k).trans ((blk_lat m c t ht e s k).trans ?_)
    exact congrArg (fun i => (m ((c : Thread nD τ).loc main_arg2) : S16x2048x1024.Idx → EReal) (ix3 e i k))
      (Fin.ext (by dsimp only; omega))

/-- The result array after the run, where all gates are real. -/
theorem final_out (c : Dev nD) (hg : Real (m ((c : Thread nD τ).loc main_arg1))) :
    (dats m 0 c).arrAt 8 cfg0.N = fun i : S16384x1024.Idx => row0 m c (i 0) (i 1) := by
  refine (dats m 0 c).arrAt_eq_of_covers 8 _ (by decide +kernel) fun t hf y => ?_
  obtain ⟨r, d, rfl⟩ : ∃ (r : Fin 512) (d : Fin 1024), y = ix2 r d := ⟨y 0, y 1, eq_ix2 y⟩
  have htk := tok_val t r
  have hi : (((cfg0.win 8).blk t).view.emb (ix2 r d) : S16384x1024.Idx) = ix2 (tok t r) d := by
    blk_ext [idx t]
  rw [hi]
  blk_simp
  rw [after0_8]
  by_cases ht : t.val < 16
  · exact val_ctx m c hg t ht r d
  · exact val_lat m c t ht r d

end Cert.Combine

end
-- ==== Proof.CombineGather.lean ====
/-
  The reference's gather of the slots' rows: a row of the result is the row of the table that its index names; the index
  of a token's slot at an expert; and one expert's part of a token's output, by the row of its own slot.
-/
module

public import proofs.«01_k».proof.Proof.CombineBlock
public import proofs.«01_k».proof.Proof.Gen.Reference6Ideal.Read

@[expose] public section

noncomputable section

namespace Cert.Combine

open Idealize.ShloMosaic Idealize.ShloMosaic.TcCoe Cert.Reference6Ideal Cert.Reference6Ideal.Read

/-- The gather's dimensions: whole rows of a table of 16384, at 131072 row numbers. -/
abbrev rowsAt : GatherDims S16384x1024 S131072x1 S131072x1024 :=
  gather_S16384x1024_S131072x1_S131072x1024_1_0_n_n_0_1_11024

/-- A gathered row is the table's row that the index names. -/
theorem gather_row (x : S16384x1024.Idx → EReal) (idx : IVec S131072x1 32) (k : Fin 131072) (d : Fin 1024) (r : Fin 16384)
    (hr : (idx (ix2 k 0)).toInt.toNat = r.val) : Host.gather rowsAt x idx (ix2 k d) = x (ix2 r d) := by
  refine congrArg x (funext fun a => Fin.ext ?_)
  change GatherDims.start rowsAt (ix2 k d) idx a + GatherDims.batchCoord rowsAt (ix2 k d) a
    + GatherDims.offCoord rowsAt (ix2 k d) a = _
  rw [GatherDims.batchCoord_eq_zero _ _ _ List.not_mem_nil, Nat.add_zero]
  have ha : a = 0 ∨ a = 1 := by
    match a with
    | ⟨0, _⟩ => exact Or.inl rfl
    | ⟨1, _⟩ => exact Or.inr rfl
  rcases ha with rfl | rfl
  · rw [GatherDims.offCoord_eq_zero _ _ _ fun h => ((GatherDims.mem_sKept _ _).mp h).1 (List.mem_singleton.mpr rfl),
      Nat.add_zero]
    unfold GatherDims.start
    rw [dif_pos (show (0 : Fin 2) ∈ rowsAt.startIndexMap from List.mem_singleton.mpr rfl)]
    have hs : GatherDims.siIdx rowsAt (ix2 k d) ⟨List.idxOf (0 : Fin 2) [0], by decide⟩ = ix2 k 0 := by
      funext b
      refine Fin.ext ?_
      match b with
      | ⟨0, _⟩ => rfl
      | ⟨1, _⟩ => rfl
    refine (congrArg (fun i => min (idx i).toInt.toNat 16383) hs).trans ?_
    rw [hr]
    exact min_eq_left (by omega)
  · unfold GatherDims.start
    rw [dif_neg (show ¬ (1 : Fin 2) ∈ rowsAt.startIndexMap from fun h => absurd (List.mem_singleton.mp h) (by decide)),
      Nat.zero_add]
    rfl

/-- Of two words below 512 the signed order is the order of the numbers. -/
theorem toInt_small (p : BitVec 32) (h : p.toNat < 512) : p.toInt = p.toNat := by
  rw [BitVec.toInt_eq_toNat_cond, if_pos (by omega)]

/-- A gate is kept where the slot is one of the expert's first `n`, and is zero elsewhere. -/
theorem kept_eq (n : ℕ) (hn : n ≤ 512) (p : BitVec 32) (g z : EReal) :
    Scalar.select (IntOp.andi (IntOp.cmpi .sge p 0#32) (IntOp.cmpi .slt p (BitVec.ofNat 32 n))) g z
      = if p.toNat < n then g else z := by
  have hnn : (BitVec.ofNat 32 n).toInt = n := by
    rw [BitVec.toInt_eq_toNat_cond, BitVec.toNat_ofNat, if_pos (by omega)]
    omega
  have h1 : (0#32).sle p = decide (0 ≤ p.toInt) := by simp [BitVec.sle]
  have h2 : p.slt (BitVec.ofNat 32 n) = decide (p.toInt < n) := by simp only [BitVec.slt, hnn]
  have hp := p.isLt
  have hi := BitVec.toInt_eq_toNat_cond p
  unfold IntOp.cmpi
  dsimp only
  rw [h1, h2]
  by_cases h : p.toNat < n
  · rw [if_pos (by omega)] at hi
    rw [decide_eq_true (by omega), decide_eq_true (by omega), if_pos h]
    rfl
  · rw [if_neg h]
    by_cases h3 : 0 ≤ p.toInt
    · have h4 : ¬ p.toInt < n := by
        split at hi <;> omega
      rw [decide_eq_true h3, decide_eq_false h4]
      rfl
    · rw [decide_eq_false h3]
      by_cases h4 : p.toInt < n
      · rw [decide_eq_true h4]
        rfl
      · rw [decide_eq_false h4]
        rfl

/-- A slot below the capacity is left alone by the clipping to `0 … n - 1`. -/
theorem clip_eq (n : ℕ) (hn : n ≤ 512) (p q : BitVec 32) (hq : q.toNat + 1 = n) (h : p.toNat < n) :
    IntOp.minsi q (IntOp.maxsi 0#32 p) = p := by
  have hp := toInt_small p (by omega)
  have hqi := toInt_small q (by omega)
  have h1 : IntOp.maxsi 0#32 p = p := by
    unfold IntOp.maxsi
    rw [if_neg (by simp only [BitVec.slt, hp]; simp)]
  rw [h1]
  unfold IntOp.minsi
  split
  · rename_i hs
    simp only [BitVec.slt, hp, hqi, decide_eq_true_eq] at hs
    omega
  · rfl

/-- The number of the row that a token reads: the expert's rows, the sequence's rows there, and the slot. -/
theorem row_word (bn n e b : ℕ) (p : BitVec 32) (h : (e * bn + b) * n + p.toNat < 16384) :
    (IntOp.addi (IntOp.muli (IntOp.addi (IntOp.muli (BitVec.ofNat 32 e) (BitVec.ofNat 32 bn)) (BitVec.ofNat 32 b))
      (BitVec.ofNat 32 n)) p).toInt.toNat = (e * bn + b) * n + p.toNat := by
  unfold IntOp.addi IntOp.muli
  have hw : BitVec.ofNat 32 e * BitVec.ofNat 32 bn + BitVec.ofNat 32 b = BitVec.ofNat 32 (e * bn + b) := by
    rw [← BitVec.ofNat_mul, ← BitVec.ofNat_add]
  have hv : BitVec.ofNat 32 (e * bn + b) * BitVec.ofNat 32 n + p = BitVec.ofNat 32 ((e * bn + b) * n + p.toNat) := by
    rw [← BitVec.ofNat_mul, BitVec.ofNat_add, BitVec.ofNat_toNat, BitVec.setWidth_eq]
  rw [hw, hv, BitVec.toInt_eq_toNat_cond, BitVec.toNat_ofNat, if_pos (by omega)]
  omega

/-- One expert's part of a token's output is its gate times the row of its own slot, where the slot is within the capacity. -/
theorem share_own {n : ℕ} (hn : n ≤ 512) (p : BitVec 32) (g v : EReal) (y : Fin n → EReal)
    (hv : ∀ h : p.toNat < n, v = y ⟨p.toNat, h⟩) : (if p.toNat < n then g else 0) * v = share p g y := by
  unfold share
  by_cases h : p.toNat < n
  · have hne : ∀ s : Fin n, s ≠ ⟨p.toNat, h⟩ → ¬ p = BitVec.ofNat 32 s.val := fun s hs e => hs (Fin.ext (by
      have h1 := congrArg BitVec.toNat e
      rw [BitVec.toNat_ofNat] at h1
      dsimp only
      omega))
    rw [Finset.sum_eq_single ⟨p.toNat, h⟩ (fun s _ hs => by rw [if_neg (hne s hs), zero_mul])
      (fun hs => absurd (Finset.mem_univ _) hs), if_pos h, if_pos (by simp), hv h]
  · rw [if_neg h, zero_mul]
    refine (Finset.sum_eq_zero fun s _ => ?_).symm
    rw [if_neg, zero_mul]
    intro e
    have h1 := congrArg BitVec.toNat e
    rw [BitVec.toNat_ofNat] at h1
    omega

end Cert.Combine

end
-- ==== Proof.Combine.lean ====
/-
  The combining claim: the reference's result is the kernel's function of the arguments.

  The reference treats the context's and the latents' tokens as two groups, each laid out by sequence and position. It
  writes every token's gates into the slots that keep the token, and sums the slots' rows with these weights. Gates must be
  real, for the kernel takes them apart by subtraction.
-/
module

public import proofs.«01_k».proof.Proof.Retention
public import proofs.«01_k».proof.Proof.CombineKernel
public import proofs.«01_k».proof.Proof.CombineGather
public import proofs.«01_k».proof.Proof.Gen.Reference6Ideal.Read

@[expose] public section

set_option maxRecDepth 16384

noncomputable section

namespace Cert.Combine

open Idealize.ShloMosaic Idealize.ShloMosaic.TcCoe Idealize.SL.Sem Cert.Reference6Ideal Cert.Reference6Ideal.Read
open Cert.Post

variable (x0 : S16384x16.Idx → BitVec 32) (x1 : S16384x16.Idx → EReal) (x2 : S16x2048x1024.Idx → EReal)
  (x3 : S16384x1024.Idx → EReal) (x4 : S3x6x1024.Idx → EReal) (x5 x6 : S1024.Idx → EReal)

/-! ## The context -/

/-- The token at a sequence and a position of the context. -/
def tokC (b : Fin 32) (a : Fin 256) : Fin 16384 := ⟨b.val * 256 + a.val, by omega⟩

/-- The row number that the reference computes for a context token and an expert, where the slot is within the capacity. -/
theorem ctx_index (k : Fin 131072) (r : Fin 16384) (e : Fin 16) (hr : r.val = k.val / 4096 * 256 + k.val / 16 % 256)
    (he : e.val = k.val % 16) (h : (x0 (ix2 r e)).toNat < 32) :
    (val_main_call2_v0 (F := Ideal) x0 (ix2 k 0)).toInt.toNat
      = (e.val * 32 + k.val / 4096) * 32 + (x0 (ix2 r e)).toNat := by
  have hk := k.isLt
  have hel : k.val % 16 < 16 := by omega
  obtain rfl : e = ⟨k.val % 16, hel⟩ := Fin.ext he
  have hrl : (k.val / 4096 * 256 + k.val / 16 % 256) < 16384 := by omega
  obtain rfl : r = ⟨(k.val / 4096 * 256 + k.val / 16 % 256), hrl⟩ := Fin.ext (by dsimp only; omega)
  pointwise [val_main_v6, val_main_v7, val_main_v16, val_main_v17, val_main_v18, val_main_v19, val_main_v20,
    val_main_v21, val_main_v22, val_main_v23, val_main_v24, val_main_v25, val_main_v26, val_main_v27, val_main_v28,
    val_main_v29, val_main_v30, val_main_c_1, val_main_c_2, val_main_c_3, val_main_c_4, val_main_call1_v0,
    val_main_call1_v1, val_main_call1_v2, val_main_call1_v3, val_main_call1_v4, val_main_call2_v0]
  exact (congrArg (fun w => (IntOp.addi _ w).toInt.toNat) (clip_eq 32 (by decide) _ 31#32 (by decide) h)).trans
    (row_word 32 32 _ _ _ (by omega))

/-- The gathered row of a context token at an expert is that expert's row of the token's slot. -/
theorem ctx_own (b : Fin 32) (a : Fin 256) (e : Fin 16) (d : Fin 1024) (h : (x0 (ix2 (tokC b a) e)).toNat < 32) :
    val_main_v31 (F := Ideal) x0 x2 (ix2 ⟨b.val * 4096 + a.val * 16 + e.val, by omega⟩ d)
      = x2 (ix3 e ⟨b.val * 32 + (x0 (ix2 (tokC b a) e)).toNat, by omega⟩ d) := by
  unfold val_main_v31
  rw [gather_row _ _ _ _ ⟨(e.val * 32 + b.val) * 32 + (x0 (ix2 (tokC b a) e)).toNat, by omega⟩
    ((ctx_index x0 _ (tokC b a) e (by unfold tokC; dsimp only; omega) (by dsimp only; omega) h).trans (by dsimp only; omega))]
  pointwise [val_main_v3, val_main_v4, val_main_v5]
  exact congrArg₂ (fun i j => x2 (ix3 i j d)) (Fin.ext (by dsimp only; omega)) (Fin.ext (by dsimp only; omega))

/-- The summed outputs of a context token. -/
theorem ctx_mixed (b : Fin 32) (a : Fin 256) (d : Fin 1024) :
    val_main_v36 (F := Ideal) x0 x1 x2 (ix3 b a d) = mixed x0 x1 x2 (tokC b a) d := by
  rw [mixed_ctx _ _ _ _ (by unfold tokC; dsimp only; omega)]
  pointwise [val_main_v6, val_main_v7, val_main_v8, val_main_v9, val_main_v10, val_main_v11, val_main_v12,
    val_main_v13, val_main_v14, val_main_v15, val_main_v32, val_main_v33, val_main_v34, val_main_v35, val_main_v36,
    val_main_c, val_main_c_0, val_main_cst, val_main_cst_5, val_main_call0_v0, val_main_call0_v1]
  refine Fin.sum_fin_congr fun e => ?_
  refine (congrArg (· * _) ((kept_eq 32 (by decide) _ _ _).trans (if_congr Iff.rfl rfl Ideal.ofBits_zero_f32))).trans ?_
  refine share_own (by decide) _ _ _ _ fun h => (ctx_own x0 x2 b a e d h).trans ?_
  exact congrArg (fun i => x2 (ix3 e i d)) (Fin.ext (by unfold tokC; dsimp only; omega))

theorem ctx_resid (b : Fin 32) (a : Fin 256) (d : Fin 1024) :
    val_main_v51 (F := Ideal) x0 x1 x2 x3 x4 (ix3 b a d)
      = alpha * x3 (ix2 (tokC b a) d) + x4 (ix3 (InProj.request (tokC b a)) 5 d) * mixed x0 x1 x2 (tokC b a) d := by
  pointwise [val_main_v0, val_main_v1, val_main_v2, val_main_v37, val_main_v43, val_main_v44, val_main_v45,
    val_main_cst_6, val_main_v46, val_main_v47, val_main_v48, val_main_v49, val_main_v50, val_main_v51]
  refine congrArg₂ (fun u v : EReal => alpha * x3 _ + u * v) (ada_congr x4 ?_ ?_ d) (ctx_mixed x0 x1 x2 b a d)
  · unfold InProj.request tokC; dsimp only [Fin.coe_ofNat_eq_mod]; omega
  · dsimp only [Fin.coe_ofNat_eq_mod]; omega

theorem ctx_norm (b : Fin 32) (a : Fin 256) (d : Fin 1024) :
    val_main_v75 (F := Ideal) x0 x1 x2 x3 x4 x5 x6 (ix3 b a d)
      = layerNorm (fun k => val_main_v51 (F := Ideal) x0 x1 x2 x3 x4 (ix3 b a k)) (fun k => x5 (ix1 k)) (fun k => x6 (ix1 k)) d := by
  pointwise [val_main_cst_7, val_main_v52, val_main_v53, val_main_cst_8, val_main_v54, val_main_v55, val_main_v56,
    val_main_v57, val_main_v58, val_main_cst_9, val_main_v59, val_main_v60, val_main_cst_10, val_main_v61,
    val_main_v62, val_main_v63, val_main_v64, val_main_cst_11, val_main_v65, val_main_v66, val_main_v67,
    val_main_v68, val_main_v69, val_main_v70, val_main_v71, val_main_v72, val_main_v73, val_main_v74,
    val_main_v75]
  rfl

/-- The result row of a context token. -/
theorem ctx_row (b : Fin 32) (a : Fin 256) (d : Fin 1024) :
    val_main_v75 (F := Ideal) x0 x1 x2 x3 x4 x5 x6 (ix3 b a d) = outRow x0 x1 x2 x3 x4 x5 x6 (tokC b a) d := by
  rw [ctx_norm]
  simp only [ctx_resid]
  rfl

/-! ## The latents -/

/-- The token at a sequence and a position of the latents. -/
def tokL (b : Fin 2) (a : Fin 4096) : Fin 16384 := ⟨8192 + (b.val * 4096 + a.val), by omega⟩

/-- The row number that the reference computes for a latent token and an expert, where the slot is within the capacity. -/
theorem lat_index (k : Fin 131072) (r : Fin 16384) (e : Fin 16) (hr : r.val = 8192 + k.val / 65536 * 4096 + k.val / 16 % 4096)
    (he : e.val = k.val % 16) (h : (x0 (ix2 r e)).toNat < 512) :
    (val_main_call5_v0 (F := Ideal) x0 (ix2 k 0)).toInt.toNat
      = (e.val * 2 + k.val / 65536) * 512 + (x0 (ix2 r e)).toNat := by
  have hk := k.isLt
  have hel : k.val % 16 < 16 := by omega
  obtain rfl : e = ⟨k.val % 16, hel⟩ := Fin.ext he
  have hrl : 8192 + (k.val / 65536 * 4096 + k.val / 16 % 4096) < 16384 := by omega
  obtain rfl : r = ⟨8192 + (k.val / 65536 * 4096 + k.val / 16 % 4096), hrl⟩ := Fin.ext (by dsimp only; omega)
  pointwise [val_main_v81, val_main_v82, val_main_v91, val_main_v92, val_main_v93, val_main_v94, val_main_v95,
    val_main_v96, val_main_v97, val_main_v98, val_main_v99, val_main_v100, val_main_v101, val_main_v102, val_main_v103,
    val_main_v104, val_main_v105, val_main_c_15, val_main_c_16, val_main_c_17, val_main_c_18, val_main_call4_v0,
    val_main_call4_v1, val_main_call4_v2, val_main_call4_v3, val_main_call4_v4, val_main_call5_v0]
  exact (congrArg (fun w => (IntOp.addi _ w).toInt.toNat) (clip_eq 512 (by decide) _ 511#32 (by decide) h)).trans
    (row_word 2 512 _ _ _ (by omega))

/-- The gathered row of a latent token at an expert is that expert's row of the token's slot. -/
theorem lat_own (b : Fin 2) (a : Fin 4096) (e : Fin 16) (d : Fin 1024) (h : (x0 (ix2 (tokL b a) e)).toNat < 512) :
    val_main_v106 (F := Ideal) x0 x2 (ix2 ⟨b.val * 65536 + a.val * 16 + e.val, by omega⟩ d)
      = x2 (ix3 e ⟨1024 + b.val * 512 + (x0 (ix2 (tokL b a) e)).toNat, by omega⟩ d) := by
  unfold val_main_v106
  rw [gather_row _ _ _ _ ⟨(e.val * 2 + b.val) * 512 + (x0 (ix2 (tokL b a) e)).toNat, by omega⟩
    ((lat_index x0 _ (tokL b a) e (by unfold tokL; dsimp only; omega) (by dsimp only; omega) h).trans (by dsimp only; omega))]
  pointwise [val_main_v78, val_main_v79, val_main_v80]
  exact congrArg₂ (fun i j => x2 (ix3 i j d)) (Fin.ext (by dsimp only; omega)) (Fin.ext (by dsimp only; omega))

/-- The summed outputs of a latent token. -/
theorem lat_mixed (b : Fin 2) (a : Fin 4096) (d : Fin 1024) :
    val_main_v111 (F := Ideal) x0 x1 x2 (ix3 b a d) = mixed x0 x1 x2 (tokL b a) d := by
  rw [mixed_lat _ _ _ _ (by unfold tokL; dsimp only; omega)]
  pointwise [val_main_v81, val_main_v82, val_main_v83, val_main_v84, val_main_v85, val_main_v86, val_main_v87,
    val_main_v88, val_main_v89, val_main_v90, val_main_v107, val_main_v108, val_main_v109, val_main_v110,
    val_main_v111, val_main_c_12, val_main_c_13, val_main_cst_14, val_main_cst_19, val_main_call3_v0, val_main_call3_v1]
  refine Fin.sum_fin_congr fun e => ?_
  refine (congrArg (· * _) ((kept_eq 512 (by decide) _ _ _).trans (if_congr Iff.rfl rfl Ideal.ofBits_zero_f32))).trans ?_
  refine share_own (by decide) _ _ _ _ fun h => (lat_own x0 x2 b a e d h).trans ?_
  exact congrArg (fun i => x2 (ix3 e i d)) (Fin.ext (by unfold tokL; dsimp only; omega))

theorem lat_resid (b : Fin 2) (a : Fin 4096) (d : Fin 1024) :
    val_main_v125 (F := Ideal) x0 x1 x2 x3 x4 (ix3 b a d)
      = alpha * x3 (ix2 (tokL b a) d) + x4 (ix3 (InProj.request (tokL b a)) 5 d) * mixed x0 x1 x2 (tokL b a) d := by
  pointwise [val_main_v0, val_main_v77, val_main_v112, val_main_v118, val_main_v119, val_main_v120, val_main_cst_20,
    val_main_v121, val_main_v122, val_main_v123, val_main_v124, val_main_v125]
  refine congrArg₂ (fun u v : EReal => alpha * x3 _ + u * v) (ada_congr x4 ?_ ?_ d) (lat_mixed x0 x1 x2 b a d)
  · unfold InProj.request tokL; dsimp only [Fin.coe_ofNat_eq_mod]; omega
  · dsimp only [Fin.coe_ofNat_eq_mod]; omega

theorem lat_norm (b : Fin 2) (a : Fin 4096) (d : Fin 1024) :
    val_main_v149 (F := Ideal) x0 x1 x2 x3 x4 x5 x6 (ix3 b a d)
      = layerNorm (fun k => val_main_v125 (F := Ideal) x0 x1 x2 x3 x4 (ix3 b a k)) (fun k => x5 (ix1 k)) (fun k => x6 (ix1 k)) d := by
  pointwise [val_main_cst_21, val_main_v126, val_main_v127, val_main_cst_22, val_main_v128, val_main_v129, val_main_v130,
    val_main_v131, val_main_v132, val_main_cst_23, val_main_v133, val_main_v134, val_main_cst_24, val_main_v135,
    val_main_v136, val_main_v137, val_main_v138, val_main_cst_25, val_main_v139, val_main_v140, val_main_v141,
    val_main_v142, val_main_v143, val_main_v144, val_main_v145, val_main_v146, val_main_v147, val_main_v148,
    val_main_v149]
  rfl

/-- The result row of a latent token. -/
theorem lat_row (b : Fin 2) (a : Fin 4096) (d : Fin 1024) :
    val_main_v149 (F := Ideal) x0 x1 x2 x3 x4 x5 x6 (ix3 b a d) = outRow x0 x1 x2 x3 x4 x5 x6 (tokL b a) d := by
  rw [lat_norm]
  simp only [lat_resid]
  rfl

/-! ## The result -/

/-- The reference's result array. -/
theorem reference_out : (val_main_v151 (F := Ideal) x0 x1 x2 x3 x4 x5 x6 : S16384x1024.Idx → EReal)
    = fun i => outRow x0 x1 x2 x3 x4 x5 x6 (i 0) (i 1) := by
  funext i
  obtain ⟨r, d, rfl⟩ : ∃ (r : Fin 16384) (d : Fin 1024), i = ix2 r d := ⟨i 0, i 1, eq_ix2 i⟩
  pointwise [val_main_v151, val_main_v76, val_main_v150]
  split
  · rw [ctx_row]
    exact congrArg (outRow x0 x1 x2 x3 x4 x5 x6 · d) (Fin.ext (by unfold tokC; dsimp only; omega))
  · rw [lat_row]
    exact congrArg (outRow x0 x1 x2 x3 x4 x5 x6 · d) (Fin.ext (by unfold tokL; dsimp only; omega))

section
variable {x0 x1 x2 x3 x4 x5 x6}
variable {y0 : S16384x16.Idx → BitVec 32} {y1 : S16384x16.Idx → EReal} {y2 : S16x2048x1024.Idx → EReal}
  {y3 : S16384x1024.Idx → EReal} {y4 : S3x6x1024.Idx → EReal} {y5 y6 : S1024.Idx → EReal}

/-- The result for arguments that equal the kernel's. -/
theorem equal_out (e0 : x0 = y0) (e1 : x1 = y1) (e2 : x2 = y2) (e3 : x3 = y3) (e4 : x4 = y4) (e5 : x5 = y5) (e6 : x6 = y6) :
    (val_main_v151 (F := Ideal) x0 x1 x2 x3 x4 x5 x6 : S16384x1024.Idx → EReal)
      = fun i => outRow y0 y1 y2 y3 y4 y5 y6 (i 0) (i 1) := by
  subst e0 e1 e2 e3 e4 e5 e6
  exact reference_out _ _ _ _ _ _ _

end

instance : Subsingleton Cert.Pre_finite_gates.S_.Idx := ⟨fun a b => funext fun i => i.elim0⟩

/-- Gates that satisfy the precondition are real. -/
theorem real_of_gates [Cert.Pre_finite_gates.Facts]
    (h : Cert.Pre_finite_gates.fn (F := Ideal) x0 x1 x2 x3 x4 x5 x6 = fun _ => 1#1) : Real x1 := by
  intro i
  have hi := Host.reduce_andi_all _ _ _ _ _ (congrFun h (fun a => a.elim0)) i
  refine ⟨(x1 i).toReal, Retention.real_of_abs _ ?_⟩
  pointwise at hi
  rw [Retention.bound_top] at hi
  exact of_decide_eq_true (Retention.bit_true _ hi)

/-- The combining kernel's result array equals the reference's on real gates, at the extended reals. -/
theorem algebraic [Cert.Pre_finite_gates.Facts] : Cert.algebraic_Kernel6Ideal_Reference6Ideal_pre_finite_gates := by
  intro m ρ m' ρ' hpre hagree
  refine ⟨fun c => _, (θ_run Cert.Kernel6Ideal.defs _ _).mono (fun _ h c =>
    ⟨((h c).1).trans (final_out m c (real_of_gates _ _ _ _ _ _ _ (hpre c))), (h c).2⟩)
    (Cert.Kernel6Ideal.Value.run_blocks (F := Ideal) m ρ), ?_⟩
  refine (θ_run Cert.Reference6Ideal.defs _ _).mono (fun _ h c => ⟨(h c).1.trans ?_, (h c).2⟩)
    (Cert.Reference6Ideal.Value.run (F := Ideal) m' ρ')
  obtain ⟨e0, e1, e2, e3, e4, e5, e6⟩ := hagree c
  exact (val_main_v151_eq _).trans (equal_out e0 e1 e2 e3 e4 e5 e6)

end Cert.Combine

end
-- ==== Proof.lean ====
/-
  The certificate: the stated facts of every program, the frames, and the value claims of the modules under Proof/.
-/
module

public import proofs.«01_k».proof.Defs
public import proofs.«01_k».proof.Proof.Gen.Kernel.Frame
public import proofs.«01_k».proof.Proof.Gen.KernelIdeal.Frame
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Frame
public import proofs.«01_k».proof.Proof.Gen.Kernel4.Frame
public import proofs.«01_k».proof.Proof.Gen.Kernel4Ideal.Frame
public import proofs.«01_k».proof.Proof.Gen.Kernel5.Frame
public import proofs.«01_k».proof.Proof.Gen.Kernel5Ideal.Frame
public import proofs.«01_k».proof.Proof.Gen.Kernel6.Frame
public import proofs.«01_k».proof.Proof.Gen.Kernel6Ideal.Frame
public import proofs.«01_k».proof.Proof.Gen.Pre_finite_gates
public import proofs.«01_k».proof.Proof.Gen.Pre_finite
public import proofs.«01_k».proof.Proof.Frames
public import proofs.«01_k».proof.Proof.Expert
public import proofs.«01_k».proof.Proof.InProj
public import proofs.«01_k».proof.Proof.Retention
public import proofs.«01_k».proof.Proof.PostOdd
public import proofs.«01_k».proof.Proof.PostEven
public import proofs.«01_k».proof.Proof.Combine

@[expose] public section

noncomputable section

namespace Cert.Proof

/-- Every claim of the statement. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_finite.Gen.facts, Cert.Pre_finite_gates.Gen.facts,
  fun m ρ _ => Cert.Kernel.Gen.frame m ρ, fun m ρ _ => Cert.KernelIdeal.Gen.frame m ρ,
  fun m ρ _ => Cert.KernelIdeal.Gen.frame m ρ, Cert.Frames.retention, fun m ρ _ => Cert.Frames.retention m ρ trivial,
  fun m ρ _ => Cert.Kernel2.Gen.frame m ρ, fun m ρ _ => Cert.Kernel2Ideal.Gen.frame m ρ, Cert.Frames.expert,
  fun m ρ _ => Cert.Kernel3.Gen.frame m ρ, fun m ρ _ => Cert.Kernel3Ideal.Gen.frame m ρ, Cert.Frames.inProj,
  fun m ρ _ => Cert.Kernel4.Gen.frame m ρ, fun m ρ _ => Cert.Kernel4Ideal.Gen.frame m ρ, Cert.Frames.postOdd,
  fun m ρ _ => Cert.Kernel5.Gen.frame m ρ, fun m ρ _ => Cert.Kernel5Ideal.Gen.frame m ρ, Cert.Frames.postEven,
  fun m ρ _ => Cert.Kernel6.Gen.frame m ρ, fun m ρ _ => Cert.Kernel6Ideal.Gen.frame m ρ,
  fun m ρ _ => Cert.Kernel6Ideal.Gen.frame m ρ, Cert.Frames.combine, fun m ρ _ => Cert.Frames.combine m ρ trivial,
  trivial, Cert.Retention.algebraic, trivial, Cert.Expert.algebraic, trivial, Cert.InProj.algebraic,
  trivial, Cert.PostOdd.algebraic, trivial, Cert.PostEven.algebraic,
  trivial, Cert.Combine.algebraic⟩

end Cert.Proof

end
